-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4_2)) (v1 : (c : Dev Cert.KernelIdeal.nD) → Buf (Elt Ideal) ((c.tc : Thread Cert.KernelIdeal.nD Cert.KernelIdeal.τ).loc Cert.KernelIdeal.main_v4_3)) (v2 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_2) = v0 c
          ∧ r.2.mem ((c.tc : Thread Cert.KernelIdeal.nD Cert.KernelIdeal.τ).loc Cert.KernelIdeal.main_v4_3) = v1 c
          ∧ r.2.mem ((c.tc : Thread Cert.KernelIdeal.nD Cert.KernelIdeal.τ).loc Cert.KernelIdeal.main_v4_4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v1_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v1_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_v48) = v1 c
          ∧ r.2.mem ((c.tc : Thread Cert.Reference2Ideal.nD Cert.Reference2Ideal.τ).loc Cert.Reference2Ideal.main_v49) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v42) = v0 c
          ∧ r.2.mem ((c.tc : Thread Cert.Reference8Ideal.nD Cert.Reference8Ideal.τ).loc Cert.Reference8Ideal.main_v44) = v1 c
          ∧ r.2.mem ((c.tc : Thread Cert.Reference8Ideal.nD Cert.Reference8Ideal.τ).loc Cert.Reference8Ideal.main_v45) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v45) = v0 c
          ∧ r.2.mem ((c.tc : Thread Cert.Reference9Ideal.nD Cert.Reference9Ideal.τ).loc Cert.Reference9Ideal.main_v46) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v17) = v0 c
          ∧ r.2.mem ((c.tc : Thread Cert.Reference10Ideal.nD Cert.Reference10Ideal.τ).loc Cert.Reference10Ideal.main_v18) = v1 c
          ∧ r.2.mem ((c.tc : Thread Cert.Reference10Ideal.nD Cert.Reference10Ideal.τ).loc Cert.Reference10Ideal.main_v20) = v2 c
          ∧ r.2.mem ((c.tc : Thread Cert.Reference10Ideal.nD Cert.Reference10Ideal.τ).loc Cert.Reference10Ideal.main_v21) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v30) = v0 c
          ∧ r.2.mem ((c.tc : Thread Cert.Reference11Ideal.nD Cert.Reference11Ideal.τ).loc Cert.Reference11Ideal.main_v29) = v1 c
          ∧ r.2.mem ((c.tc : Thread Cert.Reference11Ideal.nD Cert.Reference11Ideal.τ).loc Cert.Reference11Ideal.main_v45) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)) (v4 : (c : Dev Cert.Kernel12Ideal.nD) → Buf (Elt Ideal) ((c.tc : Thread Cert.Kernel12Ideal.nD Cert.Kernel12Ideal.τ).loc Cert.Kernel12Ideal.main_v0_4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_v0_4) = v4 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v39) = v0 c
          ∧ r.2.mem ((c.tc : Thread Cert.Reference12Ideal.nD Cert.Reference12Ideal.τ).loc Cert.Reference12Ideal.main_v44) = v1 c
          ∧ r.2.mem ((c.tc : Thread Cert.Reference12Ideal.nD Cert.Reference12Ideal.τ).loc Cert.Reference12Ideal.main_v46) = v2 c
          ∧ r.2.mem ((c.tc : Thread Cert.Reference12Ideal.nD Cert.Reference12Ideal.τ).loc Cert.Reference12Ideal.main_v48) = v3 c
          ∧ r.2.mem ((c.tc : Thread Cert.Reference12Ideal.nD Cert.Reference12Ideal.τ).loc Cert.Reference12Ideal.main_v49) = v4 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== Kernel.lean ====
abbrev S4096x1024 : Shape := ⟨2, ![4096, 1024]⟩
abbrev S4096x768 : Shape := ⟨2, ![4096, 768]⟩
abbrev S1x512 : Shape := ⟨2, ![1, 512]⟩
abbrev S1x4x128x128 : Shape := ⟨4, ![1, 4, 128, 128]⟩
abbrev S1x4x128 : Shape := ⟨3, ![1, 4, 128]⟩
abbrev S1x8 : Shape := ⟨2, ![1, 8]⟩
abbrev S32x8 : Shape := ⟨2, ![32, 8]⟩
abbrev S128x256 : Shape := ⟨2, ![128, 256]⟩
abbrev S4x128 : Shape := ⟨2, ![4, 128]⟩
abbrev S4x128x1 : Shape := ⟨3, ![4, 128, 1]⟩
abbrev S_ : Shape := ⟨0, ![]⟩
abbrev S8x128 : Shape := ⟨2, ![8, 128]⟩
abbrev S4x128x128 : Shape := ⟨3, ![4, 128, 128]⟩
abbrev S512x1024 : Shape := ⟨2, ![512, 1024]⟩
abbrev S512x768 : Shape := ⟨2, ![512, 768]⟩
abbrev S128x768 : Shape := ⟨2, ![128, 768]⟩
abbrev S1024x256 : Shape := ⟨2, ![1024, 256]⟩
abbrev S1024x1 : Shape := ⟨2, ![1024, 1]⟩
abbrev S1x1 : Shape := ⟨2, ![1, 1]⟩
abbrev S128x1 : Shape := ⟨2, ![128, 1]⟩
abbrev S128x1024 : Shape := ⟨2, ![128, 1024]⟩
abbrev S128x128 : Shape := ⟨2, ![128, 128]⟩
abbrev S256x128 : Shape := ⟨2, ![256, 128]⟩
abbrev S128x512 : Shape := ⟨2, ![128, 512]⟩
abbrev S512x128 : Shape := ⟨2, ![512, 128]⟩
abbrev S512x256 : Shape := ⟨2, ![512, 256]⟩
abbrev S128 : Shape := ⟨1, ![128]⟩
abbrev S1x128x128 : Shape := ⟨3, ![1, 128, 128]⟩
abbrev S1x128x1 : Shape := ⟨3, ![1, 128, 1]⟩
abbrev S512x1 : Shape := ⟨2, ![512, 1]⟩
abbrev S512 : Shape := ⟨1, ![512]⟩
abbrev S1x128 : Shape := ⟨2, ![1, 128]⟩
abbrev S1 : Shape := ⟨1, ![1]⟩

abbrev nBuf : Space → Nat
  | .hbm => 21
  | .vmem => 26
  | .smem => 2
  | _ => 0

abbrev bufTy : (tb : Table) → Fin (tcTables nBuf tb) → BufTy
  | .hbm, ⟨0, _⟩ => ⟨S4096x1024, .f32⟩
  | .hbm, ⟨1, _⟩ => ⟨S4096x768, .bf16⟩
  | .hbm, ⟨2, _⟩ => ⟨S4096x1024, .f32⟩
  | .hbm, ⟨3, _⟩ => ⟨S1x512, .f32⟩
  | .hbm, ⟨4, _⟩ => ⟨S1x4x128x128, .f32⟩
  | .hbm, ⟨5, _⟩ => ⟨S1x4x128, .f32⟩
  | .hbm, ⟨6, _⟩ => ⟨S1x8, .f32⟩
  | .hbm, ⟨7, _⟩ => ⟨S32x8, .f32⟩
  | .hbm, ⟨8, _⟩ => ⟨S128x256, .i32⟩
  | .hbm, ⟨9, _⟩ => ⟨S4x128, .f32⟩
  | .hbm, ⟨10, _⟩ => ⟨S4x128x1, .f32⟩
  | .hbm, ⟨11, _⟩ => ⟨S_, .f32⟩
  | .hbm, ⟨12, _⟩ => ⟨S8x128, .f32⟩
  | .hbm, ⟨13, _⟩ => ⟨S4x128x128, .f32⟩
  | .hbm, ⟨14, _⟩ => ⟨S4096x1024, .bf16⟩
  | .hbm, ⟨15, _⟩ => ⟨S4096x768, .bf16⟩
  | .hbm, ⟨16, _⟩ => ⟨S4x128x128, .f32⟩
  | .hbm, ⟨17, _⟩ => ⟨S4x128x1, .f32⟩
  | .hbm, ⟨18, _⟩ => ⟨S1x512, .f32⟩
  | .hbm, ⟨19, _⟩ => ⟨S8x128, .f32⟩
  | .hbm, ⟨20, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x768, .bf16⟩
  | .local _ .vmem, ⟨3, _⟩ => ⟨S512x768, .bf16⟩
  | .local _ .vmem, ⟨4, _⟩ => ⟨S128x768, .bf16⟩
  | .local _ .vmem, ⟨5, _⟩ => ⟨S128x768, .bf16⟩
  | .local _ .vmem, ⟨6, _⟩ => ⟨S512x1024, .f32⟩
  | .local _ .vmem, ⟨7, _⟩ => ⟨S512x1024, .f32⟩
  | .local _ .vmem, ⟨8, _⟩ => ⟨S1x512, .f32⟩
  | .local _ .vmem, ⟨9, _⟩ => ⟨S4x128x128, .f32⟩
  | .local _ .vmem, ⟨10, _⟩ => ⟨S4x128x1, .f32⟩
  | .local _ .vmem, ⟨11, _⟩ => ⟨S128x256, .i32⟩
  | .local _ .vmem, ⟨12, _⟩ => ⟨S512x1024, .bf16⟩
  | .local _ .vmem, ⟨13, _⟩ => ⟨S512x1024, .bf16⟩
  | .local _ .vmem, ⟨14, _⟩ => ⟨S512x768, .bf16⟩
  | .local _ .vmem, ⟨15, _⟩ => ⟨S512x768, .bf16⟩
  | .local _ .vmem, ⟨16, _⟩ => ⟨S4x128x128, .f32⟩
  | .local _ .vmem, ⟨17, _⟩ => ⟨S4x128x1, .f32⟩
  | .local _ .vmem, ⟨18, _⟩ => ⟨S1x512, .f32⟩
  | .local _ .vmem, ⟨19, _⟩ => ⟨S8x128, .f32⟩
  | .local _ .vmem, ⟨20, _⟩ => ⟨S8x128, .f32⟩
  | .local _ .vmem, ⟨21, _⟩ => ⟨S1024x256, .f32⟩
  | .local _ .vmem, ⟨22, _⟩ => ⟨S1024x1, .f32⟩
  | .local _ .vmem, ⟨23, _⟩ => ⟨S1024x256, .f32⟩
  | .local _ .vmem, ⟨24, _⟩ => ⟨S1024x1, .f32⟩
  | .local _ .vmem, ⟨25, _⟩ => ⟨S128x256, .f32⟩
  | .local _ .smem, ⟨0, _⟩ => ⟨S1x8, .f32⟩
  | .local _ .smem, ⟨1, _⟩ => ⟨S32x8, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v4_4 : Ref sig .tc := ⟨.hbm, 18, rfl⟩
abbrev main_v4_5 : Ref sig .tc := ⟨.hbm, 19, rfl⟩
abbrev main_v4_6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_stg7_0 : Ref sig .tc := ⟨.smem, 0, rfl⟩
abbrev cc0_stg8_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond3 (i : grid0.Coords) : BitVec 1 :=
  let arg0 : BitVec 32 := BitVec.ofNat 32 (i 0).val
  let c1_i32_1349 : BitVec 32 := 1#32
  let v3314 : BitVec 1 := Scalar.cmpi .eq arg0 c1_i32_1349
  let arg1 : BitVec 32 := BitVec.ofNat 32 (i 1).val
  let c3_i32_1350 : BitVec 32 := 3#32
  let v3315 : BitVec 1 := Scalar.cmpi .eq arg1 c3_i32_1350
  let v3316 : BitVec 1 := Scalar.andi v3314 v3315
  let v3317 : BitVec 32 := Scalar.extui v3316
  let c0_i32_1351 : BitVec 32 := 0#32
  let v3318 : BitVec 1 := Scalar.cmpi .ne v3317 c0_i32_1351
  v3318

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c3_i32 : BitVec 32 := 3#32
  let v1 : BitVec 32 := Scalar.subi c3_i32 arg1
  let c4_i32 : BitVec 32 := 4#32
  let v2 : BitVec 32 := Scalar.muli c4_i32 v1
  let c1_i32 : BitVec 32 := 1#32
  let v3 : BitVec 32 := Scalar.subi v2 c1_i32
  let c0_i32 : BitVec 32 := 0#32
  let v4 : BitVec 32 := Scalar.maxsi v3 c0_i32
  let v5 : BitVec 32 := Scalar.addi v0 v4
  let c0_i32_0 : BitVec 32 := 0#32
  let c0_i32_1 : BitVec 32 := 0#32
  ![v5.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .smem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .smem S32x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x256 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S4x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4x128x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== ReferenceIdeal.lean ====
abbrev S4096x1024 : Shape := ⟨2, ![4096, 1024]⟩
abbrev S4096x768 : Shape := ⟨2, ![4096, 768]⟩
abbrev S1x512 : Shape := ⟨2, ![1, 512]⟩
abbrev S1x4x128x128 : Shape := ⟨4, ![1, 4, 128, 128]⟩
abbrev S1x4x128 : Shape := ⟨3, ![1, 4, 128]⟩
abbrev S1x8 : Shape := ⟨2, ![1, 8]⟩
abbrev S32x8 : Shape := ⟨2, ![32, 8]⟩
abbrev S2x2048x1024 : Shape := ⟨3, ![2, 2048, 1024]⟩
abbrev S2x2048x512 : Shape := ⟨3, ![2, 2048, 512]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S2x2048 : Shape := ⟨2, ![2, 2048]⟩
abbrev S2x2048x1 : Shape := ⟨3, ![2, 2048, 1]⟩
abbrev S1x1x512 : Shape := ⟨3, ![1, 1, 512]⟩
abbrev S2x16x128x4x128 : Shape := ⟨5, ![2, 16, 128, 4, 128]⟩
abbrev S128x128 : Shape := ⟨2, ![128, 128]⟩
abbrev S1x128x128 : Shape := ⟨3, ![1, 128, 128]⟩
abbrev S4x2x16x128x128 : Shape := ⟨5, ![4, 2, 16, 128, 128]⟩
abbrev S128x4 : Shape := ⟨2, ![128, 4]⟩
abbrev S1x1x128x4x1 : Shape := ⟨5, ![1, 1, 128, 4, 1]⟩
abbrev S4x128x1 : Shape := ⟨3, ![4, 128, 1]⟩

abbrev nBuf : Space → Nat
  | .hbm => 112
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x768, .bf16⟩
  | .hbm, ⟨2, _⟩ => ⟨S4096x1024, .f32⟩
  | .hbm, ⟨3, _⟩ => ⟨S1x512, .f32⟩
  | .hbm, ⟨4, _⟩ => ⟨S1x4x128x128, .f32⟩
  | .hbm, ⟨5, _⟩ => ⟨S1x4x128, .f32⟩
  | .hbm, ⟨6, _⟩ => ⟨S1x8, .f32⟩
  | .hbm, ⟨7, _⟩ => ⟨S32x8, .f32⟩
  | .hbm, ⟨8, _⟩ => ⟨S2x2048x1024, .f32⟩
  | .hbm, ⟨9, _⟩ => ⟨S2x2048x512, .f32⟩
  | .hbm, ⟨10, _⟩ => ⟨S2x2048x512, .f32⟩
  | .hbm, ⟨11, _⟩ => ⟨S2x2048x1024, .f32⟩
  | .hbm, ⟨12, _⟩ => ⟨S2x2048x512, .f32⟩
  | .hbm, ⟨13, _⟩ => ⟨S512, .f32⟩
  | .hbm, ⟨14, _⟩ => ⟨S4x128x128, .f32⟩
  | .hbm, ⟨15, _⟩ => ⟨S4x128, .f32⟩
  | .hbm, ⟨16, _⟩ => ⟨S2x2048x512, .f32⟩
  | .hbm, ⟨17, _⟩ => ⟨S2x2048x512, .f32⟩
  | .hbm, ⟨18, _⟩ => ⟨S_, .f32⟩
  | .hbm, ⟨19, _⟩ => ⟨S2x2048x512, .f32⟩
  | .hbm, ⟨20, _⟩ => ⟨S2x2048x512, .f32⟩
  | .hbm, ⟨21, _⟩ => ⟨S2x2048x512, .f32⟩
  | .hbm, ⟨22, _⟩ => ⟨S_, .f32⟩
  | .hbm, ⟨23, _⟩ => ⟨S2x2048x512, .f32⟩
  | .hbm, ⟨24, _⟩ => ⟨S2x2048x512, .f32⟩
  | .hbm, ⟨25, _⟩ => ⟨S2x2048x512, .f32⟩
  | .hbm, ⟨26, _⟩ => ⟨S_, .f32⟩
  | .hbm, ⟨27, _⟩ => ⟨S2x2048x512, .f32⟩
  | .hbm, ⟨28, _⟩ => ⟨S2x2048x512, .f32⟩
  | .hbm, ⟨29, _⟩ => ⟨S_, .f32⟩
  | .hbm, ⟨30, _⟩ => ⟨S2x2048x512, .f32⟩
  | .hbm, ⟨31, _⟩ => ⟨S2x2048x512, .f32⟩
  | .hbm, ⟨32, _⟩ => ⟨S2x2048x512, .f32⟩
  | .hbm, ⟨33, _⟩ => ⟨S2x2048x512, .f32⟩
  | .hbm, ⟨34, _⟩ => ⟨S2x2048x512, .f32⟩
  | .hbm, ⟨35, _⟩ => ⟨S_, .f32⟩
  | .hbm, ⟨36, _⟩ => ⟨S2x2048x512, .f32⟩
  | .hbm, ⟨37, _⟩ => ⟨S2x2048x512, .f32⟩
  | .hbm, ⟨38, _⟩ => ⟨S2x2048x512, .f32⟩
  | .hbm, ⟨39, _⟩ => ⟨S_, .f32⟩
  | .hbm, ⟨40, _⟩ => ⟨S2x2048x512, .f32⟩
  | .hbm, ⟨41, _⟩ => ⟨S2x2048x512, .f32⟩
  | .hbm, ⟨42, _⟩ => ⟨S2x2048x512, .f32⟩
  | .hbm, ⟨43, _⟩ => ⟨S_, .f32⟩
  | .hbm, ⟨44, _⟩ => ⟨S2x2048x512, .f32⟩
  | .hbm, ⟨45, _⟩ => ⟨S2x2048x512, .f32⟩
  | .hbm, ⟨46, _⟩ => ⟨S_, .f32⟩
  | .hbm, ⟨47, _⟩ => ⟨S2x2048x512, .f32⟩
  | .hbm, ⟨48, _⟩ => ⟨S2x2048x512, .f32⟩
  | .hbm, ⟨49, _⟩ => ⟨S2x2048x512, .f32⟩
  | .hbm, ⟨50, _⟩ => ⟨S2x2048x512, .f32⟩
  | .hbm, ⟨51, _⟩ => ⟨S_, .f32⟩
  | .hbm, ⟨52, _⟩ => ⟨S2x2048, .f32⟩
  | .hbm, ⟨53, _⟩ => ⟨S2x2048x1, .f32⟩
  | .hbm, ⟨54, _⟩ => ⟨S_, .f32⟩
  | .hbm, ⟨55, _⟩ => ⟨S2x2048x1, .f32⟩
  | .hbm, ⟨56, _⟩ => ⟨S2x2048x1, .f32⟩
  | .hbm, ⟨57, _⟩ => ⟨S_, .f32⟩
  | .hbm, ⟨58, _⟩ => ⟨S2x2048x1, .f32⟩
  | .hbm, ⟨59, _⟩ => ⟨S2x2048x1, .f32⟩
  | .hbm, ⟨60, _⟩ => ⟨S2x2048x1, .f32⟩
  | .hbm, ⟨61, _⟩ => ⟨S2x2048x512, .f32⟩
  | .hbm, ⟨62, _⟩ => ⟨S2x2048x512, .f32⟩
  | .hbm, ⟨63, _⟩ => ⟨S1x1x512, .f32⟩
  | .hbm, ⟨64, _⟩ => ⟨S2x2048x512, .f32⟩
  | .hbm, ⟨65, _⟩ => ⟨S2x2048x512, .f32⟩
  | .hbm, ⟨66, _⟩ => ⟨S2x16x128x4x128, .f32⟩
  | .hbm, ⟨67, _⟩ => ⟨S_, .f32⟩
  | .hbm, ⟨68, _⟩ => ⟨S128x128, .f32⟩
  | .hbm, ⟨69, _⟩ => ⟨S128x128, .i32⟩
  | .hbm, ⟨70, _⟩ => ⟨S_, .i32⟩
  | .hbm, ⟨71, _⟩ => ⟨S128x128, .i32⟩
  | .hbm, ⟨72, _⟩ => ⟨S128x128, .i32⟩
  | .hbm, ⟨73, _⟩ => ⟨S128x128, .i32⟩
  | .hbm, ⟨74, _⟩ => ⟨S128x128, .i1⟩
  | .hbm, ⟨75, _⟩ => ⟨S_, .f32⟩
  | .hbm, ⟨76, _⟩ => ⟨S128x128, .f32⟩
  | .hbm, ⟨77, _⟩ => ⟨S128x128, .f32⟩
  | .hbm, ⟨78, _⟩ => ⟨S1x128x128, .f32⟩
  | .hbm, ⟨79, _⟩ => ⟨S4x128x128, .f32⟩
  | .hbm, ⟨80, _⟩ => ⟨S4x128x128, .f32⟩
  | .hbm, ⟨81, _⟩ => ⟨S4x2x16x128x128, .f32⟩
  | .hbm, ⟨82, _⟩ => ⟨S2x16x128x4x128, .f32⟩
  | .hbm, ⟨83, _⟩ => ⟨S128x4, .f32⟩
  | .hbm, ⟨84, _⟩ => ⟨S1x1x128x4x1, .f32⟩
  | .hbm, ⟨85, _⟩ => ⟨S2x16x128x4x128, .f32⟩
  | .hbm, ⟨86, _⟩ => ⟨S2x16x128x4x128, .f32⟩
  | .hbm, ⟨87, _⟩ => ⟨S2x2048x512, .f32⟩
  | .hbm, ⟨88, _⟩ => ⟨S2x2048x512, .f32⟩
  | .hbm, ⟨89, _⟩ => ⟨S2x2048x512, .f32⟩
  | .hbm, ⟨90, _⟩ => ⟨S2x16x128x4x128, .f32⟩
  | .hbm, ⟨91, _⟩ => ⟨S_, .f32⟩
  | .hbm, ⟨92, _⟩ => ⟨S128x4, .f32⟩
  | .hbm, ⟨93, _⟩ => ⟨S1x1x128x4x1, .f32⟩
  | .hbm, ⟨94, _⟩ => ⟨S_, .f32⟩
  | .hbm, ⟨95, _⟩ => ⟨S128x4, .f32⟩
  | .hbm, ⟨96, _⟩ => ⟨S4x128, .f32⟩
  | .hbm, ⟨97, _⟩ => ⟨S4x2x16x128x128, .f32⟩
  | .hbm, ⟨98, _⟩ => ⟨S4x128x128, .f32⟩
  | .hbm, ⟨99, _⟩ => ⟨S4x2x16x128x128, .f32⟩
  | .hbm, ⟨100, _⟩ => ⟨S2x16x128x4x128, .f32⟩
  | .hbm, ⟨101, _⟩ => ⟨S4x128x128, .f32⟩
  | .hbm, ⟨102, _⟩ => ⟨S4x128x128, .f32⟩
  | .hbm, ⟨103, _⟩ => ⟨S2x2048x512, .f32⟩
  | .hbm, ⟨104, _⟩ => ⟨S2x2048x512, .f32⟩
  | .hbm, ⟨105, _⟩ => ⟨S_, .f32⟩
  | .hbm, ⟨106, _⟩ => ⟨S512, .f32⟩
  | .hbm, ⟨107, _⟩ => ⟨S1x1x512, .f32⟩
  | .hbm, ⟨108, _⟩ => ⟨S_, .f32⟩
  | .hbm, ⟨109, _⟩ => ⟨S512, .f32⟩
  | .hbm, ⟨110, _⟩ => ⟨S4x128x1, .f32⟩
  | .hbm, ⟨111, _⟩ => ⟨S1x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_call0_v0 : Ref sig .tc := ⟨.hbm, 69, rfl⟩
abbrev main_call0_c : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_cst : Ref sig .tc := ⟨.hbm, 75, rfl⟩
abbrev main_call0_v5 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_11 : Ref sig .tc := ⟨.hbm, 91, rfl⟩
abbrev main_v63 : Ref sig .tc := ⟨.hbm, 92, rfl⟩
abbrev main_v64 : Ref sig .tc := ⟨.hbm, 93, rfl⟩
abbrev main_cst_12 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_13 : Ref sig .tc := ⟨.hbm, 105, rfl⟩
abbrev main_v75 : Ref sig .tc := ⟨.hbm, 106, rfl⟩
abbrev main_v76 : Ref sig .tc := ⟨.hbm, 107, rfl⟩
abbrev main_cst_14 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩

abbrev nD : Nat := 1
abbrev τ : Topo := Topo.v7x

variable {F : FTy → Type} [FloatOps F]
-- ==== Kernel2.lean ====
abbrev S4096x1024 : Shape := ⟨2, ![4096, 1024]⟩
abbrev S4096x2048 : Shape := ⟨2, ![4096, 2048]⟩
abbrev S1024x1024 : Shape := ⟨2, ![1024, 1024]⟩
abbrev S_ : Shape := ⟨0, ![]⟩
abbrev S8x128 : Shape := ⟨2, ![8, 128]⟩
abbrev S512x1024 : Shape := ⟨2, ![512, 1024]⟩
abbrev S512x2048 : Shape := ⟨2, ![512, 2048]⟩
abbrev S2 : Shape := ⟨1, ![2]⟩
abbrev S1 : Shape := ⟨1, ![1]⟩
abbrev S512x512 : Shape := ⟨2, ![512, 512]⟩
abbrev S1024x512 : Shape := ⟨2, ![1024, 512]⟩

abbrev nBuf : Space → Nat
  | .hbm => 10
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x2048, .f32⟩
  | .hbm, ⟨3, _⟩ => ⟨S1024x1024, .bf16⟩
  | .hbm, ⟨4, _⟩ => ⟨S1024x1024, .bf16⟩
  | .hbm, ⟨5, _⟩ => ⟨S_, .f32⟩
  | .hbm, ⟨6, _⟩ => ⟨S8x128, .f32⟩
  | .hbm, ⟨7, _⟩ => ⟨S4096x2048, .bf16⟩
  | .hbm, ⟨8, _⟩ => ⟨S4096x2048, .bf16⟩
  | .hbm, ⟨9, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x1024, .f32⟩
  | .local _ .vmem, ⟨11, _⟩ => ⟨S512x1024, .f32⟩
  | .local _ .vmem, ⟨12, _⟩ => ⟨S1024x1024, .bf16⟩
  | .local _ .vmem, ⟨13, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S4096x1024 : Shape := ⟨2, ![4096, 1024]⟩
abbrev S4096x2048 : Shape := ⟨2, ![4096, 2048]⟩
abbrev S1024x1024 : Shape := ⟨2, ![1024, 1024]⟩
abbrev S4096x512 : Shape := ⟨2, ![4096, 512]⟩
abbrev S1024x512 : Shape := ⟨2, ![1024, 512]⟩
abbrev S512x1024 : Shape := ⟨2, ![512, 1024]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x2048, .f32⟩
  | .hbm, ⟨3, _⟩ => ⟨S1024x1024, .bf16⟩
  | .hbm, ⟨4, _⟩ => ⟨S1024x1024, .bf16⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S4096x512, .f32⟩
  | .hbm, ⟨10, _⟩ => ⟨S4096x512, .f32⟩
  | .hbm, ⟨11, _⟩ => ⟨S4096x1024, .f32⟩
  | .hbm, ⟨12, _⟩ => ⟨S4096x1024, .f32⟩
  | .hbm, ⟨13, _⟩ => ⟨S1024x512, .f32⟩
  | .hbm, ⟨14, _⟩ => ⟨S512x1024, .f32⟩
  | .hbm, ⟨15, _⟩ => ⟨S1024x512, .f32⟩
  | .hbm, ⟨16, _⟩ => ⟨S512x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x512, .f32⟩
  | .hbm, ⟨55, _⟩ => ⟨S4096x512, .f32⟩
  | .hbm, ⟨56, _⟩ => ⟨S4096x2048, .f32⟩
  | .hbm, ⟨57, _⟩ => ⟨S4096x2048, .bf16⟩
  | .hbm, ⟨58, _⟩ => ⟨S4096x2048, .f32⟩
  | .hbm, ⟨59, _⟩ => ⟨S4096x2048, .bf16⟩
  | .hbm, ⟨60, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩

abbrev nD : Nat := 1
abbrev τ : Topo := Topo.v7x

variable {F : FTy → Type} [FloatOps F]
-- ==== Kernel3.lean ====
abbrev S4096x5632 : Shape := ⟨2, ![4096, 5632]⟩
abbrev S4096x1024 : Shape := ⟨2, ![4096, 1024]⟩
abbrev S5632x1024 : Shape := ⟨2, ![5632, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S5632x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c11_i32 : BitVec 32 := 11#32
  let v1 : BitVec 1 := Scalar.cmpi .slt arg0 c11_i32
  let v2 : BitVec 1 := Scalar.andi v0 v1
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c10_i32 : BitVec 32 := 10#32
  let v1 : BitVec 32 := Scalar.maxsi c0_i32_0 v0
  let v2 : BitVec 32 := Scalar.minsi c10_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S4096x5632 : Shape := ⟨2, ![4096, 5632]⟩
abbrev S4096x1024 : Shape := ⟨2, ![4096, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S4096x5632, .f32⟩
  | .hbm, ⟨3, _⟩ => ⟨S4096x1024, .f32⟩
  | .hbm, ⟨4, _⟩ => ⟨S_, .f32⟩
  | .hbm, ⟨5, _⟩ => ⟨S1024x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S4096x1024 : Shape := ⟨2, ![4096, 1024]⟩
abbrev S4096x768 : Shape := ⟨2, ![4096, 768]⟩
abbrev S4096x2048 : Shape := ⟨2, ![4096, 2048]⟩
abbrev S3840x1024 : Shape := ⟨2, ![3840, 1024]⟩
abbrev S4096x256 : Shape := ⟨2, ![4096, 256]⟩
abbrev S256x1024 : Shape := ⟨2, ![256, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S4096x768, .bf16⟩
  | .hbm, ⟨2, _⟩ => ⟨S4096x2048, .bf16⟩
  | .hbm, ⟨3, _⟩ => ⟨S4096x1024, .bf16⟩
  | .hbm, ⟨4, _⟩ => ⟨S3840x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x1024, .bf16⟩
  | .local _ .vmem, ⟨7, _⟩ => ⟨S256x1024, .bf16⟩
  | .local _ .vmem, ⟨8, _⟩ => ⟨S256x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![15], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c4_i32 : BitVec 32 := 4#32
  let v1 : BitVec 1 := Scalar.cmpi .slt arg0 c4_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c4_i32_1 : BitVec 32 := 4#32
  let v5 : BitVec 1 := Scalar.cmpi .sge arg0 c4_i32_1
  let c7_i32 : BitVec 32 := 7#32
  let v6 : BitVec 1 := Scalar.cmpi .slt arg0 c7_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c7_i32_3 : BitVec 32 := 7#32
  let v10 : BitVec 1 := Scalar.cmpi .sge arg0 c7_i32_3
  let c15_i32 : BitVec 32 := 15#32
  let v11 : BitVec 1 := Scalar.cmpi .slt arg0 c15_i32
  let v12 : BitVec 1 := Scalar.andi v10 v11
  let v13 : BitVec 32 := Scalar.extui v12
  let c0_i32_4 : BitVec 32 := 0#32
  let v14 : BitVec 1 := Scalar.cmpi .ne v13 c0_i32_4
  v14

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let c7_i32 : BitVec 32 := 7#32
  let v0 : BitVec 32 := Scalar.subi arg0 c7_i32
  let c0_i32 : BitVec 32 := 0#32
  let c7_i32_0 : BitVec 32 := 7#32
  let v1 : BitVec 32 := Scalar.maxsi c0_i32 v0
  let v2 : BitVec 32 := Scalar.minsi c7_i32_0 v1
  let c0_i32_1 : BitVec 32 := 0#32
  let c0_i32_2 : BitVec 32 := 0#32
  ![c0_i32_1.toNat, v2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S4096x1024 : Shape := ⟨2, ![4096, 1024]⟩
abbrev S4096x768 : Shape := ⟨2, ![4096, 768]⟩
abbrev S4096x2048 : Shape := ⟨2, ![4096, 2048]⟩
abbrev S4096x3840 : Shape := ⟨2, ![4096, 3840]⟩
abbrev S_ : Shape := ⟨0, ![]⟩
abbrev S1024x3840 : Shape := ⟨2, ![1024, 3840]⟩
abbrev S3840x1024 : Shape := ⟨2, ![3840, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x768, .bf16⟩
  | .hbm, ⟨2, _⟩ => ⟨S4096x2048, .bf16⟩
  | .hbm, ⟨3, _⟩ => ⟨S4096x1024, .bf16⟩
  | .hbm, ⟨4, _⟩ => ⟨S4096x1024, .f32⟩
  | .hbm, ⟨5, _⟩ => ⟨S4096x768, .f32⟩
  | .hbm, ⟨6, _⟩ => ⟨S4096x2048, .f32⟩
  | .hbm, ⟨7, _⟩ => ⟨S4096x3840, .f32⟩
  | .hbm, ⟨8, _⟩ => ⟨S4096x1024, .f32⟩
  | .hbm, ⟨9, _⟩ => ⟨S_, .f32⟩
  | .hbm, ⟨10, _⟩ => ⟨S1024x3840, .f32⟩
  | .hbm, ⟨11, _⟩ => ⟨S4096x3840, .f32⟩
  | .hbm, ⟨12, _⟩ => ⟨S3840x1024, .f32⟩
  | .hbm, ⟨13, _⟩ => ⟨S1024x3840, .f32⟩
  | .hbm, ⟨14, _⟩ => ⟨S3840x1024, .f32⟩
  | .hbm, ⟨15, _⟩ => ⟨S3840x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel5.lean ====
abbrev S4096x2048 : Shape := ⟨2, ![4096, 2048]⟩
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S4096x1024, .bf16⟩
  | .local _ .vmem, ⟨5, _⟩ => ⟨S512x1024, .bf16⟩
  | .local _ .vmem, ⟨6, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S4096x2048 : Shape := ⟨2, ![4096, 2048]⟩
abbrev S4096x1024 : Shape := ⟨2, ![4096, 1024]⟩
abbrev S4096x512 : Shape := ⟨2, ![4096, 512]⟩
abbrev S_ : Shape := ⟨0, ![]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x1024, .bf16⟩
  | .hbm, ⟨3, _⟩ => ⟨S4096x512, .bf16⟩
  | .hbm, ⟨4, _⟩ => ⟨S4096x1024, .f32⟩
  | .hbm, ⟨5, _⟩ => ⟨S4096x512, .f32⟩
  | .hbm, ⟨6, _⟩ => ⟨S_, .f32⟩
  | .hbm, ⟨7, _⟩ => ⟨S512x1024, .f32⟩
  | .hbm, ⟨8, _⟩ => ⟨S4096x1024, .f32⟩
  | .hbm, ⟨9, _⟩ => ⟨S1024x512, .f32⟩
  | .hbm, ⟨10, _⟩ => ⟨S512x1024, .f32⟩
  | .hbm, ⟨11, _⟩ => ⟨S1024x512, .f32⟩
  | .hbm, ⟨12, _⟩ => ⟨S1024x512, .bf16⟩
  | .hbm, ⟨13, _⟩ => ⟨S1024x512, .f32⟩
  | .hbm, ⟨14, _⟩ => ⟨S4096x1024, .bf16⟩
  | .hbm, ⟨15, _⟩ => ⟨S4096x512, .bf16⟩
  | .hbm, ⟨16, _⟩ => ⟨S4096x1024, .f32⟩
  | .hbm, ⟨17, _⟩ => ⟨S4096x512, .f32⟩
  | .hbm, ⟨18, _⟩ => ⟨S_, .f32⟩
  | .hbm, ⟨19, _⟩ => ⟨S512x1024, .f32⟩
  | .hbm, ⟨20, _⟩ => ⟨S4096x1024, .f32⟩
  | .hbm, ⟨21, _⟩ => ⟨S1024x512, .f32⟩
  | .hbm, ⟨22, _⟩ => ⟨S512x1024, .f32⟩
  | .hbm, ⟨23, _⟩ => ⟨S1024x512, .f32⟩
  | .hbm, ⟨24, _⟩ => ⟨S1024x512, .bf16⟩
  | .hbm, ⟨25, _⟩ => ⟨S1024x512, .f32⟩
  | .hbm, ⟨26, _⟩ => ⟨S1024x1024, .f32⟩
  | .hbm, ⟨27, _⟩ => ⟨S1024x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩

abbrev nD : Nat := 1
abbrev τ : Topo := Topo.v7x

variable {F : FTy → Type} [FloatOps F]
-- ==== Kernel6.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c11_i32 : BitVec 32 := 11#32
  let v1 : BitVec 1 := Scalar.cmpi .slt arg0 c11_i32
  let v2 : BitVec 1 := Scalar.andi v0 v1
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c10_i32 : BitVec 32 := 10#32
  let v1 : BitVec 32 := Scalar.maxsi c0_i32_0 v0
  let v2 : BitVec 32 := Scalar.minsi c10_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x5632 : Shape := ⟨2, ![4096, 5632]⟩
abbrev S4096x1024 : Shape := ⟨2, ![4096, 1024]⟩
abbrev S1x1024 : Shape := ⟨2, ![1, 1024]⟩
abbrev S5632x1024 : Shape := ⟨2, ![5632, 1024]⟩
abbrev S512x5632 : Shape := ⟨2, ![512, 5632]⟩
abbrev S512x1024 : Shape := ⟨2, ![512, 1024]⟩
abbrev S1 : Shape := ⟨1, ![1]⟩
abbrev S_ : Shape := ⟨0, ![]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S5632x1024, .bf16⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S5632x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S4096x5632 : Shape := ⟨2, ![4096, 5632]⟩
abbrev S4096x1024 : Shape := ⟨2, ![4096, 1024]⟩
abbrev S1x1024 : Shape := ⟨2, ![1, 1024]⟩
abbrev S5632x1024 : Shape := ⟨2, ![5632, 1024]⟩
abbrev S1024x5632 : Shape := ⟨2, ![1024, 5632]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 60
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S5632x1024, .bf16⟩
  | .hbm, ⟨5, _⟩ => ⟨S5632x1024, .f32⟩
  | .hbm, ⟨6, _⟩ => ⟨S1024x5632, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x5632, .f32⟩
  | .hbm, ⟨29, _⟩ => ⟨S4096x5632, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .bf16⟩
  | .hbm, ⟨59, _⟩ => ⟨S1x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Kernel9.lean ====
abbrev S4096x1024 : Shape := ⟨2, ![4096, 1024]⟩
abbrev S4096x768 : Shape := ⟨2, ![4096, 768]⟩
abbrev S4096x2048 : Shape := ⟨2, ![4096, 2048]⟩
abbrev S1x1024 : Shape := ⟨2, ![1, 1024]⟩
abbrev S3840x1024 : Shape := ⟨2, ![3840, 1024]⟩
abbrev S_ : Shape := ⟨0, ![]⟩
abbrev S8x128 : Shape := ⟨2, ![8, 128]⟩
abbrev S512x1024 : Shape := ⟨2, ![512, 1024]⟩
abbrev S512x768 : Shape := ⟨2, ![512, 768]⟩
abbrev S512x2048 : Shape := ⟨2, ![512, 2048]⟩
abbrev S1 : Shape := ⟨1, ![1]⟩
abbrev S1024x1024 : Shape := ⟨2, ![1024, 1024]⟩
abbrev S768x1024 : Shape := ⟨2, ![768, 1024]⟩
abbrev S2048x1024 : Shape := ⟨2, ![2048, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S4096x768, .bf16⟩
  | .hbm, ⟨2, _⟩ => ⟨S4096x2048, .bf16⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S3840x1024, .bf16⟩
  | .hbm, ⟨7, _⟩ => ⟨S_, .f32⟩
  | .hbm, ⟨8, _⟩ => ⟨S8x128, .f32⟩
  | .hbm, ⟨9, _⟩ => ⟨S4096x1024, .f32⟩
  | .hbm, ⟨10, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x768, .bf16⟩
  | .local _ .vmem, ⟨3, _⟩ => ⟨S512x768, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S3840x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference9Ideal.lean ====
abbrev S4096x1024 : Shape := ⟨2, ![4096, 1024]⟩
abbrev S4096x768 : Shape := ⟨2, ![4096, 768]⟩
abbrev S4096x2048 : Shape := ⟨2, ![4096, 2048]⟩
abbrev S1x1024 : Shape := ⟨2, ![1, 1024]⟩
abbrev S3840x1024 : Shape := ⟨2, ![3840, 1024]⟩
abbrev S1024x3840 : Shape := ⟨2, ![1024, 3840]⟩
abbrev S4096x3840 : Shape := ⟨2, ![4096, 3840]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x768, .bf16⟩
  | .hbm, ⟨2, _⟩ => ⟨S4096x2048, .bf16⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S3840x1024, .bf16⟩
  | .hbm, ⟨7, _⟩ => ⟨S3840x1024, .f32⟩
  | .hbm, ⟨8, _⟩ => ⟨S1024x3840, .f32⟩
  | .hbm, ⟨9, _⟩ => ⟨S4096x1024, .f32⟩
  | .hbm, ⟨10, _⟩ => ⟨S4096x768, .f32⟩
  | .hbm, ⟨11, _⟩ => ⟨S4096x2048, .f32⟩
  | .hbm, ⟨12, _⟩ => ⟨S4096x3840, .f32⟩
  | .hbm, ⟨13, _⟩ => ⟨S1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x3840, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S1x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Kernel10.lean ====
abbrev S4096x1024 : Shape := ⟨2, ![4096, 1024]⟩
abbrev S1x1024 : Shape := ⟨2, ![1, 1024]⟩
abbrev S3840x1024 : Shape := ⟨2, ![3840, 1024]⟩
abbrev S4096x768 : Shape := ⟨2, ![4096, 768]⟩
abbrev S4096x2048 : Shape := ⟨2, ![4096, 2048]⟩
abbrev S512x1024 : Shape := ⟨2, ![512, 1024]⟩
abbrev S512x768 : Shape := ⟨2, ![512, 768]⟩
abbrev S512x2048 : Shape := ⟨2, ![512, 2048]⟩
abbrev S1 : Shape := ⟨1, ![1]⟩
abbrev S_ : Shape := ⟨0, ![]⟩
abbrev S512 : Shape := ⟨1, ![512]⟩
abbrev S512x1 : Shape := ⟨2, ![512, 1]⟩
abbrev S1024x1024 : Shape := ⟨2, ![1024, 1024]⟩
abbrev S768x1024 : Shape := ⟨2, ![768, 1024]⟩
abbrev S2048x1024 : Shape := ⟨2, ![2048, 1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S3840x1024, .bf16⟩
  | .hbm, ⟨3, _⟩ => ⟨S4096x1024, .bf16⟩
  | .hbm, ⟨4, _⟩ => ⟨S4096x1024, .f32⟩
  | .hbm, ⟨5, _⟩ => ⟨S4096x768, .bf16⟩
  | .hbm, ⟨6, _⟩ => ⟨S4096x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S512x768, .bf16⟩
  | .local _ .vmem, ⟨8, _⟩ => ⟨S512x768, .bf16⟩
  | .local _ .vmem, ⟨9, _⟩ => ⟨S512x2048, .f32⟩
  | .local _ .vmem, ⟨10, _⟩ => ⟨S512x2048, .f32⟩
  | .local _ .vmem, ⟨11, _⟩ => ⟨S3840x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S4096x1024 : Shape := ⟨2, ![4096, 1024]⟩
abbrev S1x1024 : Shape := ⟨2, ![1, 1024]⟩
abbrev S3840x1024 : Shape := ⟨2, ![3840, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x3840 : Shape := ⟨2, ![1024, 3840]⟩
abbrev S4096x3840 : Shape := ⟨2, ![4096, 3840]⟩
abbrev S4096x768 : Shape := ⟨2, ![4096, 768]⟩
abbrev S4096x2048 : Shape := ⟨2, ![4096, 2048]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S3840x1024, .bf16⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S3840x1024, .f32⟩
  | .hbm, ⟨21, _⟩ => ⟨S1024x3840, .f32⟩
  | .hbm, ⟨22, _⟩ => ⟨S4096x3840, .f32⟩
  | .hbm, ⟨23, _⟩ => ⟨S4096x1024, .bf16⟩
  | .hbm, ⟨24, _⟩ => ⟨S4096x1024, .f32⟩
  | .hbm, ⟨25, _⟩ => ⟨S4096x768, .f32⟩
  | .hbm, ⟨26, _⟩ => ⟨S4096x768, .bf16⟩
  | .hbm, ⟨27, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel11.lean ====
abbrev S4096x1024 : Shape := ⟨2, ![4096, 1024]⟩
abbrev S4096x2048 : Shape := ⟨2, ![4096, 2048]⟩
abbrev S1x1024 : Shape := ⟨2, ![1, 1024]⟩
abbrev S1024x1024 : Shape := ⟨2, ![1024, 1024]⟩
abbrev S512x1024 : Shape := ⟨2, ![512, 1024]⟩
abbrev S512x2048 : Shape := ⟨2, ![512, 2048]⟩
abbrev S2 : Shape := ⟨1, ![2]⟩
abbrev S1 : Shape := ⟨1, ![1]⟩
abbrev S_ : Shape := ⟨0, ![]⟩
abbrev S512x512 : Shape := ⟨2, ![512, 512]⟩
abbrev S1024x512 : Shape := ⟨2, ![1024, 512]⟩
abbrev S512 : Shape := ⟨1, ![512]⟩
abbrev S512x1 : Shape := ⟨2, ![512, 1]⟩

abbrev nBuf : Space → Nat
  | .hbm => 9
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x2048, .f32⟩
  | .hbm, ⟨3, _⟩ => ⟨S1x1024, .f32⟩
  | .hbm, ⟨4, _⟩ => ⟨S1024x1024, .bf16⟩
  | .hbm, ⟨5, _⟩ => ⟨S1024x1024, .bf16⟩
  | .hbm, ⟨6, _⟩ => ⟨S4096x1024, .bf16⟩
  | .hbm, ⟨7, _⟩ => ⟨S4096x1024, .f32⟩
  | .hbm, ⟨8, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S4096x1024 : Shape := ⟨2, ![4096, 1024]⟩
abbrev S4096x2048 : Shape := ⟨2, ![4096, 2048]⟩
abbrev S1x1024 : Shape := ⟨2, ![1, 1024]⟩
abbrev S1024x1024 : Shape := ⟨2, ![1024, 1024]⟩
abbrev S4096x512 : Shape := ⟨2, ![4096, 512]⟩
abbrev S1024x512 : Shape := ⟨2, ![1024, 512]⟩
abbrev S512x1024 : Shape := ⟨2, ![512, 1024]⟩
abbrev S_ : Shape := ⟨0, ![]⟩
abbrev S1024 : Shape := ⟨1, ![1024]⟩
abbrev S4096 : Shape := ⟨1, ![4096]⟩
abbrev S4096x1 : Shape := ⟨2, ![4096, 1]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x2048, .f32⟩
  | .hbm, ⟨3, _⟩ => ⟨S1x1024, .f32⟩
  | .hbm, ⟨4, _⟩ => ⟨S1024x1024, .bf16⟩
  | .hbm, ⟨5, _⟩ => ⟨S1024x1024, .bf16⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S4096x512, .f32⟩
  | .hbm, ⟨10, _⟩ => ⟨S1024x512, .f32⟩
  | .hbm, ⟨11, _⟩ => ⟨S512x1024, .f32⟩
  | .hbm, ⟨12, _⟩ => ⟨S4096x1024, .f32⟩
  | .hbm, ⟨13, _⟩ => ⟨S4096x512, .f32⟩
  | .hbm, ⟨14, _⟩ => ⟨S1024x512, .f32⟩
  | .hbm, ⟨15, _⟩ => ⟨S512x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | .hbm, ⟨41, _⟩ => ⟨S1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]
-- ==== Kernel12.lean ====
abbrev S4096x1024 : Shape := ⟨2, ![4096, 1024]⟩
abbrev S3x5632 : Shape := ⟨2, ![3, 5632]⟩
abbrev S1x5632 : Shape := ⟨2, ![1, 5632]⟩
abbrev S5632x1024 : Shape := ⟨2, ![5632, 1024]⟩
abbrev S2816x1024 : Shape := ⟨2, ![2816, 1024]⟩
abbrev S4096x5632 : Shape := ⟨2, ![4096, 5632]⟩
abbrev S4096x2816 : Shape := ⟨2, ![4096, 2816]⟩
abbrev S256x1024 : Shape := ⟨2, ![256, 1024]⟩
abbrev S256x5632 : Shape := ⟨2, ![256, 5632]⟩
abbrev S256x2816 : Shape := ⟨2, ![256, 2816]⟩
abbrev S8x5632 : Shape := ⟨2, ![8, 5632]⟩
abbrev S2 : Shape := ⟨1, ![2]⟩
abbrev S1 : Shape := ⟨1, ![1]⟩
abbrev S_ : Shape := ⟨0, ![]⟩
abbrev S256x256 : Shape := ⟨2, ![256, 256]⟩
abbrev S1x256 : Shape := ⟨2, ![1, 256]⟩
abbrev S8x256 : Shape := ⟨2, ![8, 256]⟩
abbrev S248x256 : Shape := ⟨2, ![248, 256]⟩

abbrev nBuf : Space → Nat
  | .hbm => 11
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S3x5632, .f32⟩
  | .hbm, ⟨3, _⟩ => ⟨S1x5632, .f32⟩
  | .hbm, ⟨4, _⟩ => ⟨S5632x1024, .bf16⟩
  | .hbm, ⟨5, _⟩ => ⟨S2816x1024, .bf16⟩
  | .hbm, ⟨6, _⟩ => ⟨S4096x5632, .bf16⟩
  | .hbm, ⟨7, _⟩ => ⟨S4096x2816, .bf16⟩
  | .hbm, ⟨8, _⟩ => ⟨S4096x2816, .bf16⟩
  | .hbm, ⟨9, _⟩ => ⟨S4096x2816, .bf16⟩
  | .hbm, ⟨10, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S3x5632, .f32⟩
  | .local _ .vmem, ⟨5, _⟩ => ⟨S1x5632, .f32⟩
  | .local _ .vmem, ⟨6, _⟩ => ⟨S256x5632, .bf16⟩
  | .local _ .vmem, ⟨7, _⟩ => ⟨S256x5632, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x1024, .f32⟩
  | .local _ .vmem, ⟨15, _⟩ => ⟨S256x1024, .f32⟩
  | .local _ .vmem, ⟨16, _⟩ => ⟨S5632x1024, .bf16⟩
  | .local _ .vmem, ⟨17, _⟩ => ⟨S2816x1024, .bf16⟩
  | .local _ .vmem, ⟨18, _⟩ => ⟨S8x5632, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S4096x1024 : Shape := ⟨2, ![4096, 1024]⟩
abbrev S3x5632 : Shape := ⟨2, ![3, 5632]⟩
abbrev S1x5632 : Shape := ⟨2, ![1, 5632]⟩
abbrev S5632x1024 : Shape := ⟨2, ![5632, 1024]⟩
abbrev S2816x1024 : Shape := ⟨2, ![2816, 1024]⟩
abbrev S2x2048x1024 : Shape := ⟨3, ![2, 2048, 1024]⟩
abbrev S1024x5632 : Shape := ⟨2, ![1024, 5632]⟩
abbrev S2x2048x5632 : Shape := ⟨3, ![2, 2048, 5632]⟩
abbrev S5632 : Shape := ⟨1, ![5632]⟩
abbrev S_ : Shape := ⟨0, ![]⟩
abbrev S2x2050x5632 : Shape := ⟨3, ![2, 2050, 5632]⟩
abbrev S1x1x5632 : Shape := ⟨3, ![1, 1, 5632]⟩
abbrev S2x2048x2816 : Shape := ⟨3, ![2, 2048, 2816]⟩
abbrev S4096x5632 : Shape := ⟨2, ![4096, 5632]⟩
abbrev S4096x2816 : Shape := ⟨2, ![4096, 2816]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S3x5632, .f32⟩
  | .hbm, ⟨3, _⟩ => ⟨S1x5632, .f32⟩
  | .hbm, ⟨4, _⟩ => ⟨S5632x1024, .bf16⟩
  | .hbm, ⟨5, _⟩ => ⟨S2816x1024, .bf16⟩
  | .hbm, ⟨6, _⟩ => ⟨S4096x1024, .f32⟩
  | .hbm, ⟨7, _⟩ => ⟨S2x2048x1024, .f32⟩
  | .hbm, ⟨8, _⟩ => ⟨S5632x1024, .f32⟩
  | .hbm, ⟨9, _⟩ => ⟨S1024x5632, .f32⟩
  | .hbm, ⟨10, _⟩ => ⟨S2x2048x5632, .f32⟩
  | .hbm, ⟨11, _⟩ => ⟨S5632, .f32⟩
  | .hbm, ⟨12, _⟩ => ⟨S_, .i32⟩
  | .hbm, ⟨13, _⟩ => ⟨S_, .f32⟩
  | .hbm, ⟨14, _⟩ => ⟨S2x2050x5632, .f32⟩
  | .hbm, ⟨15, _⟩ => ⟨S1x5632, .f32⟩
  | .hbm, ⟨16, _⟩ => ⟨S5632, .f32⟩
  | .hbm, ⟨17, _⟩ => ⟨S2x2048x5632, .f32⟩
  | .hbm, ⟨18, _⟩ => ⟨S1x1x5632, .f32⟩
  | .hbm, ⟨19, _⟩ => ⟨S2x2048x5632, .f32⟩
  | .hbm, ⟨20, _⟩ => ⟨S2x2048x5632, .f32⟩
  | .hbm, ⟨21, _⟩ => ⟨S1x5632, .f32⟩
  | .hbm, ⟨22, _⟩ => ⟨S5632, .f32⟩
  | .hbm, ⟨23, _⟩ => ⟨S2x2048x5632, .f32⟩
  | .hbm, ⟨24, _⟩ => ⟨S1x1x5632, .f32⟩
  | .hbm, ⟨25, _⟩ => ⟨S2x2048x5632, .f32⟩
  | .hbm, ⟨26, _⟩ => ⟨S2x2048x5632, .f32⟩
  | .hbm, ⟨27, _⟩ => ⟨S2x2048x5632, .f32⟩
  | .hbm, ⟨28, _⟩ => ⟨S1x5632, .f32⟩
  | .hbm, ⟨29, _⟩ => ⟨S5632, .f32⟩
  | .hbm, ⟨30, _⟩ => ⟨S2x2048x5632, .f32⟩
  | .hbm, ⟨31, _⟩ => ⟨S1x1x5632, .f32⟩
  | .hbm, ⟨32, _⟩ => ⟨S2x2048x5632, .f32⟩
  | .hbm, ⟨33, _⟩ => ⟨S2x2048x5632, .f32⟩
  | .hbm, ⟨34, _⟩ => ⟨S2x2048x5632, .f32⟩
  | .hbm, ⟨35, _⟩ => ⟨S1x1x5632, .f32⟩
  | .hbm, ⟨36, _⟩ => ⟨S2x2048x5632, .f32⟩
  | .hbm, ⟨37, _⟩ => ⟨S2x2048x5632, .f32⟩
  | .hbm, ⟨38, _⟩ => ⟨S2x2048x2816, .f32⟩
  | .hbm, ⟨39, _⟩ => ⟨S2x2048x2816, .f32⟩
  | .hbm, ⟨40, _⟩ => ⟨S2x2048x2816, .f32⟩
  | .hbm, ⟨41, _⟩ => ⟨S2x2048x2816, .f32⟩
  | .hbm, ⟨42, _⟩ => ⟨S_, .f32⟩
  | .hbm, ⟨43, _⟩ => ⟨S2x2048x2816, .f32⟩
  | .hbm, ⟨44, _⟩ => ⟨S2x2048x2816, .f32⟩
  | .hbm, ⟨45, _⟩ => ⟨S_, .f32⟩
  | .hbm, ⟨46, _⟩ => ⟨S2x2048x2816, .f32⟩
  | .hbm, ⟨47, _⟩ => ⟨S2x2048x2816, .f32⟩
  | .hbm, ⟨48, _⟩ => ⟨S_, .f32⟩
  | .hbm, ⟨49, _⟩ => ⟨S2x2048x2816, .f32⟩
  | .hbm, ⟨50, _⟩ => ⟨S2x2048x2816, .f32⟩
  | .hbm, ⟨51, _⟩ => ⟨S2x2048x2816, .f32⟩
  | .hbm, ⟨52, _⟩ => ⟨S2x2048x2816, .f32⟩
  | .hbm, ⟨53, _⟩ => ⟨S2x2048x2816, .f32⟩
  | .hbm, ⟨54, _⟩ => ⟨S2x2048x1024, .f32⟩
  | .hbm, ⟨55, _⟩ => ⟨S2816x1024, .f32⟩
  | .hbm, ⟨56, _⟩ => ⟨S2x2048x1024, .f32⟩
  | .hbm, ⟨57, _⟩ => ⟨S2x2048x1024, .f32⟩
  | .hbm, ⟨58, _⟩ => ⟨S4096x5632, .f32⟩
  | .hbm, ⟨59, _⟩ => ⟨S4096x5632, .bf16⟩
  | .hbm, ⟨60, _⟩ => ⟨S_, .f32⟩
  | .hbm, ⟨61, _⟩ => ⟨S2x2048x2816, .f32⟩
  | .hbm, ⟨62, _⟩ => ⟨S2x2048x2816, .f32⟩
  | .hbm, ⟨63, _⟩ => ⟨S2x2048x2816, .f32⟩
  | .hbm, ⟨64, _⟩ => ⟨S2x2048x2816, .f32⟩
  | .hbm, ⟨65, _⟩ => ⟨S2x2048x2816, .f32⟩
  | .hbm, ⟨66, _⟩ => ⟨S2x2048x2816, .f32⟩
  | .hbm, ⟨67, _⟩ => ⟨S4096x2816, .f32⟩
  | .hbm, ⟨68, _⟩ => ⟨S4096x2816, .bf16⟩
  | .hbm, ⟨69, _⟩ => ⟨S4096x2816, .f32⟩
  | .hbm, ⟨70, _⟩ => ⟨S4096x2816, .bf16⟩
  | .hbm, ⟨71, _⟩ => ⟨S4096x2816, .f32⟩
  | .hbm, ⟨72, _⟩ => ⟨S4096x2816, .bf16⟩
  | .hbm, ⟨73, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_v32_2 : Ref sig .tc := ⟨.hbm, 47, rfl⟩
abbrev main_call1_cst_1 : Ref sig .tc := ⟨.hbm, 48, rfl⟩
abbrev main_call1_v6 : Ref sig .tc := ⟨.hbm, 49, rfl⟩
abbrev main_call1_v7 : Ref sig .tc := ⟨.hbm, 50, rfl⟩
abbrev main_v32_1 : Ref sig .tc := ⟨.hbm, 51, rfl⟩
abbrev main_v32_0 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst : Ref sig .tc := ⟨.hbm, 60, rfl⟩
abbrev main_v40 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩

abbrev nD : Nat := 1
abbrev τ : Topo := Topo.v7x

variable {F : FTy → Type} [FloatOps F]
-- ==== Kernel13.lean ====
abbrev S704x1024 : Shape := ⟨2, ![704, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S352x1024 : Shape := ⟨2, ![352, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S352x1024 : Shape := ⟨2, ![352, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S_, .f32⟩
  | .hbm, ⟨5, _⟩ => ⟨S352x1024, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S352x1024, .f32⟩
  | .hbm, ⟨11, _⟩ => ⟨S_, .f32⟩
  | .hbm, ⟨12, _⟩ => ⟨S352x1024, .f32⟩
  | .hbm, ⟨13, _⟩ => ⟨S352x1024, .f32⟩
  | .hbm, ⟨14, _⟩ => ⟨S352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference15Ideal.lean ====
abbrev S128x1024 : Shape := ⟨2, ![128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S512x128 : Shape := ⟨2, ![512, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S512x128 : Shape := ⟨2, ![512, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S_, .f32⟩
  | .hbm, ⟨5, _⟩ => ⟨S512x128, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S8x760x128 : Shape := ⟨3, ![8, 760, 128]⟩
abbrev S760x128 : Shape := ⟨2, ![760, 128]⟩
abbrev S1x760x128 : Shape := ⟨3, ![1, 760, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x760x128, .f32⟩
  | .hbm, ⟨1, _⟩ => ⟨S760x128, .f32⟩
  | .local _ .vmem, ⟨0, _⟩ => ⟨S8x760x128, .f32⟩
  | .local _ .vmem, ⟨1, _⟩ => ⟨S760x128, .f32⟩
  | _, _ => ⟨S8x760x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x760x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S760x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference17Ideal.lean ====
abbrev S8x760x128 : Shape := ⟨3, ![8, 760, 128]⟩
abbrev S_ : Shape := ⟨0, ![]⟩
abbrev S760x128 : Shape := ⟨2, ![760, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x760x128, .f32⟩
  | .hbm, ⟨1, _⟩ => ⟨S_, .f32⟩
  | .hbm, ⟨2, _⟩ => ⟨S760x128, .f32⟩
  | _, _ => ⟨S8x760x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.MixFrame.lean ====
module

public import proofs.«01_k».proof.Proof.Gen.KernelIdeal.Frame.RunD
public import proofs.«01_k».proof.Proof.Gen.KernelIdeal.Frame.RunC
public import proofs.«01_k».proof.Proof.Gen.KernelIdeal.Frame.RunB
public import proofs.«01_k».proof.Proof.Gen.KernelIdeal.Frame.RunA
public import Idealize.ShloMosaic.Lib.Claim

@[expose] public section

set_option maxRecDepth 16384

noncomputable section

/-!
# The frame of the mixers' backward kernel

The four cases of a grid point are the four runs of the body. What the twelve buffers that outlive a point hold after it
is one record, computed from the record of the point before; the arguments of a case's run are named once.
-/

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- What a point leaves: the seven outputs' buffers, then the five scratch buffers. -/
structure Left (F : FTy → Type) where
  dpupv : Vec F S512x1024 .bf16
  dqkv : Vec F S512x768 .bf16
  dws : Vec F S4x128x128 .f32
  dbs : Vec F S4x128x1 .f32
  dg : Vec F S1x512 .f32
  dsink : Vec F S8x128 .f32
  drb : Vec F S8x128 .f32
  bias : Vec F S1024x256 .f32
  sinkcol : Vec F S1024x1 .f32
  dbias : Vec F S1024x256 .f32
  dsinkcol : Vec F S1024x1 .f32
  carry : Vec F S128x256 .f32

variable (m : (ℓ : Loc nD τ sig) → Buf (Elt F) ℓ) (ρ : Dev nD → PrngReg)

/-- The run of the body at the first point of the grid: the accumulators start. -/
def runA (c : Dev nD) (t : Fin cfg0.N) (h0 : t.val % 8 = 0) (h1 : t.val % 4 = 0) (h2 : ¬t.val % 8 = 7) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _)
    ((hcond0_0 t).mpr h0) ((hcond0_1 t).mpr h1) (fun h => h2 ((hcond0_2 t).mp h))
    (iblk m c 0 t) (iblk m c 1 t) (iblk m c 2 t) (iblk m c 3 t) (iblk m c 4 t) (iblk m c 5 t) (iblk m c 6 t) (iblk m c 7 t) (iblk m c 8 t) (iblk m c 9 t)

section
variable (c : Dev nD) (t : Fin cfg0.N) (h0 : t.val % 8 = 0) (h1 : t.val % 4 = 0) (h2 : ¬t.val % 8 = 7)

theorem coverA_dpupv (y : S512x1024.Idx) : ∃ pc ∈ (runA m c t h0 h1 h2).1, y ∈ pc.1.set :=
  View.cover_of_tiledBy (runA m c t h0 h1 h2).1 ![128, 128] (by sl_kernel_rfl) y

theorem coverA_dqkv (y : S512x768.Idx) : ∃ pc ∈ (runA m c t h0 h1 h2).2.1, y ∈ pc.1.set :=
  View.cover_of_tiledL (runA m c t h0 h1 h2).2.1 S128x128.size (by sl_kernel_rfl) y

theorem coverA_dws (y : S4x128x128.Idx) : ∃ pc ∈ (runA m c t h0 h1 h2).2.2.1, y ∈ pc.1.set :=
  View.cover_of_tiledBy (runA m c t h0 h1 h2).2.2.1 ![1, 128, 128] (by sl_kernel_rfl) y

theorem coverA_dbs (y : S4x128x1.Idx) : ∃ pc ∈ (runA m c t h0 h1 h2).2.2.2.1, y ∈ pc.1.set :=
  View.cover_of_tiledBy (runA m c t h0 h1 h2).2.2.2.1 ![1, 128, 1] (by sl_kernel_rfl) y

theorem coverA_dg (y : S1x512.Idx) : ∃ pc ∈ (runA m c t h0 h1 h2).2.2.2.2.1, y ∈ pc.1.set :=
  View.cover_of_tiledBy (runA m c t h0 h1 h2).2.2.2.2.1 ![1, 128] (by sl_kernel_rfl) y

theorem coverA_dsink (y : S8x128.Idx) : ∃ pc ∈ (runA m c t h0 h1 h2).2.2.2.2.2.1, y ∈ pc.1.set :=
  View.cover_of_tiledL (runA m c t h0 h1 h2).2.2.2.2.2.1 S8x128.size (by sl_kernel_rfl) y

theorem coverA_drb (y : S8x128.Idx) : ∃ pc ∈ (runA m c t h0 h1 h2).2.2.2.2.2.2.1, y ∈ pc.1.set :=
  View.cover_of_tiledL (runA m c t h0 h1 h2).2.2.2.2.2.2.1 S8x128.size (by sl_kernel_rfl) y

theorem coverA_bias (y : S1024x256.Idx) : ∃ pc ∈ (runA m c t h0 h1 h2).2.2.2.2.2.2.2.1, y ∈ pc.1.set :=
  View.cover_of_tiledL (runA m c t h0 h1 h2).2.2.2.2.2.2.2.1 S128x256.size (by sl_kernel_rfl) y

theorem coverA_sinkcol (y : S1024x1.Idx) : ∃ pc ∈ (runA m c t h0 h1 h2).2.2.2.2.2.2.2.2.1, y ∈ pc.1.set :=
  View.cover_of_tiledL (runA m c t h0 h1 h2).2.2.2.2.2.2.2.2.1 S128x1.size (by sl_kernel_rfl) y

theorem coverA_dbias (y : S1024x256.Idx) : ∃ pc ∈ (runA m c t h0 h1 h2).2.2.2.2.2.2.2.2.2.1, y ∈ pc.1.set :=
  View.cover_of_wholeMem (runA m c t h0 h1 h2).2.2.2.2.2.2.2.2.2.1 (by sl_whole_mem) y

theorem coverA_dsinkcol (y : S1024x1.Idx) : ∃ pc ∈ (runA m c t h0 h1 h2).2.2.2.2.2.2.2.2.2.2.1, y ∈ pc.1.set :=
  View.cover_of_wholeMem (runA m c t h0 h1 h2).2.2.2.2.2.2.2.2.2.2.1 (by sl_whole_mem) y

theorem coverA_carry (y : S128x256.Idx) : ∃ pc ∈ (runA m c t h0 h1 h2).2.2.2.2.2.2.2.2.2.2.2.1, y ∈ pc.1.set :=
  View.cover_of_wholeMem (runA m c t h0 h1 h2).2.2.2.2.2.2.2.2.2.2.2.1 (by sl_whole_mem) y

/-- What that run leaves. -/
def leftA : Left F where
  dpupv := VO0_10.read (Elt F) (VO0_10.writes (Elt F) VO0_10.junk (runA m c t h0 h1 h2).1)
  dqkv := VO0_11.read (Elt F) (VO0_11.writes (Elt F) VO0_11.junk (runA m c t h0 h1 h2).2.1)
  dws := VO0_12.read (Elt F) (VO0_12.writes (Elt F) VO0_12.junk (runA m c t h0 h1 h2).2.2.1)
  dbs := VO0_13.read (Elt F) (VO0_13.writes (Elt F) VO0_13.junk (runA m c t h0 h1 h2).2.2.2.1)
  dg := VO0_14.read (Elt F) (VO0_14.writes (Elt F) VO0_14.junk (runA m c t h0 h1 h2).2.2.2.2.1)
  dsink := VO0_15.read (Elt F) (VO0_15.writes (Elt F) VO0_15.junk (runA m c t h0 h1 h2).2.2.2.2.2.1)
  drb := VO0_16.read (Elt F) (VO0_16.writes (Elt F) VO0_16.junk (runA m c t h0 h1 h2).2.2.2.2.2.2.1)
  bias := VS0_0.read (Elt F) (VS0_0.writes (Elt F) VS0_0.junk (runA m c t h0 h1 h2).2.2.2.2.2.2.2.1)
  sinkcol := VS0_1.read (Elt F) (VS0_1.writes (Elt F) VS0_1.junk (runA m c t h0 h1 h2).2.2.2.2.2.2.2.2.1)
  dbias := VS0_2.read (Elt F) (VS0_2.writes (Elt F) VS0_2.junk (runA m c t h0 h1 h2).2.2.2.2.2.2.2.2.2.1)
  dsinkcol := VS0_3.read (Elt F) (VS0_3.writes (Elt F) VS0_3.junk (runA m c t h0 h1 h2).2.2.2.2.2.2.2.2.2.2.1)
  carry := VS0_4.read (Elt F) (VS0_4.writes (Elt F) VS0_4.junk (runA m c t h0 h1 h2).2.2.2.2.2.2.2.2.2.2.2.1)

end

/-- The run of the body at a point inside a sequence. -/
def runB (c : Dev nD) (t : Fin cfg0.N) (h0 : ¬t.val % 8 = 0) (h1 : ¬t.val % 4 = 0) (h2 : ¬t.val % 8 = 7) (P : Left F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _)
    (fun h => h0 ((hcond0_0 t).mp h)) (fun h => h1 ((hcond0_1 t).mp h)) (fun h => h2 ((hcond0_2 t).mp h))
    (iblk m c 0 t) (iblk m c 1 t) (iblk m c 2 t) (iblk m c 3 t) (iblk m c 4 t) (iblk m c 5 t) (iblk m c 6 t) (iblk m c 7 t) (iblk m c 8 t) (iblk m c 9 t) P.dws P.dbs P.dg P.bias P.sinkcol P.dbias P.dsinkcol P.carry

section
variable (c : Dev nD) (t : Fin cfg0.N) (h0 : ¬t.val % 8 = 0) (h1 : ¬t.val % 4 = 0) (h2 : ¬t.val % 8 = 7) (P : Left F)

theorem coverB_dpupv (y : S512x1024.Idx) : ∃ pc ∈ (runB m c t h0 h1 h2 P).1, y ∈ pc.1.set :=
  View.cover_of_tiledBy (runB m c t h0 h1 h2 P).1 ![128, 128] (by sl_kernel_rfl) y

theorem coverB_dqkv (y : S512x768.Idx) : ∃ pc ∈ (runB m c t h0 h1 h2 P).2.1, y ∈ pc.1.set :=
  View.cover_of_tiledL (runB m c t h0 h1 h2 P).2.1 S128x128.size (by sl_kernel_rfl) y

theorem coverB_dws (y : S4x128x128.Idx) : ∃ pc ∈ (runB m c t h0 h1 h2 P).2.2.1, y ∈ pc.1.set :=
  View.cover_of_tiledL (runB m c t h0 h1 h2 P).2.2.1 S1x128x128.size (by sl_kernel_rfl) y

theorem coverB_dbs (y : S4x128x1.Idx) : ∃ pc ∈ (runB m c t h0 h1 h2 P).2.2.2.1, y ∈ pc.1.set :=
  View.cover_of_tiledL (runB m c t h0 h1 h2 P).2.2.2.1 S1x128x1.size (by sl_kernel_rfl) y

theorem coverB_dg (y : S1x512.Idx) : ∃ pc ∈ (runB m c t h0 h1 h2 P).2.2.2.2.1, y ∈ pc.1.set :=
  View.cover_of_tiledL (runB m c t h0 h1 h2 P).2.2.2.2.1 S1x128.size (by sl_kernel_rfl) y

theorem coverB_dbias (y : S1024x256.Idx) : ∃ pc ∈ (runB m c t h0 h1 h2 P).2.2.2.2.2.2.2.2.2.1, y ∈ pc.1.set :=
  View.cover_of_tiledL (runB m c t h0 h1 h2 P).2.2.2.2.2.2.2.2.2.1 S512x256.size (by sl_kernel_rfl) y

theorem coverB_dsinkcol (y : S1024x1.Idx) : ∃ pc ∈ (runB m c t h0 h1 h2 P).2.2.2.2.2.2.2.2.2.2.1, y ∈ pc.1.set :=
  View.cover_of_tiledL (runB m c t h0 h1 h2 P).2.2.2.2.2.2.2.2.2.2.1 S512x1.size (by sl_kernel_rfl) y

theorem coverB_carry (y : S128x256.Idx) : ∃ pc ∈ (runB m c t h0 h1 h2 P).2.2.2.2.2.2.2.2.2.2.2.1, y ∈ pc.1.set :=
  View.cover_of_tiledL (runB m c t h0 h1 h2 P).2.2.2.2.2.2.2.2.2.2.2.1 S128x128.size (by sl_kernel_rfl) y

/-- What that run leaves. -/
def leftB : Left F where
  dpupv := VO0_10.read (Elt F) (VO0_10.writes (Elt F) VO0_10.junk (runB m c t h0 h1 h2 P).1)
  dqkv := VO0_11.read (Elt F) (VO0_11.writes (Elt F) VO0_11.junk (runB m c t h0 h1 h2 P).2.1)
  dws := VO0_12.read (Elt F) (VO0_12.writes (Elt F) VO0_12.junk (runB m c t h0 h1 h2 P).2.2.1)
  dbs := VO0_13.read (Elt F) (VO0_13.writes (Elt F) VO0_13.junk (runB m c t h0 h1 h2 P).2.2.2.1)
  dg := VO0_14.read (Elt F) (VO0_14.writes (Elt F) VO0_14.junk (runB m c t h0 h1 h2 P).2.2.2.2.1)
  dsink := P.dsink
  drb := P.drb
  bias := P.bias
  sinkcol := P.sinkcol
  dbias := VS0_2.read (Elt F) (VS0_2.writes (Elt F) VS0_2.junk (runB m c t h0 h1 h2 P).2.2.2.2.2.2.2.2.2.1)
  dsinkcol := VS0_3.read (Elt F) (VS0_3.writes (Elt F) VS0_3.junk (runB m c t h0 h1 h2 P).2.2.2.2.2.2.2.2.2.2.1)
  carry := VS0_4.read (Elt F) (VS0_4.writes (Elt F) VS0_4.junk (runB m c t h0 h1 h2 P).2.2.2.2.2.2.2.2.2.2.2.1)

end

/-- The run of the body at the first point of the second sequence: the carried rows start over. -/
def runC (c : Dev nD) (t : Fin cfg0.N) (h0 : ¬t.val % 8 = 0) (h1 : t.val % 4 = 0) (h2 : ¬t.val % 8 = 7) (P : Left F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _)
    (fun h => h0 ((hcond0_0 t).mp h)) ((hcond0_1 t).mpr h1) (fun h => h2 ((hcond0_2 t).mp h))
    (iblk m c 0 t) (iblk m c 1 t) (iblk m c 2 t) (iblk m c 3 t) (iblk m c 4 t) (iblk m c 5 t) (iblk m c 6 t) (iblk m c 7 t) (iblk m c 8 t) (iblk m c 9 t) P.dws P.dbs P.dg P.bias P.sinkcol P.dbias P.dsinkcol

section
variable (c : Dev nD) (t : Fin cfg0.N) (h0 : ¬t.val % 8 = 0) (h1 : t.val % 4 = 0) (h2 : ¬t.val % 8 = 7) (P : Left F)

theorem coverC_dpupv (y : S512x1024.Idx) : ∃ pc ∈ (runC m c t h0 h1 h2 P).1, y ∈ pc.1.set :=
  View.cover_of_tiledBy (runC m c t h0 h1 h2 P).1 ![128, 128] (by sl_kernel_rfl) y

theorem coverC_dqkv (y : S512x768.Idx) : ∃ pc ∈ (runC m c t h0 h1 h2 P).2.1, y ∈ pc.1.set :=
  View.cover_of_tiledL (runC m c t h0 h1 h2 P).2.1 S128x128.size (by sl_kernel_rfl) y

theorem coverC_dws (y : S4x128x128.Idx) : ∃ pc ∈ (runC m c t h0 h1 h2 P).2.2.1, y ∈ pc.1.set :=
  View.cover_of_tiledL (runC m c t h0 h1 h2 P).2.2.1 S1x128x128.size (by sl_kernel_rfl) y

theorem coverC_dbs (y : S4x128x1.Idx) : ∃ pc ∈ (runC m c t h0 h1 h2 P).2.2.2.1, y ∈ pc.1.set :=
  View.cover_of_tiledL (runC m c t h0 h1 h2 P).2.2.2.1 S1x128x1.size (by sl_kernel_rfl) y

theorem coverC_dg (y : S1x512.Idx) : ∃ pc ∈ (runC m c t h0 h1 h2 P).2.2.2.2.1, y ∈ pc.1.set :=
  View.cover_of_tiledL (runC m c t h0 h1 h2 P).2.2.2.2.1 S1x128.size (by sl_kernel_rfl) y

theorem coverC_dbias (y : S1024x256.Idx) : ∃ pc ∈ (runC m c t h0 h1 h2 P).2.2.2.2.2.2.2.2.2.1, y ∈ pc.1.set :=
  View.cover_of_tiledL (runC m c t h0 h1 h2 P).2.2.2.2.2.2.2.2.2.1 S512x256.size (by sl_kernel_rfl) y

theorem coverC_dsinkcol (y : S1024x1.Idx) : ∃ pc ∈ (runC m c t h0 h1 h2 P).2.2.2.2.2.2.2.2.2.2.1, y ∈ pc.1.set :=
  View.cover_of_tiledL (runC m c t h0 h1 h2 P).2.2.2.2.2.2.2.2.2.2.1 S512x1.size (by sl_kernel_rfl) y

theorem coverC_carry (y : S128x256.Idx) : ∃ pc ∈ (runC m c t h0 h1 h2 P).2.2.2.2.2.2.2.2.2.2.2.1, y ∈ pc.1.set :=
  View.cover_of_wholeMem (runC m c t h0 h1 h2 P).2.2.2.2.2.2.2.2.2.2.2.1 (by sl_whole_mem) y

/-- What that run leaves. -/
def leftC : Left F where
  dpupv := VO0_10.read (Elt F) (VO0_10.writes (Elt F) VO0_10.junk (runC m c t h0 h1 h2 P).1)
  dqkv := VO0_11.read (Elt F) (VO0_11.writes (Elt F) VO0_11.junk (runC m c t h0 h1 h2 P).2.1)
  dws := VO0_12.read (Elt F) (VO0_12.writes (Elt F) VO0_12.junk (runC m c t h0 h1 h2 P).2.2.1)
  dbs := VO0_13.read (Elt F) (VO0_13.writes (Elt F) VO0_13.junk (runC m c t h0 h1 h2 P).2.2.2.1)
  dg := VO0_14.read (Elt F) (VO0_14.writes (Elt F) VO0_14.junk (runC m c t h0 h1 h2 P).2.2.2.2.1)
  dsink := P.dsink
  drb := P.drb
  bias := P.bias
  sinkcol := P.sinkcol
  dbias := VS0_2.read (Elt F) (VS0_2.writes (Elt F) VS0_2.junk (runC m c t h0 h1 h2 P).2.2.2.2.2.2.2.2.2.1)
  dsinkcol := VS0_3.read (Elt F) (VS0_3.writes (Elt F) VS0_3.junk (runC m c t h0 h1 h2 P).2.2.2.2.2.2.2.2.2.2.1)
  carry := VS0_4.read (Elt F) (VS0_4.writes (Elt F) VS0_4.junk (runC m c t h0 h1 h2 P).2.2.2.2.2.2.2.2.2.2.2.1)

end

/-- The run of the body at the last point: the small gradients are summed. -/
def runD (c : Dev nD) (t : Fin cfg0.N) (h0 : ¬t.val % 8 = 0) (h1 : ¬t.val % 4 = 0) (h2 : t.val % 8 = 7) (P : Left F) :=
  kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _)
    (fun h => h0 ((hcond0_0 t).mp h)) (fun h => h1 ((hcond0_1 t).mp h)) ((hcond0_2 t).mpr h2)
    (iblk m c 0 t) (iblk m c 1 t) (iblk m c 2 t) (iblk m c 3 t) (iblk m c 4 t) (iblk m c 5 t) (iblk m c 6 t) (iblk m c 7 t) (iblk m c 8 t) (iblk m c 9 t) P.dws P.dbs P.dg P.bias P.sinkcol P.dbias P.dsinkcol P.carry

section
variable (c : Dev nD) (t : Fin cfg0.N) (h0 : ¬t.val % 8 = 0) (h1 : ¬t.val % 4 = 0) (h2 : t.val % 8 = 7) (P : Left F)

theorem coverD_dpupv (y : S512x1024.Idx) : ∃ pc ∈ (runD m c t h0 h1 h2 P).1, y ∈ pc.1.set :=
  View.cover_of_tiledBy (runD m c t h0 h1 h2 P).1 ![128, 128] (by sl_kernel_rfl) y

theorem coverD_dqkv (y : S512x768.Idx) : ∃ pc ∈ (runD m c t h0 h1 h2 P).2.1, y ∈ pc.1.set :=
  View.cover_of_tiledL (runD m c t h0 h1 h2 P).2.1 S128x128.size (by sl_kernel_rfl) y

theorem coverD_dws (y : S4x128x128.Idx) : ∃ pc ∈ (runD m c t h0 h1 h2 P).2.2.1, y ∈ pc.1.set :=
  View.cover_of_tiledL (runD m c t h0 h1 h2 P).2.2.1 S1x128x128.size (by sl_kernel_rfl) y

theorem coverD_dbs (y : S4x128x1.Idx) : ∃ pc ∈ (runD m c t h0 h1 h2 P).2.2.2.1, y ∈ pc.1.set :=
  View.cover_of_tiledL (runD m c t h0 h1 h2 P).2.2.2.1 S1x128x1.size (by sl_kernel_rfl) y

theorem coverD_dg (y : S1x512.Idx) : ∃ pc ∈ (runD m c t h0 h1 h2 P).2.2.2.2.1, y ∈ pc.1.set :=
  View.cover_of_tiledL (runD m c t h0 h1 h2 P).2.2.2.2.1 S1x128.size (by sl_kernel_rfl) y

theorem coverD_dsink (y : S8x128.Idx) : ∃ pc ∈ (runD m c t h0 h1 h2 P).2.2.2.2.2.1, y ∈ pc.1.set :=
  View.cover_of_tiledL (runD m c t h0 h1 h2 P).2.2.2.2.2.1 S1x128.size (by sl_kernel_rfl) y

theorem coverD_drb (y : S8x128.Idx) : ∃ pc ∈ (runD m c t h0 h1 h2 P).2.2.2.2.2.2.1, y ∈ pc.1.set :=
  View.cover_of_tiledL (runD m c t h0 h1 h2 P).2.2.2.2.2.2.1 S1x128.size (by sl_kernel_rfl) y

theorem coverD_dbias (y : S1024x256.Idx) : ∃ pc ∈ (runD m c t h0 h1 h2 P).2.2.2.2.2.2.2.2.2.1, y ∈ pc.1.set :=
  View.cover_of_tiledL (runD m c t h0 h1 h2 P).2.2.2.2.2.2.2.2.2.1 S512x256.size (by sl_kernel_rfl) y

theorem coverD_dsinkcol (y : S1024x1.Idx) : ∃ pc ∈ (runD m c t h0 h1 h2 P).2.2.2.2.2.2.2.2.2.2.1, y ∈ pc.1.set :=
  View.cover_of_tiledL (runD m c t h0 h1 h2 P).2.2.2.2.2.2.2.2.2.2.1 S512x1.size (by sl_kernel_rfl) y

theorem coverD_carry (y : S128x256.Idx) : ∃ pc ∈ (runD m c t h0 h1 h2 P).2.2.2.2.2.2.2.2.2.2.2.1, y ∈ pc.1.set :=
  View.cover_of_tiledL (runD m c t h0 h1 h2 P).2.2.2.2.2.2.2.2.2.2.2.1 S128x128.size (by sl_kernel_rfl) y

/-- What that run leaves. -/
def leftD : Left F where
  dpupv := VO0_10.read (Elt F) (VO0_10.writes (Elt F) VO0_10.junk (runD m c t h0 h1 h2 P).1)
  dqkv := VO0_11.read (Elt F) (VO0_11.writes (Elt F) VO0_11.junk (runD m c t h0 h1 h2 P).2.1)
  dws := VO0_12.read (Elt F) (VO0_12.writes (Elt F) VO0_12.junk (runD m c t h0 h1 h2 P).2.2.1)
  dbs := VO0_13.read (Elt F) (VO0_13.writes (Elt F) VO0_13.junk (runD m c t h0 h1 h2 P).2.2.2.1)
  dg := VO0_14.read (Elt F) (VO0_14.writes (Elt F) VO0_14.junk (runD m c t h0 h1 h2 P).2.2.2.2.1)
  dsink := VO0_15.read (Elt F) (VO0_15.writes (Elt F) VO0_15.junk (runD m c t h0 h1 h2 P).2.2.2.2.2.1)
  drb := VO0_16.read (Elt F) (VO0_16.writes (Elt F) VO0_16.junk (runD m c t h0 h1 h2 P).2.2.2.2.2.2.1)
  bias := P.bias
  sinkcol := P.sinkcol
  dbias := VS0_2.read (Elt F) (VS0_2.writes (Elt F) VS0_2.junk (runD m c t h0 h1 h2 P).2.2.2.2.2.2.2.2.2.1)
  dsinkcol := VS0_3.read (Elt F) (VS0_3.writes (Elt F) VS0_3.junk (runD m c t h0 h1 h2 P).2.2.2.2.2.2.2.2.2.2.1)
  carry := VS0_4.read (Elt F) (VS0_4.writes (Elt F) VS0_4.junk (runD m c t h0 h1 h2 P).2.2.2.2.2.2.2.2.2.2.2.1)

end

/-- What point `t` leaves, from what the point before left. -/
def step (c : Dev nD) (t : Fin cfg0.N) (P : Left F) : Left F :=
  if h0 : t.val % 8 = 0 then leftA m c t h0 (by omega) (by omega)
  else if h1 : t.val % 4 = 0 then leftC m c t h0 h1 (by omega) P
  else if h2 : t.val % 8 = 7 then leftD m c t h0 h1 h2 P
  else leftB m c t h0 h1 h2 P

/-- What is left after the point at position `n`. -/
def leftAt (c : Dev nD) : (n : ℕ) → n < cfg0.N → Left F
  | 0, hn => leftA m c ⟨0, hn⟩ (Nat.zero_mod _) (Nat.zero_mod _) (fun h => absurd ((Nat.zero_mod 8).symm.trans h) (by decide))
  | n + 1, hn => step m c ⟨n + 1, hn⟩ (leftAt c n (Nat.lt_of_succ_lt hn))

/-- What is left before a point that isn't the first. -/
abbrev before (c : Dev nD) (t : Fin cfg0.N) : Left F := leftAt m c (t.val - 1) (Nat.lt_of_le_of_lt (Nat.sub_le _ _) t.isLt)

theorem leftAt_step (c : Dev nD) (t : Fin cfg0.N) (ht : t.val ≠ 0) : leftAt m c t.val t.isLt = step m c t (before m c t) := by
  obtain ⟨n, hn⟩ := t
  cases n with
  | zero => exact absurd rfl ht
  | succ n => rfl

theorem leftAt_A (c : Dev nD) (t : Fin cfg0.N) (h0 : t.val % 8 = 0) (h1 : t.val % 4 = 0) (h2 : ¬t.val % 8 = 7) : leftAt m c t.val t.isLt = leftA m c t h0 h1 h2 := by
  by_cases ht : t.val = 0
  · obtain ⟨n, hn⟩ := t
    dsimp only at ht
    subst ht
    rfl
  · rw [leftAt_step m c t ht, step, dif_pos h0]

theorem leftAt_B (c : Dev nD) (t : Fin cfg0.N) (h0 : ¬t.val % 8 = 0) (h1 : ¬t.val % 4 = 0) (h2 : ¬t.val % 8 = 7) :
    leftAt m c t.val t.isLt = leftB m c t h0 h1 h2 (before m c t) := by
  rw [leftAt_step m c t (fun h => h0 (by rw [h])), step, dif_neg h0, dif_neg h1, dif_neg h2]

theorem leftAt_C (c : Dev nD) (t : Fin cfg0.N) (h0 : ¬t.val % 8 = 0) (h1 : t.val % 4 = 0) (h2 : ¬t.val % 8 = 7) :
    leftAt m c t.val t.isLt = leftC m c t h0 h1 h2 (before m c t) := by
  rw [leftAt_step m c t (fun h => h0 (by rw [h])), step, dif_neg h0, dif_pos h1]

theorem leftAt_D (c : Dev nD) (t : Fin cfg0.N) (h0 : ¬t.val % 8 = 0) (h1 : ¬t.val % 4 = 0) (h2 : t.val % 8 = 7) :
    leftAt m c t.val t.isLt = leftD m c t h0 h1 h2 (before m c t) := by
  rw [leftAt_step m c t (fun h => h0 (by rw [h])), step, dif_neg h0, dif_neg h1, dif_pos h2]

/-- The five scratch buffers at a record, and the generator register at some state. -/
def scratchAt (c : Dev nD) (L : Left F) : sProp (MT nD τ sig Unit (Elt F) ℕ (UR sig nD τ) ℕ) :=
  iprop(iprop(owns (c : Thread nD τ) scM0_0 fullShare L.bias ∗ owns (c : Thread nD τ) scM0_1 fullShare L.sinkcol ∗ owns (c : Thread nD τ) scM0_2 fullShare L.dbias ∗ owns (c : Thread nD τ) scM0_3 fullShare L.dsinkcol ∗ owns (c : Thread nD τ) scM0_4 fullShare L.carry) ∗ (∃ r, prngReg c r))

/-- The scratch buffers before point `n`: at anything before the first point, then at what the point before left. -/
def PhiS (c : Dev nD) : (n : ℕ) → n ≤ cfg0.N → sProp (MT nD τ sig Unit (Elt F) ℕ (UR sig nD τ) ℕ)
  | 0, _ => Pipeline.ΦA spec0 c
  | n + 1, hn => scratchAt c (leftAt m c n hn)

theorem PhiS_pos (c : Dev nD) (n : ℕ) (h : n ≤ cfg0.N) (hz : n ≠ 0) : PhiS m c n h = scratchAt c (leftAt m c (n - 1) (by omega)) := by
  cases n with
  | zero => exact absurd rfl hz
  | succ n => rfl

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (leftAt m c t.val t.isLt).dpupv
    | ⟨11, _⟩ => (leftAt m c t.val t.isLt).dqkv
    | ⟨12, _⟩ => (leftAt m c t.val t.isLt).dws
    | ⟨13, _⟩ => (leftAt m c t.val t.isLt).dbs
    | ⟨14, _⟩ => (leftAt m c t.val t.isLt).dg
    | ⟨15, _⟩ => (leftAt m c t.val t.isLt).dsink
    | ⟨16, _⟩ => (leftAt m c t.val t.isLt).drb
    | ⟨_ + 17, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem PhiS_succ (c : Dev nD) (t : Fin cfg0.N) : (dats m 0 c).Φ t.succ = scratchAt c (leftAt m c t.val t.isLt) := rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_dpupv (c : Dev nD) (t : Fin cfg0.N) : (dats m 0 c).after 10 t = (leftAt m c t.val t.isLt).dpupv := by dsimp only [dats]
theorem after_dqkv (c : Dev nD) (t : Fin cfg0.N) : (dats m 0 c).after 11 t = (leftAt m c t.val t.isLt).dqkv := by dsimp only [dats]
theorem after_dws (c : Dev nD) (t : Fin cfg0.N) : (dats m 0 c).after 12 t = (leftAt m c t.val t.isLt).dws := by dsimp only [dats]
theorem after_dbs (c : Dev nD) (t : Fin cfg0.N) : (dats m 0 c).after 13 t = (leftAt m c t.val t.isLt).dbs := by dsimp only [dats]
theorem after_dg (c : Dev nD) (t : Fin cfg0.N) : (dats m 0 c).after 14 t = (leftAt m c t.val t.isLt).dg := by dsimp only [dats]
theorem after_dsink (c : Dev nD) (t : Fin cfg0.N) : (dats m 0 c).after 15 t = (leftAt m c t.val t.isLt).dsink := by dsimp only [dats]
theorem after_drb (c : Dev nD) (t : Fin cfg0.N) : (dats m 0 c).after 16 t = (leftAt m c t.val t.isLt).drb := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- An accumulated gradient's buffer at a point that isn't the first holds what the point before left. -/
theorem before_dws (c : Dev nD) (t : Fin cfg0.N) (h : t.val ≠ 0) (d) : (dats m 0 c).before 12 t d = (before m c t).dws := by
  have hN : t.val < 8 := lt_of_lt_of_eq t.isLt (show cfg0.N = 8 from N_0)
  rw [Dat.before_out_kept _ 12 rfl t (by omega)
    (Bool.eq_false_iff.mpr fun h => by have := (flush0_12 _).mp h; dsimp only at this; omega) (fun _ => rfl) (fun _ _ => rfl)]
  dsimp only [dats]

/-- An accumulated gradient's buffer at a point that isn't the first holds what the point before left. -/
theorem before_dbs (c : Dev nD) (t : Fin cfg0.N) (h : t.val ≠ 0) (d) : (dats m 0 c).before 13 t d = (before m c t).dbs := by
  have hN : t.val < 8 := lt_of_lt_of_eq t.isLt (show cfg0.N = 8 from N_0)
  rw [Dat.before_out_kept _ 13 rfl t (by omega)
    (Bool.eq_false_iff.mpr fun h => by have := (flush0_13 _).mp h; dsimp only at this; omega) (fun _ => rfl) (fun _ _ => rfl)]
  dsimp only [dats]

/-- An accumulated gradient's buffer at a point that isn't the first holds what the point before left. -/
theorem before_dg (c : Dev nD) (t : Fin cfg0.N) (h : t.val ≠ 0) (d) : (dats m 0 c).before 14 t d = (before m c t).dg := by
  have hN : t.val < 8 := lt_of_lt_of_eq t.isLt (show cfg0.N = 8 from N_0)
  rw [Dat.before_out_kept _ 14 rfl t (by omega)
    (Bool.eq_false_iff.mpr fun h => by have := (flush0_14 _).mp h; dsimp only at this; omega) (fun _ => rfl) (fun _ _ => rfl)]
  dsimp only [dats]

/-- What the body is called with, window by window. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- What the body returns, window by window. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

theorem leaves_0 (c : Dev nD) (t : Fin cfg0.N) : (dats m 0 c).leavesExact 0 t = owns (c : Thread nD τ) (ms0_0 t) fullShare (iblk m c 0 t) := by
  unfold Dat.leavesExact; rw [liveAt0_0 t, after_0]
theorem leaves_1 (c : Dev nD) (t : Fin cfg0.N) : (dats m 0 c).leavesExact 1 t = owns (c : Thread nD τ) (ms0_1 t) fullShare (iblk m c 1 t) := by
  unfold Dat.leavesExact; rw [liveAt0_1 t, after_1]
theorem leaves_2 (c : Dev nD) (t : Fin cfg0.N) : (dats m 0 c).leavesExact 2 t = owns (c : Thread nD τ) (ms0_2 t) fullShare (iblk m c 2 t) := by
  unfold Dat.leavesExact; rw [liveAt0_2 t, after_2]
theorem leaves_3 (c : Dev nD) (t : Fin cfg0.N) : (dats m 0 c).leavesExact 3 t = owns (c : Thread nD τ) (ms0_3 t) fullShare (iblk m c 3 t) := by
  unfold Dat.leavesExact; rw [liveAt0_3 t, after_3]
theorem leaves_4 (c : Dev nD) (t : Fin cfg0.N) : (dats m 0 c).leavesExact 4 t = owns (c : Thread nD τ) (ms0_4 t) fullShare (iblk m c 4 t) := by
  unfold Dat.leavesExact; rw [liveAt0_4 t, after_4]
theorem leaves_5 (c : Dev nD) (t : Fin cfg0.N) : (dats m 0 c).leavesExact 5 t = owns (c : Thread nD τ) (ms0_5 t) fullShare (iblk m c 5 t) := by
  unfold Dat.leavesExact; rw [liveAt0_5 t, after_5]
theorem leaves_6 (c : Dev nD) (t : Fin cfg0.N) : (dats m 0 c).leavesExact 6 t = owns (c : Thread nD τ) (ms0_6 t) fullShare (iblk m c 6 t) := by
  unfold Dat.leavesExact; rw [liveAt0_6 t, after_6]
theorem leaves_7 (c : Dev nD) (t : Fin cfg0.N) : (dats m 0 c).leavesExact 7 t = owns (c : Thread nD τ) (ms0_7 t) fullShare (iblk m c 7 t) := by
  unfold Dat.leavesExact; rw [liveAt0_7 t, after_7]
theorem leaves_8 (c : Dev nD) (t : Fin cfg0.N) : (dats m 0 c).leavesExact 8 t = owns (c : Thread nD τ) (ms0_8 t) fullShare (iblk m c 8 t) := by
  unfold Dat.leavesExact; rw [liveAt0_8 t, after_8]
theorem leaves_9 (c : Dev nD) (t : Fin cfg0.N) : (dats m 0 c).leavesExact 9 t = owns (c : Thread nD τ) (ms0_9 t) fullShare (iblk m c 9 t) := by
  unfold Dat.leavesExact; rw [liveAt0_9 t, after_9]
theorem leaves_10 (c : Dev nD) (t : Fin cfg0.N) : (dats m 0 c).leavesExact 10 t = owns (c : Thread nD τ) (ms0_10 t) fullShare (leftAt m c t.val t.isLt).dpupv := by
  unfold Dat.leavesExact; rw [liveAt0_10 t, after_dpupv]
theorem leaves_11 (c : Dev nD) (t : Fin cfg0.N) : (dats m 0 c).leavesExact 11 t = owns (c : Thread nD τ) (ms0_11 t) fullShare (leftAt m c t.val t.isLt).dqkv := by
  unfold Dat.leavesExact; rw [liveAt0_11 t, after_dqkv]
theorem leaves_12 (c : Dev nD) (t : Fin cfg0.N) : (dats m 0 c).leavesExact 12 t = owns (c : Thread nD τ) (ms0_12 t) fullShare (leftAt m c t.val t.isLt).dws := by
  unfold Dat.leavesExact; rw [liveAt0_12 t, after_dws]
theorem leaves_13 (c : Dev nD) (t : Fin cfg0.N) : (dats m 0 c).leavesExact 13 t = owns (c : Thread nD τ) (ms0_13 t) fullShare (leftAt m c t.val t.isLt).dbs := by
  unfold Dat.leavesExact; rw [liveAt0_13 t, after_dbs]
theorem leaves_14 (c : Dev nD) (t : Fin cfg0.N) : (dats m 0 c).leavesExact 14 t = owns (c : Thread nD τ) (ms0_14 t) fullShare (leftAt m c t.val t.isLt).dg := by
  unfold Dat.leavesExact; rw [liveAt0_14 t, after_dg]

set_option maxHeartbeats 16000000 in
/-- The body at the first point of the grid: the accumulators start. -/
theorem sound_A (c : Dev nD) (t : Fin cfg0.N) (h0 : t.val % 8 = 0) (h1 : t.val % 4 = 0) (h2 : ¬t.val % 8 = 7) :
    bodyPre m c t ⊢ wp frame (wpE (defs₀ (F := F)) Variants.none c none) Set.univ (bodyAt0 t) (fun _ => bodyPost m c t) := by
  unfold bodyPre bodyPost bodyAt0
  have hN : t.val < 8 := lt_of_lt_of_eq t.isLt (show cfg0.N = 8 from N_0)
  simp only [before_0, before_1, before_2, before_3, before_4, before_5, before_6, before_7, before_8, before_9]
  rw [show (dats m 0 c).owesAt () t.succ = (dats m 0 c).owesAt () t.castSucc from rfl, PhiS_succ, PhiS_castSucc]
  rw [leaves_0, leaves_1, leaves_2, leaves_3, leaves_4, leaves_5, leaves_6, leaves_7, leaves_8, leaves_9, leaves_10, leaves_11, leaves_12, leaves_13, leaves_14]
  rw [show (dats m 0 c).leavesExact 15 t = owns (c : Thread nD τ) (ms0_15 t) fullShare (leftAt m c t.val t.isLt).dsink from by
    unfold Dat.leavesExact; rw [liveAt0_15_A t ((hcond0_0 t).mpr h0) ((hcond0_1 t).mpr h1) (fun h => h2 ((hcond0_2 t).mp h)), after_dsink]]
  rw [show (dats m 0 c).leavesExact 16 t = owns (c : Thread nD τ) (ms0_16 t) fullShare (leftAt m c t.val t.isLt).drb from by
    unfold Dat.leavesExact; rw [liveAt0_16_A t ((hcond0_0 t).mpr h0) ((hcond0_1 t).mpr h1) (fun h => h2 ((hcond0_2 t).mp h)), after_drb]]
  have hz : t.val = 0 := by omega
  rw [show PhiS m c t.val (Nat.le_of_lt t.isLt) = Pipeline.ΦA spec0 c from by
    obtain ⟨n, hn⟩ := t
    dsimp only at hz
    subst hz
    rfl, PhiA0_eq]
  rw [leftAt_A m c t h0 h1 h2]
  unfold scratchAt leftA
  dsimp only
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((runA m c t h0 h1 h2).2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%e16, H16⟩, ⟨%es0, HS0⟩, ⟨%es1, HS1⟩, ⟨%es2, HS2⟩, ⟨%es3, HS3⟩, ⟨%es4, HS4⟩⟩
  isplitl [HS0 HS1 HS2 HS3 HS4 Hg]
  · isplitl [HS0 HS1 HS2 HS3 HS4]
    · isplitl [HS0]
      · unfold owns; iexists _; isplitr
        swap; · iexact HS0
        ipureintro; exact View.read_writes_of_cover _ _ _ _ _ (coverA_bias m c t h0 h1 h2)
      isplitl [HS1]
      · unfold owns; iexists _; isplitr
        swap; · iexact HS1
        ipureintro; exact View.read_writes_of_cover _ _ _ _ _ (coverA_sinkcol m c t h0 h1 h2)
      isplitl [HS2]
      · unfold owns; iexists _; isplitr
        swap; · iexact HS2
        ipureintro; exact View.read_writes_of_cover _ _ _ _ _ (coverA_dbias m c t h0 h1 h2)
      isplitl [HS3]
      · unfold owns; iexists _; isplitr
        swap; · iexact HS3
        ipureintro; exact View.read_writes_of_cover _ _ _ _ _ (coverA_dsinkcol m c t h0 h1 h2)
      unfold owns; iexists _; isplitr
      swap; · iexact HS4
      ipureintro; exact View.read_writes_of_cover _ _ _ _ _ (coverA_carry m c t h0 h1 h2)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (coverA_dpupv m c t h0 h1 h2)
  isplitl [H11]
  · unfold owns; iexists _; isplitr
    swap; · iexact H11
    ipureintro; exact View.read_writes_of_cover _ _ _ _ _ (coverA_dqkv m c t h0 h1 h2)
  isplitl [H12]
  · unfold owns; iexists _; isplitr
    swap; · iexact H12
    ipureintro; exact View.read_writes_of_cover _ _ _ _ _ (coverA_dws m c t h0 h1 h2)
  isplitl [H13]
  · unfold owns; iexists _; isplitr
    swap; · iexact H13
    ipureintro; exact View.read_writes_of_cover _ _ _ _ _ (coverA_dbs m c t h0 h1 h2)
  isplitl [H14]
  · unfold owns; iexists _; isplitr
    swap; · iexact H14
    ipureintro; exact View.read_writes_of_cover _ _ _ _ _ (coverA_dg m c t h0 h1 h2)
  isplitl [H15]
  · unfold owns; iexists _; isplitr
    swap; · iexact H15
    ipureintro; exact View.read_writes_of_cover _ _ _ _ _ (coverA_dsink m c t h0 h1 h2)
  unfold owns; iexists _; isplitr
  swap; · iexact H16
  ipureintro; exact View.read_writes_of_cover _ _ _ _ _ (coverA_drb m c t h0 h1 h2)

set_option maxHeartbeats 16000000 in
/-- The body at a point inside a sequence. -/
theorem sound_B (c : Dev nD) (t : Fin cfg0.N) (h0 : ¬t.val % 8 = 0) (h1 : ¬t.val % 4 = 0) (h2 : ¬t.val % 8 = 7) :
    bodyPre m c t ⊢ wp frame (wpE (defs₀ (F := F)) Variants.none c none) Set.univ (bodyAt0 t) (fun _ => bodyPost m c t) := by
  unfold bodyPre bodyPost bodyAt0
  have hN : t.val < 8 := lt_of_lt_of_eq t.isLt (show cfg0.N = 8 from N_0)
  simp only [before_0, before_1, before_2, before_3, before_4, before_5, before_6, before_7, before_8, before_9]
  rw [show (dats m 0 c).owesAt () t.succ = (dats m 0 c).owesAt () t.castSucc from rfl, PhiS_succ, PhiS_castSucc]
  rw [leaves_0, leaves_1, leaves_2, leaves_3, leaves_4, leaves_5, leaves_6, leaves_7, leaves_8, leaves_9, leaves_10, leaves_11, leaves_12, leaves_13, leaves_14]
  rw [Dat.leavesExact_idle (dats m 0 c) 15 t (idleAt0_15_B t (fun h => h0 ((hcond0_0 t).mp h)) (fun h => h1 ((hcond0_1 t).mp h)) (fun h => h2 ((hcond0_2 t).mp h))) (noFlush0_15_B t (fun h => h0 ((hcond0_0 t).mp h)) (fun h => h1 ((hcond0_1 t).mp h)) (fun h => h2 ((hcond0_2 t).mp h)))]
  rw [Dat.leavesExact_idle (dats m 0 c) 16 t (idleAt0_16_B t (fun h => h0 ((hcond0_0 t).mp h)) (fun h => h1 ((hcond0_1 t).mp h)) (fun h => h2 ((hcond0_2 t).mp h))) (noFlush0_16_B t (fun h => h0 ((hcond0_0 t).mp h)) (fun h => h1 ((hcond0_1 t).mp h)) (fun h => h2 ((hcond0_2 t).mp h)))]
  have hz : t.val ≠ 0 := fun h => h0 (by rw [h])
  rw [PhiS_pos m c _ _ hz]
  simp only [before_dws m c t hz, before_dbs m c t hz, before_dg m c t hz]
  rw [leftAt_B m c t h0 h1 h2]
  unfold scratchAt leftB
  dsimp only
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((runB m c t h0 h1 h2 (before m c t)).2.2.2.2.2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexact H12
  isplitl [H13]; · iexact H13
  isplitl [H14]; · iexact H14
  isplitl [H15]; · iexact H15
  isplitl [H16]; · iexact H16
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, ⟨%e10, H10⟩, ⟨%e11, H11⟩, ⟨%e12, H12⟩, ⟨%e13, H13⟩, ⟨%e14, H14⟩, H15, H16, HS0, HS1, ⟨%es2, HS2⟩, ⟨%es3, HS3⟩, ⟨%es4, HS4⟩⟩
  isplitl [HS0 HS1 HS2 HS3 HS4 Hg]
  · isplitl [HS0 HS1 HS2 HS3 HS4]
    · isplitl [HS0]
      · iexact HS0
      isplitl [HS1]
      · iexact HS1
      isplitl [HS2]
      · unfold owns; iexists _; isplitr
        swap; · iexact HS2
        ipureintro; exact View.read_writes_of_cover _ _ _ _ _ (coverB_dbias m c t h0 h1 h2 (before m c t))
      isplitl [HS3]
      · unfold owns; iexists _; isplitr
        swap; · iexact HS3
        ipureintro; exact View.read_writes_of_cover _ _ _ _ _ (coverB_dsinkcol m c t h0 h1 h2 (before m c t))
      unfold owns; iexists _; isplitr
      swap; · iexact HS4
      ipureintro; exact View.read_writes_of_cover _ _ _ _ _ (coverB_carry m c t h0 h1 h2 (before m c t))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (coverB_dpupv m c t h0 h1 h2 (before m c t))
  isplitl [H11]
  · unfold owns; iexists _; isplitr
    swap; · iexact H11
    ipureintro; exact View.read_writes_of_cover _ _ _ _ _ (coverB_dqkv m c t h0 h1 h2 (before m c t))
  isplitl [H12]
  · unfold owns; iexists _; isplitr
    swap; · iexact H12
    ipureintro; exact View.read_writes_of_cover _ _ _ _ _ (coverB_dws m c t h0 h1 h2 (before m c t))
  isplitl [H13]
  · unfold owns; iexists _; isplitr
    swap; · iexact H13
    ipureintro; exact View.read_writes_of_cover _ _ _ _ _ (coverB_dbs m c t h0 h1 h2 (before m c t))
  isplitl [H14]
  · unfold owns; iexists _; isplitr
    swap; · iexact H14
    ipureintro; exact View.read_writes_of_cover _ _ _ _ _ (coverB_dg m c t h0 h1 h2 (before m c t))
  isplitl [H15]
  · iexists _; iexact H15
  iexists _; iexact H16

set_option maxHeartbeats 16000000 in
/-- The body at the first point of the second sequence: the carried rows start over. -/
theorem sound_C (c : Dev nD) (t : Fin cfg0.N) (h0 : ¬t.val % 8 = 0) (h1 : t.val % 4 = 0) (h2 : ¬t.val % 8 = 7) :
    bodyPre m c t ⊢ wp frame (wpE (defs₀ (F := F)) Variants.none c none) Set.univ (bodyAt0 t) (fun _ => bodyPost m c t) := by
  unfold bodyPre bodyPost bodyAt0
  have hN : t.val < 8 := lt_of_lt_of_eq t.isLt (show cfg0.N = 8 from N_0)
  simp only [before_0, before_1, before_2, before_3, before_4, before_5, before_6, before_7, before_8, before_9]
  rw [show (dats m 0 c).owesAt () t.succ = (dats m 0 c).owesAt () t.castSucc from rfl, PhiS_succ, PhiS_castSucc]
  rw [leaves_0, leaves_1, leaves_2, leaves_3, leaves_4, leaves_5, leaves_6, leaves_7, leaves_8, leaves_9, leaves_10, leaves_11, leaves_12, leaves_13, leaves_14]
  rw [Dat.leavesExact_idle (dats m 0 c) 15 t (idleAt0_15_C t (fun h => h0 ((hcond0_0 t).mp h)) ((hcond0_1 t).mpr h1) (fun h => h2 ((hcond0_2 t).mp h))) (noFlush0_15_C t (fun h => h0 ((hcond0_0 t).mp h)) ((hcond0_1 t).mpr h1) (fun h => h2 ((hcond0_2 t).mp h)))]
  rw [Dat.leavesExact_idle (dats m 0 c) 16 t (idleAt0_16_C t (fun h => h0 ((hcond0_0 t).mp h)) ((hcond0_1 t).mpr h1) (fun h => h2 ((hcond0_2 t).mp h))) (noFlush0_16_C t (fun h => h0 ((hcond0_0 t).mp h)) ((hcond0_1 t).mpr h1) (fun h => h2 ((hcond0_2 t).mp h)))]
  have hz : t.val ≠ 0 := fun h => h0 (by rw [h])
  rw [PhiS_pos m c _ _ hz]
  simp only [before_dws m c t hz, before_dbs m c t hz, before_dg m c t hz]
  rw [leftAt_C m c t h0 h1 h2]
  unfold scratchAt leftC
  dsimp only
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((runC m c t h0 h1 h2 (before m c t)).2.2.2.2.2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexact H12
  isplitl [H13]; · iexact H13
  isplitl [H14]; · iexact H14
  isplitl [H15]; · iexact H15
  isplitl [H16]; · iexact H16
  isplitl [HS0]; · iexact HS0
  isplitl [HS1]; · iexact HS1
  isplitl [HS2]; · iexact HS2
  isplitl [HS3]; · iexact HS3
  isplitl [HS4]; · iexists _; iexact HS4
  iintro ⟨H0, H1, H2, H3, H4, H5, H6, H7, H8, H9, ⟨%e10, H10⟩, ⟨%e11, H11⟩, ⟨%e12, H12⟩, ⟨%e13, H13⟩, ⟨%e14, H14⟩, H15, H16, HS0, HS1, ⟨%es2, HS2⟩, ⟨%es3, HS3⟩, ⟨%es4, HS4⟩⟩
  isplitl [HS0 HS1 HS2 HS3 HS4 Hg]
  · isplitl [HS0 HS1 HS2 HS3 HS4]
    · isplitl [HS0]
      · iexact HS0
      isplitl [HS1]
      · iexact HS1
      isplitl [HS2]
      · unfold owns; iexists _; isplitr
        swap; · iexact HS2
        ipureintro; exact View.read_writes_of_cover _ _ _ _ _ (coverC_dbias m c t h0 h1 h2 (before m c t))
      isplitl [HS3]
      · unfold owns; iexists _; isplitr
        swap; · iexact HS3
        ipureintro; exact View.read_writes_of_cover _ _ _ _ _ (coverC_dsinkcol m c t h0 h1 h2 (before m c t))
      unfold owns; iexists _; isplitr
      swap; · iexact HS4
      ipureintro; exact View.read_writes_of_cover _ _ _ _ _ (coverC_carry m c t h0 h1 h2 (before m c t))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (coverC_dpupv m c t h0 h1 h2 (before m c t))
  isplitl [H11]
  · unfold owns; iexists _; isplitr
    swap; · iexact H11
    ipureintro; exact View.read_writes_of_cover _ _ _ _ _ (coverC_dqkv m c t h0 h1 h2 (before m c t))
  isplitl [H12]
  · unfold owns; iexists _; isplitr
    swap; · iexact H12
    ipureintro; exact View.read_writes_of_cover _ _ _ _ _ (coverC_dws m c t h0 h1 h2 (before m c t))
  isplitl [H13]
  · unfold owns; iexists _; isplitr
    swap; · iexact H13
    ipureintro; exact View.read_writes_of_cover _ _ _ _ _ (coverC_dbs m c t h0 h1 h2 (before m c t))
  isplitl [H14]
  · unfold owns; iexists _; isplitr
    swap; · iexact H14
    ipureintro; exact View.read_writes_of_cover _ _ _ _ _ (coverC_dg m c t h0 h1 h2 (before m c t))
  isplitl [H15]
  · iexists _; iexact H15
  iexists _; iexact H16

set_option maxHeartbeats 16000000 in
/-- The body at the last point: the small gradients are summed. -/
theorem sound_D (c : Dev nD) (t : Fin cfg0.N) (h0 : ¬t.val % 8 = 0) (h1 : ¬t.val % 4 = 0) (h2 : t.val % 8 = 7) :
    bodyPre m c t ⊢ wp frame (wpE (defs₀ (F := F)) Variants.none c none) Set.univ (bodyAt0 t) (fun _ => bodyPost m c t) := by
  unfold bodyPre bodyPost bodyAt0
  have hN : t.val < 8 := lt_of_lt_of_eq t.isLt (show cfg0.N = 8 from N_0)
  simp only [before_0, before_1, before_2, before_3, before_4, before_5, before_6, before_7, before_8, before_9]
  rw [show (dats m 0 c).owesAt () t.succ = (dats m 0 c).owesAt () t.castSucc from rfl, PhiS_succ, PhiS_castSucc]
  rw [leaves_0, leaves_1, leaves_2, leaves_3, leaves_4, leaves_5, leaves_6, leaves_7, leaves_8, leaves_9, leaves_10, leaves_11, leaves_12, leaves_13, leaves_14]
  rw [show (dats m 0 c).leavesExact 15 t = owns (c : Thread nD τ) (ms0_15 t) fullShare (leftAt m c t.val t.isLt).dsink from by
    unfold Dat.leavesExact; rw [liveAt0_15_D t (fun h => h0 ((hcond0_0 t).mp h)) (fun h => h1 ((hcond0_1 t).mp h)) ((hcond0_2 t).mpr h2), after_dsink]]
  rw [show (dats m 0 c).leavesExact 16 t = owns (c : Thread nD τ) (ms0_16 t) fullShare (leftAt m c t.val t.isLt).drb from by
    unfold Dat.leavesExact; rw [liveAt0_16_D t (fun h => h0 ((hcond0_0 t).mp h)) (fun h => h1 ((hcond0_1 t).mp h)) ((hcond0_2 t).mpr h2), after_drb]]
  have hz : t.val ≠ 0 := fun h => h0 (by rw [h])
  rw [PhiS_pos m c _ _ hz]
  simp only [before_dws m c t hz, before_dbs m c t hz, before_dg m c t hz]
  rw [leftAt_D m c t h0 h1 h2]
  unfold scratchAt leftD
  dsimp only
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((runD m c t h0 h1 h2 (before m c t)).2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexact H12
  isplitl [H13]; · iexact H13
  isplitl [H14]; · iexact H14
  isplitl [H15]; · iexists _; iexact H15
  isplitl [H16]; · iexists _; iexact H16
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%e16, H16⟩, HS0, HS1, ⟨%es2, HS2⟩, ⟨%es3, HS3⟩, ⟨%es4, HS4⟩⟩
  isplitl [HS0 HS1 HS2 HS3 HS4 Hg]
  · isplitl [HS0 HS1 HS2 HS3 HS4]
    · isplitl [HS0]
      · iexact HS0
      isplitl [HS1]
      · iexact HS1
      isplitl [HS2]
      · unfold owns; iexists _; isplitr
        swap; · iexact HS2
        ipureintro; exact View.read_writes_of_cover _ _ _ _ _ (coverD_dbias m c t h0 h1 h2 (before m c t))
      isplitl [HS3]
      · unfold owns; iexists _; isplitr
        swap; · iexact HS3
        ipureintro; exact View.read_writes_of_cover _ _ _ _ _ (coverD_dsinkcol m c t h0 h1 h2 (before m c t))
      unfold owns; iexists _; isplitr
      swap; · iexact HS4
      ipureintro; exact View.read_writes_of_cover _ _ _ _ _ (coverD_carry m c t h0 h1 h2 (before m c t))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (coverD_dpupv m c t h0 h1 h2 (before m c t))
  isplitl [H11]
  · unfold owns; iexists _; isplitr
    swap; · iexact H11
    ipureintro; exact View.read_writes_of_cover _ _ _ _ _ (coverD_dqkv m c t h0 h1 h2 (before m c t))
  isplitl [H12]
  · unfold owns; iexists _; isplitr
    swap; · iexact H12
    ipureintro; exact View.read_writes_of_cover _ _ _ _ _ (coverD_dws m c t h0 h1 h2 (before m c t))
  isplitl [H13]
  · unfold owns; iexists _; isplitr
    swap; · iexact H13
    ipureintro; exact View.read_writes_of_cover _ _ _ _ _ (coverD_dbs m c t h0 h1 h2 (before m c t))
  isplitl [H14]
  · unfold owns; iexists _; isplitr
    swap; · iexact H14
    ipureintro; exact View.read_writes_of_cover _ _ _ _ _ (coverD_dg m c t h0 h1 h2 (before m c t))
  isplitl [H15]
  · unfold owns; iexists _; isplitr
    swap; · iexact H15
    ipureintro; exact View.read_writes_of_cover _ _ _ _ _ (coverD_dsink m c t h0 h1 h2 (before m c t))
  unfold owns; iexists _; isplitr
  swap; · iexact H16
  ipureintro; exact View.read_writes_of_cover _ _ _ _ _ (coverD_drb m c t h0 h1 h2 (before m c t))

theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact sound_A m c t h0 (by omega) (by omega)
  by_cases h1 : t.val % 4 = 0
  · exact sound_C m c t h0 h1 (by omega)
  by_cases h2 : t.val % 8 = 7
  · exact sound_D m c t h0 h1 h2
  exact sound_B m c t h0 h1 h2

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  have hN : cfg0.N = 8 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA0_eq]
  unfold scratchAt
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

set_option backward.isDefEq.respectTransparency.types false in
/-- The launch: every array of the pipeline ends at what the proof data says, and every counter ends at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.KernelIdeal.Mix
-- ==== Proof.DwUp.lean ====
module

public import proofs.«01_k».proof.Defs
public import proofs.«01_k».proof.Proof.Gen.Kernel3
public import proofs.«01_k».proof.Proof.Gen.Kernel3Ideal.Value
public import proofs.«01_k».proof.Proof.Gen.Reference3Ideal.Read
public import Idealize.ShloMosaic.Lib.Pipeline.ValueKit
public import Idealize.ShloMosaic.Lib.Claim

@[expose] public section

set_option maxRecDepth 16384

noncomputable section

/-!
# The gradient of the up-projection's weight

Row `f`, column `d` is the sum over the tokens of the cotangent at `f` times the normalised input at `d`. A point of the
grid computes 512 rows of it.
-/

namespace Cert.DwUp

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ) (c : Dev nD)

/-- The product of a transposed array and another. -/
def dw (a : Vec Ideal S4096x5632 .bf16) (b : Vec Ideal S4096x1024 .bf16) : Vec Ideal S5632x1024 .bf16 := fun i =>
  (∑ k : Fin 4096, (a (ix2 k (i 0)) : EReal) * (b (ix2 k (i 1)) : EReal) : EReal)

theorem idx : ∀ t : Fin cfg0.N, win0_0.index t = ![0, t.val] ∧ win0_1.index t = ![0, 0] ∧ win0_2.index t = ![t.val, 0] :=
  (by decide +kernel : ∀ t : Fin grid0.N, _)

theorem final : (dats m 0 c).arrAt 2 cfg0.N = dw (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  idx_vars y
  pointwise [k0_pay1, dw]
  blk_point [iblk, V, idx t]

/-- The kernel's gradient is the reference's. -/
theorem values : Cert.algebraic_Kernel3Ideal_Reference3Ideal := by
  pair_intro
  · run_from Cert.Kernel3Ideal.Value.run_blocks m g
  · run_from Cert.Reference3Ideal.Value.run m' g'
    rw [final m c]
    funext i
    refine (Cert.Reference3Ideal.Read.val_main_v7_apply _ _ i).trans ?_
    idx_vars i
    pointwise [dw, Cert.Reference3Ideal.Read.val_main_v6, Cert.Reference3Ideal.Read.val_main_v5, Cert.Reference3Ideal.Read.val_main_v4, Cert.Reference3Ideal.Read.val_main_v1, Cert.Reference3Ideal.Read.val_main_v0]

/-- What the kernel's run leaves of the arguments and the counters. -/
theorem frame : Cert.quiescent_Kernel3Ideal := fun m ρ _ => Cert.Kernel3Ideal.Gen.frame m ρ

/-- The same of the text over machine words. -/
theorem frame_words : Cert.quiescent_Kernel3 :=
  (show (∀ m ρ, True → type_of% (Cert.Kernel3Ideal.Gen.frame (F := Bits) m ρ)) = Cert.quiescent_Kernel3 by sl_kernel_rfl) ▸
    fun m ρ _ => Cert.Kernel3Ideal.Gen.frame m ρ

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

end Cert.DwUp
-- ==== Proof.DwIn.lean ====
module

public import proofs.«01_k».proof.Defs
public import proofs.«01_k».proof.Proof.Gen.Kernel4
public import proofs.«01_k».proof.Proof.Gen.Kernel4Ideal.Value
public import proofs.«01_k».proof.Proof.Gen.Reference4Ideal.Read
public import Idealize.ShloMosaic.Lib.Pipeline.ValueKit
public import Idealize.ShloMosaic.Lib.Claim

@[expose] public section

set_option maxRecDepth 16384

noncomputable section

/-!
# The gradient of the input projection's weight

The projection's columns are three groups of the cotangents' columns: the gated branches', the attention's and the
gates'. Row `f`, column `d` is the sum over the tokens of the cotangent at `f` times the normalised input at `d`. A point
of the grid computes 256 rows of it, out of one of the three groups.
-/

namespace Cert.DwIn

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ) (c : Dev nD)

/-- Entry `f` of the three groups of columns side by side, at token `k`. -/
def col (a0 : Vec Ideal S4096x1024 .bf16) (a1 : Vec Ideal S4096x768 .bf16) (a2 : Vec Ideal S4096x2048 .bf16) (k : Fin 4096) (f : Fin 3840) : EReal :=
  if h : f.val < 1024 then a0 (ix2 k ⟨f.val, h⟩)
  else if h' : f.val - 1024 < 768 then a1 (ix2 k ⟨f.val - 1024, h'⟩)
  else a2 (ix2 k ⟨f.val - 1024 - 768, by omega⟩)

/-- The product of the transposed three groups and an array. -/
def dw (a0 : Vec Ideal S4096x1024 .bf16) (a1 : Vec Ideal S4096x768 .bf16) (a2 : Vec Ideal S4096x2048 .bf16) (b : Vec Ideal S4096x1024 .bf16) :
    Vec Ideal S3840x1024 .bf16 := fun i =>
  (∑ k : Fin 4096, col a0 a1 a2 k (i 0) * (b (ix2 k (i 1)) : EReal) : EReal)

theorem idx : ∀ t : Fin cfg0.N, (t.val < 4 → win0_0.index t = ![0, t.val]) ∧ (4 ≤ t.val → t.val ≤ 6 → win0_1.index t = ![0, t.val - 4]) ∧
    (7 ≤ t.val → win0_2.index t = ![0, t.val - 7]) ∧ win0_3.index t = ![0, 0] ∧ win0_4.index t = ![t.val, 0] :=
  (by decide +kernel : ∀ t : Fin grid0.N, _)

/-- The row of the result that row `y0` of point `t`'s block is. -/
theorem row (t : Fin cfg0.N) (y0 : Fin 256) (y1 : Fin 1024) (h : t.val * 256 + y0.val < 3840) :
    ((View.whole main_v0).slice (win0_4.rect t)).emb (ix2 y0 y1) = ix2 ⟨t.val * 256 + y0.val, h⟩ y1 := by
  show (win0_4.blk t).view.emb (ix2 y0 y1) = _
  blk_ext! [idx t]

theorem final : (dats m 0 c).arrAt 4 cfg0.N = dw (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  have ht : t.val < 15 := t.isLt
  have hr : ∀ (y0 : Fin 256) (y1 : Fin 1024), (((View.whole main_v0).slice (win0_4.rect t)).emb (ix2 y0 y1) 0).val = t.val * 256 + y0.val :=
    fun y0 y1 => congrArg (fun i : S3840x1024.Idx => (i 0).val) (row t y0 y1 (by omega))
  blk_simp
  rw [after0_4]
  by_cases h0 : t.val < 4
  · rw [outsAt0_A m c t h0 (by omega) (by omega)]
    frame_out
    idx_vars y
    pointwise [k0_pay1, dw, col]
    blk_point [iblk, V, (idx t).1 h0, (idx t).2.2.2]
    all_goals (have := hr y0 y1; omega)
  by_cases h2 : 7 ≤ t.val
  · rw [outsAt0_C m c t h0 (by omega) h2]
    frame_out
    idx_vars y
    pointwise [k0_pay3, dw, col]
    blk_point [iblk, V, (idx t).2.2.1 h2, (idx t).2.2.2]
    all_goals (have := hr y0 y1; omega)
  · rw [outsAt0_B m c t h0 (by omega) h2]
    frame_out
    idx_vars y
    pointwise [k0_pay2, dw, col]
    blk_point [iblk, V, (idx t).2.1 (by omega) (by omega), (idx t).2.2.2]
    all_goals (have := hr y0 y1; omega)

/-- The kernel's gradient is the reference's. -/
theorem values : Cert.algebraic_Kernel4Ideal_Reference4Ideal := by
  pair_intro
  · run_from Cert.Kernel4Ideal.Value.run_blocks m g
  · run_from Cert.Reference4Ideal.Value.run m' g'
    rw [final m c]
    funext i
    refine (Cert.Reference4Ideal.Read.val_main_v10_apply _ _ _ _ i).trans ?_
    idx_vars i
    pointwise [dw, col, Cert.Reference4Ideal.Read.val_main_v9, Cert.Reference4Ideal.Read.val_main_v8, Cert.Reference4Ideal.Read.val_main_v7, Cert.Reference4Ideal.Read.val_main_v4, Cert.Reference4Ideal.Read.val_main_v3, Cert.Reference4Ideal.Read.val_main_v2, Cert.Reference4Ideal.Read.val_main_v1, Cert.Reference4Ideal.Read.val_main_v0]

/-- What the kernel's run leaves of the arguments and the counters. -/
theorem frame : Cert.quiescent_Kernel4Ideal := fun m ρ _ => Cert.Kernel4Ideal.Gen.frame m ρ

/-- The same of the text over machine words. -/
theorem frame_words : Cert.quiescent_Kernel4 :=
  (show (∀ m ρ, True → type_of% (Cert.Kernel4Ideal.Gen.frame (F := Bits) m ρ)) = Cert.quiescent_Kernel4 by sl_kernel_rfl) ▸
    fun m ρ _ => Cert.Kernel4Ideal.Gen.frame m ρ

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

end Cert.DwIn
-- ==== Proof.DwBranches.lean ====
module

public import proofs.«01_k».proof.Defs
public import proofs.«01_k».proof.Proof.Gen.Kernel5
public import proofs.«01_k».proof.Proof.Gen.Kernel5Ideal.Value
public import proofs.«01_k».proof.Proof.Gen.Reference5Ideal.Read
public import Idealize.ShloMosaic.Lib.Pipeline.ValueKit
public import Idealize.ShloMosaic.Lib.Claim

@[expose] public section

set_option maxRecDepth 16384

noncomputable section

/-!
# The gradient of the branches' projections' weights

The two branches' gradients lie side by side. Row `p`, column `e` of each is the sum over the tokens of the branch's
projected cotangent at `p` times the branch's output at `e`. A point of the grid computes 512 rows of both.
-/

namespace Cert.DwBranches

open Idealize.ShloMosaic Idealize.ShloMosaic.TcCoe Idealize.SL.Sem
open Idealize.ShloMosaic.Pipeline (Dat)
open Cert.Kernel5Ideal Cert.Kernel5Ideal.Gen

variable (m : (ℓ : Loc nD τ sig) → Buf (Elt Ideal) ℓ) (c : Dev nD)

/-- The two branches' products, side by side. -/
def dw (a : Vec Ideal S4096x2048 .bf16) (b : Vec Ideal S4096x1024 .bf16) : Vec Ideal S1024x1024 .bf16 := fun i =>
  if h : (i 1).val < 512 then (∑ k : Fin 4096, (a (ix2 k ⟨(i 0).val, (i 0).isLt.trans (by decide)⟩) : EReal) * (b (ix2 k (i 1)) : EReal) : EReal)
  else (∑ k : Fin 4096, (a (ix2 k ⟨1024 + (i 0).val, Nat.add_lt_add_left (i 0).isLt 1024⟩) : EReal) * (b (ix2 k (i 1)) : EReal) : EReal)

theorem idx : ∀ t : Fin cfg0.N, win0_0.index t = ![0, t.val] ∧ win0_1.index t = ![0, t.val + 2] ∧ win0_2.index t = ![0, 0] ∧ win0_3.index t = ![t.val, 0] :=
  (by decide +kernel : ∀ t : Fin grid0.N, _)

/-- A block's columns are the result's. -/
theorem col (t : Fin cfg0.N) (y : S512x1024.Idx) : (((View.whole main_v0).slice (win0_3.rect t)).emb y 1).val = (y 1).val := by
  show ((win0_3.blk t).view.emb y 1).val = (y 1).val
  blk_simp [idx t]

theorem final : (dats m 0 c).arrAt 3 cfg0.N = dw (m ((c : Thread nD τ).loc main_arg0)) (m ((c : Thread nD τ).loc main_arg1)) := by
  refine (dats m 0 c).arrAt_eq_of_covers 3 _ (by decide +kernel) fun t hf y => ?_
  blk_simp
  rw [after0_3]
  frame_out
  canon_tiles x h
  all_goals pointwise [k0_pay1, k0_pay2, dw]
  · blk_point [iblk, V, idx t]
    all_goals (have := col t y; omega)
  · blk_point [iblk, V, idx t]
    all_goals (have := col t y; omega)

/-- The kernel's gradients are the reference's. -/
theorem values : Cert.algebraic_Kernel5Ideal_Reference5Ideal := by
  pair_intro
  · run_from Cert.Kernel5Ideal.Value.run_blocks m g
  · run_from Cert.Reference5Ideal.Value.run m' g'
    rw [final m c]
    funext i
    refine (Cert.Reference5Ideal.Read.val_main_v23_apply _ _ i).trans ?_
    idx_vars i
    pointwise [dw, Cert.Reference5Ideal.Read.val_main_v22, Cert.Reference5Ideal.Read.val_main_v21, Cert.Reference5Ideal.Read.val_main_v20, Cert.Reference5Ideal.Read.val_main_v19, Cert.Reference5Ideal.Read.val_main_v18, Cert.Reference5Ideal.Read.val_main_v17, Cert.Reference5Ideal.Read.val_main_v14, Cert.Reference5Ideal.Read.val_main_v13, Cert.Reference5Ideal.Read.val_main_v12, Cert.Reference5Ideal.Read.val_main_v11, Cert.Reference5Ideal.Read.val_main_v10, Cert.Reference5Ideal.Read.val_main_v9, Cert.Reference5Ideal.Read.val_main_v8, Cert.Reference5Ideal.Read.val_main_v7, Cert.Reference5Ideal.Read.val_main_v6, Cert.Reference5Ideal.Read.val_main_v3, Cert.Reference5Ideal.Read.val_main_v2, Cert.Reference5Ideal.Read.val_main_v1, Cert.Reference5Ideal.Read.val_main_v0]
    blk_point

/-- What the kernel's run leaves of the arguments and the counters. -/
theorem frame : Cert.quiescent_Kernel5Ideal := fun m ρ _ => Cert.Kernel5Ideal.Gen.frame m ρ

/-- The same of the text over machine words. -/
theorem frame_words : Cert.quiescent_Kernel5 :=
  (show (∀ m ρ, True → type_of% (Cert.Kernel5Ideal.Gen.frame (F := Bits) m ρ)) = Cert.quiescent_Kernel5 by sl_kernel_rfl) ▸
    fun m ρ _ => Cert.Kernel5Ideal.Gen.frame m ρ

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

end Cert.DwBranches
-- ==== Proof.DwDown.lean ====
module

public import proofs.«01_k».proof.Defs
public import proofs.«01_k».proof.Proof.Gen.Kernel6
public import proofs.«01_k».proof.Proof.Gen.Kernel6Ideal.Value
public import proofs.«01_k».proof.Proof.Gen.Reference6Ideal.Read
public import Idealize.ShloMosaic.Lib.Pipeline.ValueKit
public import Idealize.ShloMosaic.Lib.Claim

@[expose] public section

set_option maxRecDepth 16384

noncomputable section

/-!
# The gradient of the down projection's weight

Row `f`, column `d` is the sum over the tokens of the activation at `f` times the cotangent at `d`. A point of the
grid computes 256 rows of it.
-/

namespace Cert.DwDown

open Idealize.ShloMosaic Idealize.ShloMosaic.TcCoe Idealize.SL.Sem
open Idealize.ShloMosaic.Pipeline (Dat)
open Cert.Kernel6Ideal Cert.Kernel6Ideal.Gen

variable (m : (ℓ : Loc nD τ sig) → Buf (Elt Ideal) ℓ) (c : Dev nD)

/-- The product of a transposed array and another. -/
def dw (a : Vec Ideal S4096x2816 .bf16) (b : Vec Ideal S4096x1024 .bf16) : Vec Ideal S2816x1024 .bf16 := fun i =>
  (∑ k : Fin 4096, (a (ix2 k (i 0)) : EReal) * (b (ix2 k (i 1)) : EReal) : EReal)

theorem idx : ∀ t : Fin cfg0.N, win0_0.index t = ![0, t.val] ∧ win0_1.index t = ![0, 0] ∧ win0_2.index t = ![t.val, 0] :=
  (by decide +kernel : ∀ t : Fin grid0.N, _)

theorem final : (dats m 0 c).arrAt 2 cfg0.N = dw (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  idx_vars y
  pointwise [k0_pay1, dw]
  blk_point [iblk, V, idx t]

/-- The kernel's gradient is the reference's. -/
theorem values : Cert.algebraic_Kernel6Ideal_Reference6Ideal := by
  pair_intro
  · run_from Cert.Kernel6Ideal.Value.run_blocks m g
  · run_from Cert.Reference6Ideal.Value.run m' g'
    rw [final m c]
    funext i
    refine (Cert.Reference6Ideal.Read.val_main_v6_apply _ _ i).trans ?_
    idx_vars i
    pointwise [dw, Cert.Reference6Ideal.Read.val_main_v6, Cert.Reference6Ideal.Read.val_main_v5, Cert.Reference6Ideal.Read.val_main_v4, Cert.Reference6Ideal.Read.val_main_v1, Cert.Reference6Ideal.Read.val_main_v0]
    exact Finset.sum_congr rfl fun k _ => mul_comm _ _

/-- What the kernel's run leaves of the arguments and the counters. -/
theorem frame : Cert.quiescent_Kernel6Ideal := fun m ρ _ => Cert.Kernel6Ideal.Gen.frame m ρ

/-- The same of the text over machine words. -/
theorem frame_words : Cert.quiescent_Kernel6 :=
  (show (∀ m ρ, True → type_of% (Cert.Kernel6Ideal.Gen.frame (F := Bits) m ρ)) = Cert.quiescent_Kernel6 by sl_kernel_rfl) ▸
    fun m ρ _ => Cert.Kernel6Ideal.Gen.frame m ρ

theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

end Cert.DwDown
-- ==== Proof.DwOut.lean ====
module

public import proofs.«01_k».proof.Defs
public import proofs.«01_k».proof.Proof.Gen.Kernel7
public import proofs.«01_k».proof.Proof.Gen.Kernel7Ideal.Value
public import proofs.«01_k».proof.Proof.Gen.Reference7Ideal.Read
public import Idealize.ShloMosaic.Lib.Pipeline.ValueKit
public import Idealize.ShloMosaic.Lib.Claim

@[expose] public section

set_option maxRecDepth 16384

noncomputable section

/-!
# The gradient of the output projection's weight

Row `f`, column `d` is the sum over the tokens of the merged branches at `f` times the cotangent at `d`. A point of the
grid computes 512 rows of it.
-/

namespace Cert.DwOut

open Idealize.ShloMosaic Idealize.ShloMosaic.TcCoe Idealize.SL.Sem
open Idealize.ShloMosaic.Pipeline (Dat)
open Cert.Kernel7Ideal Cert.Kernel7Ideal.Gen

variable (m : (ℓ : Loc nD τ sig) → Buf (Elt Ideal) ℓ) (c : Dev nD)

/-- The product of a transposed array and another. -/
def dw (a : Vec Ideal S4096x1024 .bf16) (b : Vec Ideal S4096x1024 .bf16) : Vec Ideal S1024x1024 .bf16 := fun i =>
  (∑ k : Fin 4096, (a (ix2 k (i 0)) : EReal) * (b (ix2 k (i 1)) : EReal) : EReal)

theorem idx : ∀ t : Fin cfg0.N, win0_0.index t = ![0, t.val] ∧ win0_1.index t = ![0, 0] ∧ win0_2.index t = ![t.val, 0] :=
  (by decide +kernel : ∀ t : Fin grid0.N, _)

theorem final : (dats m 0 c).arrAt 2 cfg0.N = dw (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  idx_vars y
  pointwise [k0_pay1, dw]
  blk_point [iblk, V, idx t]

/-- The kernel's gradient is the reference's. -/
theorem values : Cert.algebraic_Kernel7Ideal_Reference7Ideal := by
  pair_intro
  · run_from Cert.Kernel7Ideal.Value.run_blocks m g
  · run_from Cert.Reference7Ideal.Value.run m' g'
    rw [final m c]
    funext i
    refine (Cert.Reference7Ideal.Read.val_main_v6_apply _ _ i).trans ?_
    idx_vars i
    pointwise [dw, Cert.Reference7Ideal.Read.val_main_v6, Cert.Reference7Ideal.Read.val_main_v5, Cert.Reference7Ideal.Read.val_main_v4, Cert.Reference7Ideal.Read.val_main_v1, Cert.Reference7Ideal.Read.val_main_v0]
    exact Finset.sum_congr rfl fun k _ => mul_comm _ _

/-- What the kernel's run leaves of the arguments and the counters. -/
theorem frame : Cert.quiescent_Kernel7Ideal := fun m ρ _ => Cert.Kernel7Ideal.Gen.frame m ρ

/-- The same of the text over machine words. -/
theorem frame_words : Cert.quiescent_Kernel7 :=
  (show (∀ m ρ, True → type_of% (Cert.Kernel7Ideal.Gen.frame (F := Bits) m ρ)) = Cert.quiescent_Kernel7 by sl_kernel_rfl) ▸
    fun m ρ _ => Cert.Kernel7Ideal.Gen.frame m ρ

theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

end Cert.DwOut
-- ==== Proof.Filled.lean ====
module

public import Idealize.ShloMosaic.Lib.Pipeline.ValueKit

@[expose] public section

noncomputable section

/-!
# A buffer that one store filled
-/

namespace Cert.Filled

open Idealize.ShloMosaic

/-- A load out of a buffer that one store of the whole buffer filled reads what was stored. -/
theorem filled {S : Shape} {e : EltTy} {sg : RefSig} {κ : Kind} {sp : Space} (v : View sg κ sp S e) {off : Fin S.rank → ℕ}
    (inb : ∀ a, off a + S.size a ≤ S.size a) (w : S.Idx → Elt Ideal e) (R : Rect S) (hz : ∀ a, off a = 0) :
    v.readCov (Val := Elt Ideal) [⟨Rect.unit off (no_index S.size) inb, w⟩] R.toLoadRect = View.ld w R := by
  rw [View.readCov_eq_canon']
  exact congrArg (View.ld · R) (View.canon_unit_zero (funext hz) inb w)

end Cert.Filled
-- ==== Proof.BwdMid.lean ====
module

public import proofs.«01_k».proof.Defs
public import proofs.«01_k».proof.Proof.Gen.Kernel2
public import proofs.«01_k».proof.Proof.Gen.Kernel2Ideal.Value
public import proofs.«01_k».proof.Proof.Gen.Reference2Ideal.Read
public import Idealize.ShloMosaic.Lib.Pipeline.ValueKit
public import proofs.«01_k».proof.Proof.Filled
public import Idealize.ShloMosaic.Lib.VecWindow
public import Idealize.ShloMosaic.Lib.Pipeline.ReadBack
public import Idealize.ShloMosaic.Lib.Claim

@[expose] public section

set_option maxRecDepth 16384

noncomputable section

/-!
# The backward of the branches' projections and gates

A branch's gate scales its projection and the two scaled projections are added. The cotangent of their sum is the
incoming cotangent times the output weight, transposed. From it come the gradients of the gates' inputs, of the
projections and of the branches. A point of the grid computes 512 rows of all three. The first point copies the two
weights into scratch memory, where the later points find them.
-/

namespace Cert.BwdMid

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ) (c : Dev nD)

/-! ## The mathematics -/

/-- The gate. -/
def gate (x : EReal) : EReal := Ideal.div 1 (1 + Ideal.exp (0 - x))

/-- The cotangent of the two branches' sum. -/
def dmerged (x : Vec Ideal S4096x1024 .bf16) (wo : Vec Ideal S1024x1024 .bf16) (s : Fin 4096) (d : Fin 1024) : EReal :=
  ∑ k : Fin 1024, (x (ix2 s k) : EReal) * (wo (ix2 d k) : EReal)

/-- A branch's projection: the first branch reads the first 512 columns, the second the last. -/
def projA (y : Vec Ideal S4096x1024 .bf16) (wp : Vec Ideal S1024x1024 .bf16) (s : Fin 4096) (d : Fin 1024) : EReal :=
  ∑ e : Fin 512, (y (ix2 s ⟨e.val, e.isLt.trans (by decide)⟩) : EReal) * (wp (ix2 d ⟨e.val, e.isLt.trans (by decide)⟩) : EReal)

def projB (y : Vec Ideal S4096x1024 .bf16) (wp : Vec Ideal S1024x1024 .bf16) (s : Fin 4096) (d : Fin 1024) : EReal :=
  ∑ e : Fin 512, (y (ix2 s ⟨512 + e.val, Nat.add_lt_add_left e.isLt 512⟩) : EReal) * (wp (ix2 d ⟨512 + e.val, Nat.add_lt_add_left e.isLt 512⟩) : EReal)

/-- A branch's gate. -/
def gateA (g : Vec Ideal S4096x2048 .f32) (s : Fin 4096) (d : Fin 1024) : EReal := gate (g (ix2 s ⟨d.val, d.isLt.trans (by decide)⟩))

def gateB (g : Vec Ideal S4096x2048 .f32) (s : Fin 4096) (d : Fin 1024) : EReal := gate (g (ix2 s ⟨1024 + d.val, Nat.add_lt_add_left d.isLt 1024⟩))

section Mathematics

variable (x y : Vec Ideal S4096x1024 .bf16) (g : Vec Ideal S4096x2048 .f32) (wp wo : Vec Ideal S1024x1024 .bf16)

/-- The gates' gradients, the two branches side by side. -/
def dgates : Vec Ideal S4096x2048 .bf16 := fun i =>
  if h : (i 1).val < 1024 then
    dmerged x wo (i 0) ⟨(i 1).val, h⟩ * projA y wp (i 0) ⟨(i 1).val, h⟩ * (gateA g (i 0) ⟨(i 1).val, h⟩ * (1 - gateA g (i 0) ⟨(i 1).val, h⟩))
  else
    dmerged x wo (i 0) ⟨(i 1).val - 1024, Nat.sub_lt_left_of_lt_add (not_lt.mp h) (i 1).isLt⟩
      * projB y wp (i 0) ⟨(i 1).val - 1024, Nat.sub_lt_left_of_lt_add (not_lt.mp h) (i 1).isLt⟩
      * (gateB g (i 0) ⟨(i 1).val - 1024, Nat.sub_lt_left_of_lt_add (not_lt.mp h) (i 1).isLt⟩
        * (1 - gateB g (i 0) ⟨(i 1).val - 1024, Nat.sub_lt_left_of_lt_add (not_lt.mp h) (i 1).isLt⟩))

/-- The projections' gradients, the two branches side by side. -/
def dproj : Vec Ideal S4096x2048 .bf16 := fun i =>
  if h : (i 1).val < 1024 then dmerged x wo (i 0) ⟨(i 1).val, h⟩ * gateA g (i 0) ⟨(i 1).val, h⟩
  else dmerged x wo (i 0) ⟨(i 1).val - 1024, Nat.sub_lt_left_of_lt_add (not_lt.mp h) (i 1).isLt⟩
    * gateB g (i 0) ⟨(i 1).val - 1024, Nat.sub_lt_left_of_lt_add (not_lt.mp h) (i 1).isLt⟩

/-- The branches' gradients, side by side. -/
def dbranch : Vec Ideal S4096x1024 .f32 := fun i =>
  if h : (i 1).val < 512 then ∑ d : Fin 1024, dmerged x wo (i 0) d * gateA g (i 0) d * (wp (ix2 d (i 1)) : EReal)
  else ∑ d : Fin 1024, dmerged x wo (i 0) d * gateB g (i 0) d * (wp (ix2 d (i 1)) : EReal)

end Mathematics

/-! ## The kernel -/

theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] :=
  (by decide +kernel : ∀ t : Fin grid0.N, _)

/-- The first point's copies read the weights. -/
theorem copied3 : View.read (Elt Ideal) ((View.whole main_arg3).slice (Rect.unit ![0, 0] ![1024, 1024] inb_S1024x1024_S1024x1024_0_0)) (V m c main_arg3)
    = m ((c : Thread nD τ).loc main_arg3) := funext fun j =>
  (congrArg (V m c main_arg3) (Rect.emb_unit_full (s := S1024x1024) inb_S1024x1024_S1024x1024_0_0 j)).trans (congrFun (V_main_arg3 m c) j)

theorem copied4 : View.read (Elt Ideal) ((View.whole main_arg4).slice (Rect.unit ![0, 0] ![1024, 1024] inb_S1024x1024_S1024x1024_0_0)) (V m c main_arg4)
    = m ((c : Thread nD τ).loc main_arg4) := funext fun j =>
  (congrArg (V m c main_arg4) (Rect.emb_unit_full (s := S1024x1024) inb_S1024x1024_S1024x1024_0_0 j)).trans (congrFun (V_main_arg4 m c) j)

/-- After every point the two scratch buffers hold the weights, which the first point copied. -/
theorem weights (n : ℕ) (h : n < cfg0.N) : (outsAt0 m c n h).2.2.2 = (m ((c : Thread nD τ).loc main_arg3), m ((c : Thread nD τ).loc main_arg4)) := by
  have h8 : n < 8 := h
  induction n with
  | zero =>
    rw [outsAt0_A m c ⟨0, h⟩ rfl]
    frame_out
    exact congrArg₂ Prod.mk (copied3 m c) (copied4 m c)
  | succ n ih =>
    rw [outsAt0_B m c ⟨n + 1, h⟩ (by show ¬(n + 1) % 8 = 0; omega)]
    exact (show _ = (outsAt0 m c n (Nat.lt_of_succ_lt h)).2.2.2 from rfl).trans (ih (Nat.lt_of_succ_lt h) (by omega))

/-- The weights a point reads. -/
abbrev wp : Vec Ideal S1024x1024 .bf16 := m ((c : Thread nD τ).loc main_arg3)

abbrev wo : Vec Ideal S1024x1024 .bf16 := m ((c : Thread nD τ).loc main_arg4)

/-- A point's blocks of the three results, over the weights. -/
theorem left3 (t : Fin cfg0.N) : (outsAt0 m c t.val t.isLt).1 = View.canon
    [⟨Rect.unit ![0, 1024] ![512, 1024] inb_S512x2048_S512x1024_0_1024, k0_pay2 (k0_pay7 (iblk m c 0 t) (wo m c))
      (k0_pay8 (iblk m c 1 t) (View.ld (wp m c) (Rect.unit ![0, 512] ![1024, 512] inb_S1024x1024_S1024x512_0_512))) (k0_pay10 (iblk m c 2 t))⟩,
    ⟨Rect.unit ![0, 0] ![512, 1024] inb_S512x2048_S512x1024_0_0, k0_pay1 (k0_pay11 (iblk m c 0 t) (wo m c) (iblk m c 1 t)
      (View.ld (wp m c) (Rect.unit ![0, 0] ![1024, 512] inb_S1024x1024_S1024x512_0_0))) (k0_pay12 (iblk m c 2 t))⟩] := by
  by_cases h0 : t.val % 8 = 0
  · rw [outsAt0_A m c t h0]
    frame_out
    rw [copied3, copied4]
    simp only [Cert.Filled.filled (S := S1024x1024) _ _ _ _ (show ∀ a, (![0, 0] : Fin 2 → ℕ) a = 0 by decide)]
  · rw [outsAt0_B m c t h0]
    frame_out
    rw [weights m c (t.val - 1)]
    simp only [read_unread_whole]

theorem left4 (t : Fin cfg0.N) : (outsAt0 m c t.val t.isLt).2.1 = View.canon
    [⟨Rect.unit ![0, 1024] ![512, 1024] inb_S512x2048_S512x1024_0_1024, k0_pay4 (k0_pay7 (iblk m c 0 t) (wo m c)) (k0_pay10 (iblk m c 2 t))⟩,
    ⟨Rect.unit ![0, 0] ![512, 1024] inb_S512x2048_S512x1024_0_0, k0_pay3 (k0_pay7 (iblk m c 0 t) (wo m c)) (k0_pay9 (iblk m c 2 t))⟩] := by
  by_cases h0 : t.val % 8 = 0
  · rw [outsAt0_A m c t h0]
    frame_out
    rw [copied4]
  · rw [outsAt0_B m c t h0]
    frame_out
    rw [weights m c (t.val - 1)]
    simp only [read_unread_whole]

theorem left5 (t : Fin cfg0.N) : (outsAt0 m c t.val t.isLt).2.2.1 = View.canon
    [⟨Rect.unit ![0, 512] ![512, 512] inb_S512x1024_S512x512_0_512, k0_pay6 (k0_pay7 (iblk m c 0 t) (wo m c)) (k0_pay10 (iblk m c 2 t))
      (View.ld (wp m c) (Rect.unit ![0, 512] ![1024, 512] inb_S1024x1024_S1024x512_0_512))⟩,
    ⟨Rect.unit ![0, 0] ![512, 512] inb_S512x1024_S512x512_0_0, k0_pay5 (k0_pay7 (iblk m c 0 t) (wo m c)) (k0_pay9 (iblk m c 2 t))
      (View.ld (wp m c) (Rect.unit ![0, 0] ![1024, 512] inb_S1024x1024_S1024x512_0_0))⟩] := by
  by_cases h0 : t.val % 8 = 0
  · rw [outsAt0_A m c t h0]
    frame_out
    rw [copied3, copied4]
    simp only [Cert.Filled.filled (S := S1024x1024) _ _ _ _ (show ∀ a, (![0, 0] : Fin 2 → ℕ) a = 0 by decide)]
  · rw [outsAt0_B m c t h0]
    frame_out
    rw [weights m c (t.val - 1)]
    simp only [read_unread_whole]

/-- A block's columns are the result's. -/
theorem col3 (t : Fin cfg0.N) (y : S512x2048.Idx) : (((View.whole main_v1_0).slice (win0_3.rect t)).emb y 1).val = (y 1).val := by
  show ((win0_3.blk t).view.emb y 1).val = (y 1).val
  blk_simp [idx t]

theorem final_dgates : (dats m 0 c).arrAt 3 cfg0.N = dgates (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 3 _ (by decide +kernel) fun t hf y => ?_
  have ht : t.val < 8 := t.isLt
  blk_simp
  rw [after0_3]
  rw [left3]
  canon_tiles x h
  all_goals pointwise [k0_pay1, k0_pay2, k0_pay7, k0_pay8, k0_pay9, k0_pay10, k0_pay11, k0_pay12, dgates, dmerged, projA, projB, gateA, gateB, gate]
  · blk_point [iblk, V, idx t]
    all_goals (have := col3 t y; omega)
  · blk_point [iblk, V, idx t]
    all_goals (have := col3 t y; omega)

theorem col4 (t : Fin cfg0.N) (y : S512x2048.Idx) : (((View.whole main_v1_1).slice (win0_4.rect t)).emb y 1).val = (y 1).val := by
  show ((win0_4.blk t).view.emb y 1).val = (y 1).val
  blk_simp [idx t]

theorem final_dproj : (dats m 0 c).arrAt 4 cfg0.N = dproj (m ((c : Thread nD τ).loc main_arg0))
    (m ((c : Thread nD τ).loc main_arg2)) (m ((c : Thread nD τ).loc main_arg4)) := by
  refine (dats m 0 c).arrAt_eq_of_covers 4 _ (by decide +kernel) fun t hf y => ?_
  have ht : t.val < 8 := t.isLt
  blk_simp
  rw [after0_4]
  rw [left4]
  canon_tiles x h
  all_goals pointwise [k0_pay3, k0_pay4, k0_pay7, k0_pay9, k0_pay10, dproj, dmerged, gateA, gateB, gate]
  · blk_point [iblk, V, idx t]
    all_goals (have := col4 t y; omega)
  · blk_point [iblk, V, idx t]
    all_goals (have := col4 t y; omega)

theorem col5 (t : Fin cfg0.N) (y : S512x1024.Idx) : (((View.whole main_v1_2).slice (win0_5.rect t)).emb y 1).val = (y 1).val := by
  show ((win0_5.blk t).view.emb y 1).val = (y 1).val
  blk_simp [idx t]

theorem final_dbranch : (dats m 0 c).arrAt 5 cfg0.N = dbranch (m ((c : Thread nD τ).loc main_arg0))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht : t.val < 8 := t.isLt
  blk_simp
  rw [after0_5]
  rw [left5]
  canon_tiles x h
  all_goals pointwise [k0_pay3, k0_pay4, k0_pay5, k0_pay6, k0_pay7, k0_pay9, k0_pay10, dbranch, dmerged, gateA, gateB, gate]
  · blk_point [iblk, V, idx t]
    all_goals (have := col5 t y; omega)
  · blk_point [iblk, V, idx t]
    all_goals (have := col5 t y; omega)

end Cert.BwdMid
-- ==== Proof.BwdMidRef.lean ====
module

public import proofs.«01_k».proof.Defs
public import proofs.«01_k».proof.Proof.BwdMid
public import proofs.«01_k».proof.Proof.Gen.Kernel2
public import proofs.«01_k».proof.Proof.Gen.Kernel2Ideal.Value
public import proofs.«01_k».proof.Proof.Gen.Reference2Ideal.Read
public import Idealize.ShloMosaic.Lib.Pipeline.ValueKit
public import Idealize.ShloMosaic.Lib.Claim

@[expose] public section

set_option maxRecDepth 16384

noncomputable section

/-!
# The backward of the branches' projections and gates, against the reference
-/

namespace Cert.BwdMid

open Idealize.ShloMosaic Idealize.ShloMosaic.TcCoe Idealize.SL.Sem
open Cert.Kernel2Ideal Cert.Reference2Ideal.Read

section Reference

variable (x y : Vec Ideal S4096x1024 .bf16) (g : Vec Ideal S4096x2048 .f32) (wp wo : Vec Ideal S1024x1024 .bf16)

/-! ## The reference's results -/

theorem ref_dgates : val_main_v46 (F := Ideal) x y g wp wo = dgates x y g wp wo := by
  funext i
  refine (val_main_v46_apply _ _ _ _ _ i).trans ?_
  idx_vars i
  pointwise [dgates, dmerged, projA, projB, gateA, gateB, gate, val_main_v49, val_main_v47, val_main_v45, val_main_v44, val_main_v43, val_main_v42, val_main_v41, val_main_v40, val_main_v39, val_main_v38, val_main_v37, val_main_v36, val_main_v35, val_main_v34, val_main_v33, val_main_v32, val_main_v31, val_main_v30, val_main_cst_4, val_main_v29, val_main_v28, val_main_cst_3, val_main_v27, val_main_v26, val_main_cst_2, val_main_v25, val_main_v24, val_main_v23, val_main_v22, val_main_v21, val_main_v20, val_main_cst_1, val_main_v19, val_main_v18, val_main_cst_0, val_main_v17, val_main_v16, val_main_cst, val_main_v15, val_main_v14, val_main_v13, val_main_v12, val_main_v11, val_main_v10, val_main_v9, val_main_v8, val_main_v7, val_main_v6, val_main_v5, val_main_v4, val_main_v3, val_main_v2, val_main_v1, val_main_v0]
  blk_point
  all_goals rw [zero_sub]

theorem ref_dproj : val_main_v48 (F := Ideal) x g wo = dproj x g wo := by
  funext i
  refine (val_main_v48_apply _ _ _ i).trans ?_
  idx_vars i
  pointwise [dproj, dmerged, gateA, gateB, gate, val_main_v49, val_main_v47, val_main_v45, val_main_v44, val_main_v43, val_main_v42, val_main_v41, val_main_v40, val_main_v39, val_main_v38, val_main_v37, val_main_v36, val_main_v35, val_main_v34, val_main_v33, val_main_v32, val_main_v31, val_main_v30, val_main_cst_4, val_main_v29, val_main_v28, val_main_cst_3, val_main_v27, val_main_v26, val_main_cst_2, val_main_v25, val_main_v24, val_main_v23, val_main_v22, val_main_v21, val_main_v20, val_main_cst_1, val_main_v19, val_main_v18, val_main_cst_0, val_main_v17, val_main_v16, val_main_cst, val_main_v15, val_main_v14, val_main_v13, val_main_v12, val_main_v11, val_main_v10, val_main_v9, val_main_v8, val_main_v7, val_main_v6, val_main_v5, val_main_v4, val_main_v3, val_main_v2, val_main_v1, val_main_v0]
  blk_point
  all_goals rw [zero_sub]

theorem ref_dbranch : val_main_v49 (F := Ideal) x g wp wo = dbranch x g wp wo := by
  funext i
  idx_vars i
  pointwise [dbranch, dmerged, gateA, gateB, gate, val_main_v49, val_main_v47, val_main_v45, val_main_v44, val_main_v43, val_main_v42, val_main_v41, val_main_v40, val_main_v39, val_main_v38, val_main_v37, val_main_v36, val_main_v35, val_main_v34, val_main_v33, val_main_v32, val_main_v31, val_main_v30, val_main_cst_4, val_main_v29, val_main_v28, val_main_cst_3, val_main_v27, val_main_v26, val_main_cst_2, val_main_v25, val_main_v24, val_main_v23, val_main_v22, val_main_v21, val_main_v20, val_main_cst_1, val_main_v19, val_main_v18, val_main_cst_0, val_main_v17, val_main_v16, val_main_cst, val_main_v15, val_main_v14, val_main_v13, val_main_v12, val_main_v11, val_main_v10, val_main_v9, val_main_v8, val_main_v7, val_main_v6, val_main_v5, val_main_v4, val_main_v3, val_main_v2, val_main_v1, val_main_v0]
  blk_point
  all_goals rw [zero_sub]

end Reference

/-- The kernel's three gradients are the reference's. -/
theorem values : Cert.algebraic_Kernel2Ideal_Reference2Ideal := by
  pair_intro
  · run_from Cert.Kernel2Ideal.Value.run_blocks m g
  · refine (θ_run Cert.Reference2Ideal.defs _ _).mono (fun r h c => ?_) (Cert.Reference2Ideal.Value.run m' g')
    obtain ⟨h0, h1, h2, h3, h4⟩ := hagree c
    refine ⟨(h c).1.trans ((ref_dgates _ _ _ _ _).trans ?_), (h c).2.1.trans ((ref_dproj _ _ _).trans ?_),
      (h c).2.2.1.trans ((ref_dbranch _ _ _ _).trans ?_), (h c).2.2.2⟩
    · rw [h0, h1, h2, h3, h4]
      exact (final_dgates m c).symm
    · rw [h0, h2, h4]
      exact (final_dproj m c).symm
    · rw [h0, h2, h3, h4]
      exact (final_dbranch m c).symm

/-- What the kernel's run leaves of the arguments and the counters. -/
theorem frame : Cert.quiescent_Kernel2Ideal := fun m ρ _ => Cert.Kernel2Ideal.Gen.frame m ρ

/-- The same of the text over machine words. -/
theorem frame_words : Cert.quiescent_Kernel2 :=
  (show (∀ m ρ, True → type_of% (Cert.Kernel2Ideal.Gen.frame (F := Bits) m ρ)) = Cert.quiescent_Kernel2 by sl_kernel_rfl) ▸
    fun m ρ _ => Cert.Kernel2Ideal.Gen.frame m ρ

theorem frame_reference : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run m ρ)

end Cert.BwdMid
-- ==== Proof.RmsBwd.lean ====
module

public import Idealize.ShloMosaic.Lib.Pipeline.ValueKit
public import Idealize.ShloMosaic.Lib.Pointwise

@[expose] public section

noncomputable section

/-!
# The backward of a root-mean-square normalisation

With `q` the reciprocal root of the row's mean square, the gradient of `x q` for the cotangent `D` is
`q (D - x q · mean (D x q))`. The derivative taken step by step is `D q + x p + p x`, where `p` is what reaches the mean
square. They agree at every row of extended reals: `q` is a real number that is not negative, and by such a number a sum
may be multiplied term by term.
-/

namespace Cert.RmsBwd

open Idealize.ShloMosaic

variable {n : ℕ}

/-- The reciprocal root of the mean square. -/
def root (x : Fin n → EReal) : EReal :=
  Ideal.rsqrt (Ideal.div (∑ k, x k * x k) (Ideal.ofBits FTy.f32 0x44800000#32) + Ideal.ofBits FTy.f32 0x358637BD#32)

/-- The normalisation's gradient. -/
def back (x D : Fin n → EReal) (i : Fin n) : EReal :=
  root x * (D i - x i * root x * Ideal.div (∑ k, D k * (x k * root x)) (Ideal.ofBits FTy.f32 0x44800000#32))

/-- What reaches the mean square, step by step. -/
def reach (x D : Fin n → EReal) : EReal :=
  Ideal.div ((∑ k, x k * D k) * (Ideal.ofBits FTy.f32 0xBF000000#32 * Ideal.div (root x)
    (Ideal.div (∑ k, x k * x k) (Ideal.ofBits FTy.f32 0x44800000#32) + Ideal.ofBits FTy.f32 0x358637BD#32)))
    (Ideal.ofBits FTy.f32 0x44800000#32)

theorem sum_mul {ι : Type} (s : Finset ι) (f : ι → EReal) {q : EReal} (h : 0 ≤ q) (ht : q ≠ ⊤) :
    ∑ k ∈ s, f k * q = (∑ k ∈ s, f k) * q := by
  classical
  induction s using Finset.induction_on with
  | empty => simp
  | insert a s ha ih => rw [Finset.sum_insert ha, Finset.sum_insert ha, ih, EReal.right_distrib_of_nonneg_of_ne_top h ht]

theorem ofBits_size : Ideal.ofBits FTy.f32 0x44800000#32 = ((1024 : ℝ) : EReal) := by
  simp [Ideal.ofBits, Ideal.ieee]
  rw [← EReal.coe_mul]
  congr 1
  norm_num

theorem ofBits_half : Ideal.ofBits FTy.f32 0xBF000000#32 = ((-(1 / 2) : ℝ) : EReal) := by
  simp [Ideal.ofBits, Ideal.ieee]
  rw [← EReal.coe_mul]
  congr 1
  norm_num

theorem ofBits_eps : ∃ e : ℝ, 0 < e ∧ Ideal.ofBits FTy.f32 0x358637BD#32 = (e : EReal) := by
  refine ⟨_, ?_, (by simp only [Ideal.ofBits, Ideal.ieee]; rfl)⟩
  have : (BitVec.extractLsb' (8 + 23) 1 897988541#32 == 1#1) = false := by decide
  rw [this]
  simp only [Bool.false_eq_true, if_false]
  positivity

theorem mul_self_nonneg (x : EReal) : 0 ≤ x * x := by
  rcases le_total 0 x with h | h
  · exact EReal.mul_nonneg h h
  · have := EReal.mul_nonneg (EReal.neg_nonneg.mpr h) (EReal.neg_nonneg.mpr h)
    rwa [neg_mul_neg] at this

theorem div_coe (x : EReal) {a : ℝ} (h : a ≠ 0) : Ideal.div x (a : EReal) = x * ((a⁻¹ : ℝ) : EReal) := by
  unfold Ideal.div
  rw [if_neg (by simpa using h), EReal.coe_inv]

/-- The core: `s` is the mean square with the small constant added. -/
theorem core (x D : Fin n → EReal) (i : Fin n) {s : EReal} (hs : 0 < s) :
    Ideal.rsqrt s * (D i - x i * Ideal.rsqrt s * ((∑ k, D k * (x k * Ideal.rsqrt s)) * (((1024 : ℝ)⁻¹ : ℝ) : EReal)))
      = D i * Ideal.rsqrt s + x i * ((∑ k, x k * D k) * (((-(1 / 2) : ℝ) : EReal) * Ideal.div (Ideal.rsqrt s) s) * (((1024 : ℝ)⁻¹ : ℝ) : EReal))
        + ((∑ k, x k * D k) * (((-(1 / 2) : ℝ) : EReal) * Ideal.div (Ideal.rsqrt s) s) * (((1024 : ℝ)⁻¹ : ℝ) : EReal)) * x i := by
  induction s with
  | bot => exact absurd hs (by simp)
  | top => simp [Ideal.div]
  | coe a =>
    have ha : 0 < a := by exact_mod_cast hs
    have hr : 0 < (Real.sqrt a)⁻¹ := inv_pos.mpr (Real.sqrt_pos.mpr ha)
    have ha' : a⁻¹ = (Real.sqrt a)⁻¹ * (Real.sqrt a)⁻¹ := by rw [← mul_inv, Real.mul_self_sqrt ha.le]
    rw [Ideal.rsqrt_coe, if_neg ha.not_gt, if_neg ha.ne', div_coe _ ha.ne', ha']
    generalize (Real.sqrt a)⁻¹ = r at hr
    have h0 : (0 : EReal) ≤ (r : EReal) := by exact_mod_cast hr.le
    have ht : (r : EReal) ≠ ⊤ := EReal.coe_ne_top r
    have e1 : ∑ k, D k * (x k * (r : EReal)) = (∑ k, x k * D k) * (r : EReal) := by
      rw [← sum_mul _ _ h0 ht]
      exact Finset.sum_congr rfl fun k _ => by rw [← mul_assoc, mul_comm (D k)]
    rw [e1]
    generalize ∑ k, x k * D k = S
    rw [mul_comm (r : EReal), sub_eq_add_neg, EReal.right_distrib_of_nonneg_of_ne_top h0 ht, add_assoc]
    congr 1
    have e2 : ∀ y : EReal, y + y = ((2 : ℝ) : EReal) * y := fun y => by
      rw [show ((2 : ℝ) : EReal) = 1 + 1 by norm_cast, EReal.right_distrib_of_nonneg zero_le_one zero_le_one, one_mul]
    rw [mul_comm _ (x i), e2]
    simp only [← mul_assoc]
    have e3 : -(x i * (r : EReal) * S * (r : EReal) * ((1024⁻¹ : ℝ) : EReal)) * (r : EReal)
        = x i * S * ((-(r * r * 1024⁻¹ * r) : ℝ) : EReal) := by
      rw [EReal.coe_neg, mul_neg, neg_mul]
      simp only [EReal.coe_mul]
      congr 1
      ac_rfl
    rw [e3]
    have e4 : ((2 : ℝ) : EReal) * x i * S * ((-(1 / 2) : ℝ) : EReal) * (r : EReal) * ((r * r : ℝ) : EReal) * ((1024⁻¹ : ℝ) : EReal)
        = x i * S * ((2 * (-(1 / 2)) * r * (r * r) * 1024⁻¹ : ℝ) : EReal) := by
      simp only [EReal.coe_mul]
      ac_rfl
    rw [e4]
    congr 2
    ring

/-- The gradient is the derivative taken step by step. -/
theorem back_eq (x D : Fin n → EReal) (i : Fin n) : back x D i = D i * root x + x i * reach x D + reach x D * x i := by
  obtain ⟨e, he, h⟩ := ofBits_eps
  unfold back reach root
  simp only [ofBits_size, ofBits_half, h, div_coe _ (show (1024 : ℝ) ≠ 0 by norm_num)]
  refine core x D i ?_
  refine lt_of_lt_of_le (show (0 : EReal) < (e : EReal) by exact_mod_cast he) (le_add_of_nonneg_left
    (EReal.mul_nonneg (Finset.sum_nonneg fun k _ => mul_self_nonneg _) ?_))
  exact_mod_cast (by norm_num : (0 : ℝ) ≤ 1024⁻¹)

/-! ## On 4096 rows of 1024 -/

section Rows

variable (dh x up : Fin 4096 → Fin 1024 → EReal) (g : Fin 1024 → EReal)

/-- The rows' gradient: what comes from above, and the normalisation's for the cotangent `dh` and the gain `g`. -/
def dx (s : Fin 4096) (d : Fin 1024) : EReal := up s d + back (x s) (fun k => dh s k * g k) d

/-- What a row adds to the gain's gradient. -/
def gainAt (s : Fin 4096) (d : Fin 1024) : EReal := dh s d * (x s d * root (x s))

/-- The gain's gradient. -/
def dgain (d : Fin 1024) : EReal := ∑ s, gainAt dh x s d

/-- The rows' gradient, derived step by step. -/
theorem dx_eq (s : Fin 4096) (d : Fin 1024) : dx dh x up g s d = up s d + (dh s d * g d * root (x s)
    + x s d * reach (x s) (fun k => dh s k * g k) + reach (x s) (fun k => dh s k * g k) * x s d) :=
  congrArg (up s d + ·) (back_eq _ _ _)

/-- The gain's gradient is the sum over eight blocks of 512 rows. -/
theorem dgain_eq (d : Fin 1024) : ∑ t : Fin 8, ∑ r : Fin 512, gainAt dh x ⟨t.val * 512 + r.val, by omega⟩ d = dgain dh x d :=
  (Fin.sum_univ_tiles 8 512 rfl fun s => gainAt dh x s d).symm

end Rows

end Cert.RmsBwd
-- ==== Proof.BwdUp.lean ====
module

public import proofs.«01_k».proof.Defs
public import proofs.«01_k».proof.Proof.Gen.Kernel8
public import proofs.«01_k».proof.Proof.Gen.Kernel8Ideal.Value
public import proofs.«01_k».proof.Proof.Gen.Reference8Ideal.Read
public import Idealize.ShloMosaic.Lib.Pipeline.ValueKit
public import proofs.«01_k».proof.Proof.Filled
public import proofs.«01_k».proof.Proof.RmsBwd
public import Idealize.ShloMosaic.Lib.VecWindow
public import Idealize.ShloMosaic.Lib.Pipeline.ReadBack
public import Idealize.ShloMosaic.Lib.Claim

@[expose] public section

set_option maxRecDepth 16384

noncomputable section

/-!
# The backward of the FFN's first product and of the normalisation before it

A point of the grid computes 512 rows of the residual's gradient and adds their part to the gain's gradient, which all
points share and the last writes back. The first point copies the weight into scratch memory, where the later points
find it.
-/

namespace Cert.BwdUp

open Idealize.ShloMosaic Idealize.ShloMosaic.TcCoe Idealize.SL.Sem
open Idealize.ShloMosaic.Pipeline (Dat)
open Cert.Kernel8Ideal Cert.Kernel8Ideal.Gen
open Cert.Reference8Ideal.Read
open Cert.RmsBwd (root back reach gainAt)

variable (m : (ℓ : Loc nD τ sig) → Buf (Elt Ideal) ℓ) (c : Dev nD)

/-! ## The mathematics -/

/-- An array by rows and columns. -/
abbrev rows (x : Vec Ideal S4096x1024 .f32) (s : Fin 4096) (d : Fin 1024) : EReal := x (ix2 s d)

/-- The gain by columns. -/
abbrev gain (g : Vec Ideal S1x1024 .f32) (d : Fin 1024) : EReal := g (ix2 0 d)

/-- The cotangent of the normalised rows. -/
def dh (du : Vec Ideal S4096x5632 .bf16) (w : Vec Ideal S5632x1024 .bf16) (s : Fin 4096) (d : Fin 1024) : EReal :=
  ∑ f : Fin 5632, (du (ix2 s f) : EReal) * (w (ix2 f d) : EReal)

section Mathematics

variable (du : Vec Ideal S4096x5632 .bf16) (x : Vec Ideal S4096x1024 .f32) (up : Vec Ideal S4096x1024 .f32)
  (g : Vec Ideal S1x1024 .f32) (w : Vec Ideal S5632x1024 .bf16)

/-- The residual's gradient. -/
def dx (i : S4096x1024.Idx) : EReal := RmsBwd.dx (dh du w) (rows x) (rows up) (gain g) (i 0) (i 1)

/-- The gain's gradient. -/
def dgain (i : S1x1024.Idx) : EReal := RmsBwd.dgain (dh du w) (rows x) (i 1)

end Mathematics

/-! ## The kernel -/

theorem idx : ∀ t : Fin cfg0.N, win0_0.index t = ![t.val, 0] ∧ win0_1.index t = ![t.val, 0] ∧ win0_2.index t = ![t.val, 0] ∧
    win0_3.index t = ![0, 0] ∧ win0_4.index t = ![t.val, 0] ∧ win0_5.index t = ![t.val, 0] ∧ win0_6.index t = ![0, 0] :=
  (by decide +kernel : ∀ t : Fin grid0.N, _)

/-- The first point's copy reads the weight. -/
theorem copied : View.read (Elt Ideal) ((View.whole main_arg4).slice (Rect.unit ![0, 0] ![5632, 1024] inb_S5632x1024_S5632x1024_0_0)) (V m c main_arg4)
    = m ((c : Thread nD τ).loc main_arg4) := funext fun j =>
  (congrArg (V m c main_arg4) (Rect.emb_unit_full (s := S5632x1024) inb_S5632x1024_S5632x1024_0_0 j)).trans (congrFun (V_main_arg4 m c) j)

/-- After every point the scratch buffer holds the weight, which the first point copied. -/
theorem weight (n : ℕ) (h : n < cfg0.N) : (outsAt0 m c n h).2.2.2 = m ((c : Thread nD τ).loc main_arg4) := by
  have h8 : n < 8 := h
  induction n with
  | zero =>
    rw [outsAt0_A m c ⟨0, h⟩ rfl]
    frame_out
    exact copied m c
  | succ n ih =>
    rw [outsAt0_B m c ⟨n + 1, h⟩ (by show ¬(n + 1) % 8 = 0; omega)]
    exact (show _ = (outsAt0 m c n (Nat.lt_of_succ_lt h)).2.2.2 from rfl).trans (ih (Nat.lt_of_succ_lt h) (by omega))

/-- The weight a point reads. -/
abbrev wu : Vec Ideal S5632x1024 .bf16 := m ((c : Thread nD τ).loc main_arg4)

/-- A point's blocks of the results, over the weight. -/
theorem left4 (t : Fin cfg0.N) : (outsAt0 m c t.val t.isLt).1 = k0_pay1 (k0_pay5 (iblk m c 1 t)) (k0_pay6 (iblk m c 1 t)) (iblk m c 2 t)
    (k0_pay8 (iblk m c 0 t) (wu m c) (iblk m c 3 t)) (k0_pay9 (iblk m c 0 t) (wu m c) (iblk m c 1 t) (iblk m c 3 t)) := by
  by_cases h0 : t.val % 8 = 0
  · rw [outsAt0_A m c t h0]
    frame_out
    rw [copied]
  · rw [outsAt0_B m c t h0]
    frame_out
    rw [weight m c (t.val - 1)]
    simp only [read_unread_whole]

theorem left6A (t : Fin cfg0.N) (h0 : t.val % 8 = 0) : (outsAt0 m c t.val t.isLt).2.2.1 = k0_pay7 (iblk m c 0 t) (wu m c) (iblk m c 1 t) (k0_pay3 (F := Ideal)) := by
  rw [outsAt0_A m c t h0]
  frame_out
  rw [copied]

theorem left6B (t : Fin cfg0.N) (h0 : ¬t.val % 8 = 0) : (outsAt0 m c t.val t.isLt).2.2.1
    = k0_pay7 (iblk m c 0 t) (wu m c) (iblk m c 1 t) (outsAt0 m c (t.val - 1) (by omega)).2.2.1 := by
  rw [outsAt0_B m c t h0]
  frame_out
  rw [weight m c (t.val - 1)]
  simp only [read_unread_whole]

theorem left5 (t : Fin cfg0.N) : (outsAt0 m c t.val t.isLt).2.1 = k0_pay2 (k0_pay5 (iblk m c 1 t)) (k0_pay6 (iblk m c 1 t)) (iblk m c 2 t)
    (k0_pay8 (iblk m c 0 t) (wu m c) (iblk m c 3 t)) (k0_pay9 (iblk m c 0 t) (wu m c) (iblk m c 1 t) (iblk m c 3 t)) := by
  by_cases h0 : t.val % 8 = 0
  · rw [outsAt0_A m c t h0]
    frame_out
    rw [copied]
  · rw [outsAt0_B m c t h0]
    frame_out
    rw [weight m c (t.val - 1)]
    simp only [read_unread_whole]

theorem final_dx : (dats m 0 c).arrAt 4 cfg0.N = dx (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 4 _ (by decide +kernel) fun t hf y => ?_
  have ht : t.val < 8 := t.isLt
  blk_simp
  rw [after0_4]
  rw [left4]
  pointwise [k0_pay1, k0_pay4, k0_pay5, k0_pay6, k0_pay8, k0_pay9, dx, RmsBwd.dx, dh, rows, gain, back, root]
  blk_point [iblk, V, idx t]

theorem final_dxb : (dats m 0 c).arrAt 5 cfg0.N = dx (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht : t.val < 8 := t.isLt
  blk_simp
  rw [after0_5]
  rw [left5]
  pointwise [k0_pay1, k0_pay2, k0_pay4, k0_pay5, k0_pay6, k0_pay8, k0_pay9, dx, RmsBwd.dx, dh, rows, gain, back, root]
  blk_point [iblk, V, idx t]

/-! The gain's gradient: every point adds the sum over its rows to what the point before it left. -/

/-- The last point, which writes the gain's gradient back. -/
def last : Fin cfg0.N := ⟨7, by decide⟩

/-- What a point adds to the gain's gradient. -/
def gainAdd (t : Fin cfg0.N) (d : Fin 1024) : EReal :=
  ∑ r : Fin 512, gainAt (dh (m ((c : Thread nD τ).loc main_arg0)) (wu m c)) (rows (m ((c : Thread nD τ).loc main_arg1)))
    ⟨t.val * 512 + r.val, by have ht : t.val < 8 := t.isLt; omega⟩ d

theorem gain_step (t : Fin cfg0.N) (acc : Vec Ideal S1x1024 .f32) (d : Fin 1024) :
    k0_pay7 (iblk m c 0 t) (wu m c) (iblk m c 1 t) acc (ix2 0 d) = acc (ix2 0 d) + gainAdd m c t d := by
  have ht : t.val < 8 := t.isLt
  pointwise [k0_pay4, k0_pay5, k0_pay6, k0_pay7, gainAdd, gainAt, dh, rows, root]
  blk_point [iblk, V, idx t]

theorem gain_last (d : Fin 1024) : (outsAt0 m c last.val last.isLt).2.2.1 (ix2 0 d) = 0 + ∑ t : Fin cfg0.N, gainAdd m c t d := by
  refine Pipeline.eq_sum_fin_of_reset_step_last (fun n hn => (outsAt0 m c n hn).2.2.1 (ix2 0 d)) 8 (0 : EReal)
    (fun t => gainAdd m c t d) (fun t h0 => ?_) (fun t h0 => ?_) (by decide) last (by decide)
  · rw [left6A m c t h0]
    refine (gain_step m c t _ d).trans ?_
    congr 1
    pointwise [k0_pay3]
  · rw [left6B m c t h0]
    exact gain_step m c t _ d

theorem final6 : (dats m 0 c).arrAt 6 cfg0.N = (outsAt0 m c last.val last.isLt).2.2.1 := by
  refine (dats m 0 c).arrAt_eq_of_after_last 6 last (by decide +kernel) _ fun j => ?_
  blk_simp
  rw [after0_6]

theorem final_dgain : (dats m 0 c).arrAt 6 cfg0.N = dgain (m ((c : Thread nD τ).loc main_arg0)) (m ((c : Thread nD τ).loc main_arg1))
    (m ((c : Thread nD τ).loc main_arg4)) := by
  rw [final6]
  funext j
  idx_vars j
  obtain rfl : j0 = 0 := Subsingleton.elim _ _
  refine (gain_last m c _).trans ?_
  rw [zero_add]
  exact RmsBwd.dgain_eq _ _ j1

section Reference

variable (du : Vec Ideal S4096x5632 .bf16) (x up : Vec Ideal S4096x1024 .f32) (g : Vec Ideal S1x1024 .f32) (w : Vec Ideal S5632x1024 .bf16)

theorem ref_dx : val_main_v42 (F := Ideal) du x up g w = dx du x up g w := by
  funext i
  idx_vars i
  refine Eq.trans ?_ (RmsBwd.dx_eq (dh du w) (rows x) (rows up) (gain g) i0 i1).symm
  pointwise [val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, reach, dh, rows, gain, root]
  simp only [Fin.sum_univ_one]

theorem ref_dxb : val_main_v44 (F := Ideal) du x up g w = dx du x up g w := by
  funext i
  refine (val_main_v44_apply _ _ _ _ _ i).trans ?_
  idx_vars i
  refine Eq.trans ?_ (RmsBwd.dx_eq (dh du w) (rows x) (rows up) (gain g) i0 i1).symm
  pointwise [val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, reach, dh, rows, gain, root]
  simp only [Fin.sum_univ_one]

theorem ref_dgain : val_main_v45 (F := Ideal) du x w = dgain du x w := by
  funext i
  idx_vars i
  pointwise [val_main_v45, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, dgain, RmsBwd.dgain, gainAt, dh, rows, root]
  simp only [Fin.sum_univ_one]
  exact Finset.sum_congr rfl fun s _ => mul_comm _ _

end Reference

/-- The kernel's gradients are the reference's. -/
theorem values : Cert.algebraic_Kernel8Ideal_Reference8Ideal := by
  pair_intro
  · run_from Cert.Kernel8Ideal.Value.run_blocks m g
  · refine (θ_run Cert.Reference8Ideal.defs _ _).mono (fun r h c => ?_) (Cert.Reference8Ideal.Value.run m' g')
    obtain ⟨h0, h1, h2, h3, h4⟩ := hagree c
    refine ⟨(h c).1.trans ((val_main_v42_eq m' c).trans ((ref_dx _ _ _ _ _).trans ?_)),
      (h c).2.1.trans ((val_main_v44_eq m' c).trans ((ref_dxb _ _ _ _ _).trans ?_)),
      (h c).2.2.1.trans ((ref_dgain _ _ _).trans ?_), (h c).2.2.2⟩
    · rw [h0, h1, h2, h3, h4]
      exact (final_dx m c).symm
    · rw [h0, h1, h2, h3, h4]
      exact (final_dxb m c).symm
    · rw [h0, h1, h4]
      exact (final_dgain m c).symm

/-- What the kernel's run leaves of the arguments and the counters. -/
theorem frame : Cert.quiescent_Kernel8Ideal := fun m ρ _ => Cert.Kernel8Ideal.Gen.frame m ρ

/-- The same of the text over machine words. -/
theorem frame_words : Cert.quiescent_Kernel8 :=
  (show (∀ m ρ, True → type_of% (Cert.Kernel8Ideal.Gen.frame (F := Bits) m ρ)) = Cert.quiescent_Kernel8 by sl_kernel_rfl) ▸
    fun m ρ _ => Cert.Kernel8Ideal.Gen.frame m ρ

theorem frame_reference : Cert.quiescent_Reference8Ideal := fun m ρ _ =>
  (θ_run Cert.Reference8Ideal.defs _ _).mono (fun r h => ⟨fun c => (h c).2.2.2, sem_eq_zero_of_no_sems (by decide) r.2⟩)
    (Cert.Reference8Ideal.Value.run m ρ)

end Cert.BwdUp
-- ==== Proof.BwdIn.lean ====
module

public import proofs.«01_k».proof.Defs
public import proofs.«01_k».proof.Proof.Gen.Kernel9
public import proofs.«01_k».proof.Proof.Gen.Kernel9Ideal.Value
public import proofs.«01_k».proof.Proof.Gen.Reference9Ideal.Read
public import Idealize.ShloMosaic.Lib.Pipeline.ValueKit
public import proofs.«01_k».proof.Proof.Filled
public import proofs.«01_k».proof.Proof.RmsBwd
public import Idealize.ShloMosaic.Lib.VecWindow
public import Idealize.ShloMosaic.Lib.Pipeline.ReadBack
public import Idealize.ShloMosaic.Lib.Claim

@[expose] public section

set_option maxRecDepth 16384

noncomputable section

/-!
# The backward of the input projection and of the normalisation before it

The cotangents come in three groups of columns, each with its rows of the weight. A point of the grid computes 512 rows
of the input's gradient and adds their part to the gain's gradient, which all points share and the last writes back. The
first point copies the weight into scratch memory, where the later points find it.
-/

namespace Cert.BwdIn

open Idealize.ShloMosaic Idealize.ShloMosaic.TcCoe Idealize.SL.Sem
open Idealize.ShloMosaic.Pipeline (Dat)
open Cert.Kernel9Ideal Cert.Kernel9Ideal.Gen
open Cert.Reference9Ideal.Read
open Cert.RmsBwd (root back reach gainAt)

variable (m : (ℓ : Loc nD τ sig) → Buf (Elt Ideal) ℓ) (c : Dev nD)

/-! ## The mathematics -/

/-- An array by rows and columns. -/
abbrev rows (x : Vec Ideal S4096x1024 .f32) (s : Fin 4096) (d : Fin 1024) : EReal := x (ix2 s d)

/-- The gain by columns. -/
abbrev gain (g : Vec Ideal S1x1024 .f32) (d : Fin 1024) : EReal := g (ix2 0 d)

section Mathematics

variable (a0 : Vec Ideal S4096x1024 .bf16) (a1 : Vec Ideal S4096x768 .bf16) (a2 : Vec Ideal S4096x2048 .bf16)
  (up x : Vec Ideal S4096x1024 .f32) (g : Vec Ideal S1x1024 .f32) (w : Vec Ideal S3840x1024 .bf16)

/-- The cotangent of the normalised rows. -/
def dh (s : Fin 4096) (d : Fin 1024) : EReal :=
  ∑ f : Fin 1024, (a0 (ix2 s f) : EReal) * (w (ix2 ⟨f.val, by omega⟩ d) : EReal)
    + ∑ f : Fin 768, (a1 (ix2 s f) : EReal) * (w (ix2 ⟨1024 + f.val, by omega⟩ d) : EReal)
    + ∑ f : Fin 2048, (a2 (ix2 s f) : EReal) * (w (ix2 ⟨1792 + f.val, by omega⟩ d) : EReal)

/-- The input's gradient. -/
def dx (i : S4096x1024.Idx) : EReal := RmsBwd.dx (dh a0 a1 a2 w) (rows x) (rows up) (gain g) (i 0) (i 1)

/-- The gain's gradient. -/
def dgain (i : S1x1024.Idx) : EReal := RmsBwd.dgain (dh a0 a1 a2 w) (rows x) (i 1)

/-- A sum over three groups of columns side by side. -/
theorem sum_groups (f : Fin 3840 → EReal) : ∑ k, f k = ∑ k : Fin 1024, f ⟨k.val, by omega⟩
    + ∑ k : Fin 768, f ⟨1024 + k.val, by omega⟩ + ∑ k : Fin 2048, f ⟨1792 + k.val, by omega⟩ := by
  show ∑ k : Fin (1024 + 768 + 2048), f k = _
  rw [Fin.sum_univ_add, Fin.sum_univ_add]
  rfl

end Mathematics

/-! ## The kernel -/

theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![0, 0] ∧ win0_6.index t = ![t.val, 0] ∧
    win0_7.index t = ![0, 0] :=
  (by decide +kernel : ∀ t : Fin grid0.N, _)

/-- The first point's copy reads the weight. -/
theorem copied : View.read (Elt Ideal) ((View.whole main_arg6).slice (Rect.unit ![0, 0] ![3840, 1024] inb_S3840x1024_S3840x1024_0_0)) (V m c main_arg6)
    = m ((c : Thread nD τ).loc main_arg6) := funext fun j =>
  (congrArg (V m c main_arg6) (Rect.emb_unit_full (s := S3840x1024) inb_S3840x1024_S3840x1024_0_0 j)).trans (congrFun (V_main_arg6 m c) j)

/-- After every point the scratch buffer holds the weight, which the first point copied. -/
theorem weight (n : ℕ) (h : n < cfg0.N) : (outsAt0 m c n h).2.2 = m ((c : Thread nD τ).loc main_arg6) := by
  have h8 : n < 8 := h
  induction n with
  | zero =>
    rw [outsAt0_A m c ⟨0, h⟩ rfl]
    frame_out
    exact copied m c
  | succ n ih =>
    rw [outsAt0_B m c ⟨n + 1, h⟩ (by show ¬(n + 1) % 8 = 0; omega)]
    exact (show _ = (outsAt0 m c n (Nat.lt_of_succ_lt h)).2.2 from rfl).trans (ih (Nat.lt_of_succ_lt h) (by omega))

/-- The weight, and its rows of each group. -/
abbrev wi : Vec Ideal S3840x1024 .bf16 := m ((c : Thread nD τ).loc main_arg6)
abbrev w0 : Vec Ideal S1024x1024 .bf16 := View.ld (wi m c) (Rect.unit ![0, 0] ![1024, 1024] inb_S3840x1024_S1024x1024_0_0)
abbrev w1 : Vec Ideal S768x1024 .bf16 := View.ld (wi m c) (Rect.unit ![1024, 0] ![768, 1024] inb_S3840x1024_S768x1024_1024_0)
abbrev w2 : Vec Ideal S2048x1024 .bf16 := View.ld (wi m c) (Rect.unit ![1792, 0] ![2048, 1024] inb_S3840x1024_S2048x1024_1792_0)

/-- A point's blocks of the results, over the weight. -/
theorem left6 (t : Fin cfg0.N) : (outsAt0 m c t.val t.isLt).1 = k0_pay1 (k0_pay3 (iblk m c 0 t) (w0 m c) (iblk m c 1 t) (w1 m c) (iblk m c 2 t) (w2 m c))
    (k0_pay4 (iblk m c 4 t)) (k0_pay5 (iblk m c 4 t)) (iblk m c 3 t) (iblk m c 5 t) := by
  by_cases h0 : t.val % 8 = 0
  · rw [outsAt0_A m c t h0]
    frame_out
    rw [copied]
    simp only [Cert.Filled.filled (S := S3840x1024) _ _ _ _ (show ∀ a, (![0, 0] : Fin 2 → ℕ) a = 0 by decide)]
  · rw [outsAt0_B m c t h0]
    frame_out
    rw [weight m c (t.val - 1)]
    simp only [read_unread_whole]

theorem left7A (t : Fin cfg0.N) (h0 : t.val % 8 = 0) : (outsAt0 m c t.val t.isLt).2.1
    = k0_pay6 (iblk m c 0 t) (w0 m c) (iblk m c 1 t) (w1 m c) (iblk m c 2 t) (w2 m c) (iblk m c 4 t) (k0_pay2 (F := Ideal)) := by
  rw [outsAt0_A m c t h0]
  frame_out
  rw [copied]
  simp only [Cert.Filled.filled (S := S3840x1024) _ _ _ _ (show ∀ a, (![0, 0] : Fin 2 → ℕ) a = 0 by decide)]

theorem left7B (t : Fin cfg0.N) (h0 : ¬t.val % 8 = 0) : (outsAt0 m c t.val t.isLt).2.1
    = k0_pay6 (iblk m c 0 t) (w0 m c) (iblk m c 1 t) (w1 m c) (iblk m c 2 t) (w2 m c) (iblk m c 4 t) (outsAt0 m c (t.val - 1) (by omega)).2.1 := by
  rw [outsAt0_B m c t h0]
  frame_out
  rw [weight m c (t.val - 1)]
  simp only [read_unread_whole]

theorem final_dx : (dats m 0 c).arrAt 6 cfg0.N = dx (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) := by
  refine (dats m 0 c).arrAt_eq_of_covers 6 _ (by decide +kernel) fun t hf y => ?_
  have ht : t.val < 8 := t.isLt
  blk_simp
  rw [after0_6]
  rw [left6]
  pointwise [w0, w1, w2, k0_pay1, k0_pay3, k0_pay4, k0_pay5, dx, RmsBwd.dx, dh, rows, gain, back, root]
  blk_point [iblk, V, idx t]

/-! The gain's gradient: every point adds the sum over its rows to what the point before it left. -/

/-- The last point, which writes the gain's gradient back. -/
def last : Fin cfg0.N := ⟨7, by decide⟩

/-- What a point adds to the gain's gradient. -/
def gainAdd (t : Fin cfg0.N) (d : Fin 1024) : EReal :=
  ∑ r : Fin 512, gainAt (dh (m ((c : Thread nD τ).loc main_arg0)) (m ((c : Thread nD τ).loc main_arg1)) (m ((c : Thread nD τ).loc main_arg2)) (wi m c))
    (rows (m ((c : Thread nD τ).loc main_arg4))) ⟨t.val * 512 + r.val, by have ht : t.val < 8 := t.isLt; omega⟩ d

theorem gain_step (t : Fin cfg0.N) (acc : Vec Ideal S1x1024 .f32) (d : Fin 1024) :
    k0_pay6 (iblk m c 0 t) (w0 m c) (iblk m c 1 t) (w1 m c) (iblk m c 2 t) (w2 m c) (iblk m c 4 t) acc (ix2 0 d)
      = acc (ix2 0 d) + gainAdd m c t d := by
  have ht : t.val < 8 := t.isLt
  pointwise [w0, w1, w2, k0_pay3, k0_pay4, k0_pay5, k0_pay6, gainAdd, gainAt, dh, rows, root]
  blk_point [iblk, V, idx t]

theorem gain_last (d : Fin 1024) : (outsAt0 m c last.val last.isLt).2.1 (ix2 0 d) = 0 + ∑ t : Fin cfg0.N, gainAdd m c t d := by
  refine Pipeline.eq_sum_fin_of_reset_step_last (fun n hn => (outsAt0 m c n hn).2.1 (ix2 0 d)) 8 (0 : EReal)
    (fun t => gainAdd m c t d) (fun t h0 => ?_) (fun t h0 => ?_) (by decide) last (by decide)
  · rw [left7A m c t h0]
    refine (gain_step m c t _ d).trans ?_
    congr 1
    pointwise [k0_pay2]
  · rw [left7B m c t h0]
    exact gain_step m c t _ d

theorem final7 : (dats m 0 c).arrAt 7 cfg0.N = (outsAt0 m c last.val last.isLt).2.1 := by
  refine (dats m 0 c).arrAt_eq_of_after_last 7 last (by decide +kernel) _ fun j => ?_
  blk_simp
  rw [after0_7]

theorem final_dgain : (dats m 0 c).arrAt 7 cfg0.N = dgain (m ((c : Thread nD τ).loc main_arg0)) (m ((c : Thread nD τ).loc main_arg1))
    (m ((c : Thread nD τ).loc main_arg2)) (m ((c : Thread nD τ).loc main_arg4)) (m ((c : Thread nD τ).loc main_arg6)) := by
  rw [final7]
  funext j
  idx_vars j
  obtain rfl : j0 = 0 := Subsingleton.elim _ _
  refine (gain_last m c _).trans ?_
  rw [zero_add]
  exact RmsBwd.dgain_eq _ _ j1

/-! ## The reference -/

section Reference

variable (a0 : Vec Ideal S4096x1024 .bf16) (a1 : Vec Ideal S4096x768 .bf16) (a2 : Vec Ideal S4096x2048 .bf16)
  (up x : Vec Ideal S4096x1024 .f32) (g : Vec Ideal S1x1024 .f32) (w : Vec Ideal S3840x1024 .bf16)

/-- The reference contracts the three groups side by side. -/
theorem ref_dh (s : Fin 4096) (d : Fin 1024) : val_main_v24 (F := Ideal) a0 a1 a2 w (ix2 s d) = dh a0 a1 a2 w s d := by
  refine (val_main_v24_apply _ _ _ _ _).trans ?_
  refine (sum_groups _).trans ?_
  unfold dh
  pointwise [val_main_v5, val_main_v4, val_main_v3, val_main_v2, val_main_v1, val_main_v0]
  congr 1

theorem ref_dx : val_main_v45 (F := Ideal) a0 a1 a2 up x g w = dx a0 a1 a2 up x g w := by
  funext i
  idx_vars i
  refine Eq.trans ?_ (RmsBwd.dx_eq (dh a0 a1 a2 w) (rows x) (rows up) (gain g) i0 i1).symm
  pointwise [val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v21, val_main_v20, val_main_v19, val_main_v18, val_main_v17, val_main_v16, val_main_v15, val_main_v14, val_main_v13, val_main_v12, val_main_v11, val_main_v10, val_main_v9, val_main_v8, val_main_v7, val_main_v6, val_main_cst, val_main_cst_0, val_main_cst_1, val_main_cst_2, val_main_cst_3, val_main_cst_4, val_main_cst_5, val_main_cst_6, val_main_cst_7, ref_dh, reach, rows, gain, root]
  simp only [Fin.sum_univ_one, ref_dh]

theorem ref_dgain : val_main_v46 (F := Ideal) a0 a1 a2 x w = dgain a0 a1 a2 x w := by
  funext i
  idx_vars i
  pointwise [val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v21, val_main_v20, val_main_v19, val_main_v18, val_main_v17, val_main_v16, val_main_v15, val_main_v14, val_main_v13, val_main_v12, val_main_v11, val_main_v10, val_main_v9, val_main_v8, val_main_v7, val_main_v6, val_main_cst, val_main_cst_0, val_main_cst_1, val_main_cst_2, val_main_cst_3, val_main_cst_4, val_main_cst_5, val_main_cst_6, val_main_cst_7, ref_dh, dgain, RmsBwd.dgain, gainAt, rows, root]
  simp only [Fin.sum_univ_one, ref_dh]
  exact Finset.sum_congr rfl fun s _ => mul_comm _ _

end Reference

/-- The kernel's gradients are the reference's. -/
theorem values : Cert.algebraic_Kernel9Ideal_Reference9Ideal := by
  pair_intro
  · run_from Cert.Kernel9Ideal.Value.run_blocks m g
  · refine (θ_run Cert.Reference9Ideal.defs _ _).mono (fun r h c => ?_) (Cert.Reference9Ideal.Value.run m' g')
    obtain ⟨h0, h1, h2, h3, h4, h5, h6⟩ := hagree c
    refine ⟨(h c).1.trans ((val_main_v45_eq m' c).trans ((ref_dx _ _ _ _ _ _ _).trans ?_)),
      (h c).2.1.trans ((ref_dgain _ _ _ _ _).trans ?_), (h c).2.2⟩
    · rw [h0, h1, h2, h3, h4, h5, h6]
      exact (final_dx m c).symm
    · rw [h0, h1, h2, h4, h6]
      exact (final_dgain m c).symm

/-- What the kernel's run leaves of the arguments and the counters. -/
theorem frame : Cert.quiescent_Kernel9Ideal := fun m ρ _ => Cert.Kernel9Ideal.Gen.frame m ρ

/-- The same of the text over machine words. -/
theorem frame_words : Cert.quiescent_Kernel9 :=
  (show (∀ m ρ, True → type_of% (Cert.Kernel9Ideal.Gen.frame (F := Bits) m ρ)) = Cert.quiescent_Kernel9 by sl_kernel_rfl) ▸
    fun m ρ _ => Cert.Kernel9Ideal.Gen.frame m ρ

theorem frame_reference : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run m ρ)

end Cert.BwdIn
-- ==== Proof.FwdIn.lean ====
module

public import proofs.«01_k».proof.Defs
public import proofs.«01_k».proof.Proof.Gen.Kernel10
public import proofs.«01_k».proof.Proof.Gen.Kernel10Ideal.Value
public import proofs.«01_k».proof.Proof.Gen.Reference10Ideal.Read
public import Idealize.ShloMosaic.Lib.Pipeline.ValueKit
public import proofs.«01_k».proof.Proof.Filled
public import proofs.«01_k».proof.Proof.RmsBwd
public import Idealize.ShloMosaic.Lib.VecWindow
public import Idealize.ShloMosaic.Lib.Pipeline.ReadBack
public import Idealize.ShloMosaic.Lib.Claim

@[expose] public section

set_option maxRecDepth 16384

noncomputable section

/-!
# The normalisation and the input projection

A row is divided by the root of its mean square and multiplied by the gain. Its products with the weight's rows come in
three groups of columns. A point of the grid computes 512 rows of all four results. The first point copies the weight
into scratch memory, where the later points find it.
-/

namespace Cert.FwdIn

open Idealize.ShloMosaic Idealize.ShloMosaic.TcCoe Idealize.SL.Sem
open Idealize.ShloMosaic.Pipeline (Dat)
open Cert.Kernel10Ideal Cert.Kernel10Ideal.Gen
open Cert.Reference10Ideal.Read
open Cert.RmsBwd (root)

variable (m : (ℓ : Loc nD τ sig) → Buf (Elt Ideal) ℓ) (c : Dev nD)

/-! ## The mathematics -/

section Mathematics

variable (x : Vec Ideal S4096x1024 .f32) (g : Vec Ideal S1x1024 .f32) (w : Vec Ideal S3840x1024 .bf16)

/-- The normalised rows. -/
def norm (s : Fin 4096) (d : Fin 1024) : EReal := x (ix2 s d) * root (fun k => x (ix2 s k)) * g (ix2 0 d)

/-- A column of the projection. -/
def proj (s : Fin 4096) (e : Fin 3840) : EReal := ∑ d : Fin 1024, norm x g s d * (w (ix2 e d) : EReal)

/-- The four results: the normalised rows, and the projection's columns in their three groups. -/
def normed : Vec Ideal S4096x1024 .bf16 := fun i => norm x g (i 0) (i 1)
def proj0 : Vec Ideal S4096x1024 .f32 := fun i => proj x g w (i 0) ⟨(i 1).val, (i 1).isLt.trans (by decide)⟩
def proj1 : Vec Ideal S4096x768 .bf16 := fun i => proj x g w (i 0) ⟨1024 + (i 1).val, (Nat.add_lt_add_left (i 1).isLt 1024).trans (by decide)⟩
def proj2 : Vec Ideal S4096x2048 .f32 := fun i => proj x g w (i 0) ⟨1792 + (i 1).val, Nat.add_lt_add_left (i 1).isLt 1792⟩

end Mathematics

/-! ## The kernel -/

theorem idx : ∀ t : Fin cfg0.N, win0_0.index t = ![t.val, 0] ∧ win0_1.index t = ![0, 0] ∧ win0_2.index t = ![t.val, 0] ∧
    win0_3.index t = ![t.val, 0] ∧ win0_4.index t = ![t.val, 0] ∧ win0_5.index t = ![t.val, 0] :=
  (by decide +kernel : ∀ t : Fin grid0.N, _)

/-- The first point's copy reads the weight. -/
theorem copied : View.read (Elt Ideal) ((View.whole main_arg2).slice (Rect.unit ![0, 0] ![3840, 1024] inb_S3840x1024_S3840x1024_0_0)) (V m c main_arg2)
    = m ((c : Thread nD τ).loc main_arg2) := funext fun j =>
  (congrArg (V m c main_arg2) (Rect.emb_unit_full (s := S3840x1024) inb_S3840x1024_S3840x1024_0_0 j)).trans (congrFun (V_main_arg2 m c) j)

/-- After every point the scratch buffer holds the weight, which the first point copied. -/
theorem weight (n : ℕ) (h : n < cfg0.N) : (outsAt0 m c n h).2.2.2.2 = m ((c : Thread nD τ).loc main_arg2) := by
  have h8 : n < 8 := h
  induction n with
  | zero =>
    rw [outsAt0_A m c ⟨0, h⟩ rfl]
    frame_out
    exact copied m c
  | succ n ih =>
    rw [outsAt0_B m c ⟨n + 1, h⟩ (by show ¬(n + 1) % 8 = 0; omega)]
    exact (show _ = (outsAt0 m c n (Nat.lt_of_succ_lt h)).2.2.2.2 from rfl).trans (ih (Nat.lt_of_succ_lt h) (by omega))

/-- The weight, and its rows of each group. -/
abbrev wi : Vec Ideal S3840x1024 .bf16 := m ((c : Thread nD τ).loc main_arg2)
abbrev w0 : Vec Ideal S1024x1024 .bf16 := View.ld (wi m c) (Rect.unit ![0, 0] ![1024, 1024] inb_S3840x1024_S1024x1024_0_0)
abbrev w1 : Vec Ideal S768x1024 .bf16 := View.ld (wi m c) (Rect.unit ![1024, 0] ![768, 1024] inb_S3840x1024_S768x1024_1024_0)
abbrev w2 : Vec Ideal S2048x1024 .bf16 := View.ld (wi m c) (Rect.unit ![1792, 0] ![2048, 1024] inb_S3840x1024_S2048x1024_1792_0)

/-- A point's blocks of the results, over the weight. -/
theorem left (t : Fin cfg0.N) : (outsAt0 m c t.val t.isLt).1 = k0_pay1 (iblk m c 0 t) (iblk m c 1 t)
    ∧ (outsAt0 m c t.val t.isLt).2.1 = k0_pay2 (iblk m c 0 t) (iblk m c 1 t) (w0 m c)
    ∧ (outsAt0 m c t.val t.isLt).2.2.1 = k0_pay3 (iblk m c 0 t) (iblk m c 1 t) (w1 m c)
    ∧ (outsAt0 m c t.val t.isLt).2.2.2.1 = k0_pay4 (iblk m c 0 t) (iblk m c 1 t) (w2 m c) := by
  by_cases h0 : t.val % 8 = 0
  · rw [outsAt0_A m c t h0]
    frame_out
    rw [copied]
    simp only [Cert.Filled.filled (S := S3840x1024) _ _ _ _ (show ∀ a, (![0, 0] : Fin 2 → ℕ) a = 0 by decide), and_self]
  · rw [outsAt0_B m c t h0]
    frame_out
    rw [weight m c (t.val - 1)]
    simp only [read_unread_whole, and_self]

theorem final_normed : (dats m 0 c).arrAt 2 cfg0.N = normed (m ((c : Thread nD τ).loc main_arg0)) (m ((c : Thread nD τ).loc main_arg1)) := by
  refine (dats m 0 c).arrAt_eq_of_covers 2 _ (by decide +kernel) fun t hf y => ?_
  have ht : t.val < 8 := t.isLt
  blk_simp
  rw [after0_2]
  rw [(left m c t).1]
  pointwise [k0_pay1, normed, norm, root]
  blk_point [iblk, V, idx t]

theorem final_proj0 : (dats m 0 c).arrAt 3 cfg0.N = proj0 (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 8 := t.isLt
  blk_simp
  rw [after0_3]
  rw [(left m c t).2.1]
  pointwise [k0_pay1, k0_pay2, w0, proj0, proj, norm, root]
  blk_point [iblk, V, idx t]

theorem final_proj1 : (dats m 0 c).arrAt 4 cfg0.N = proj1 (m ((c : Thread nD τ).loc main_arg0)) (m ((c : Thread nD τ).loc main_arg1)) (m ((c : Thread nD τ).loc main_arg2)) := by
  refine (dats m 0 c).arrAt_eq_of_covers 4 _ (by decide +kernel) fun t hf y => ?_
  have ht : t.val < 8 := t.isLt
  blk_simp
  rw [after0_4]
  rw [(left m c t).2.2.1]
  pointwise [k0_pay1, k0_pay3, w1, proj1, proj, norm, root]
  blk_point [iblk, V, idx t]

theorem final_proj2 : (dats m 0 c).arrAt 5 cfg0.N = proj2 (m ((c : Thread nD τ).loc main_arg0)) (m ((c : Thread nD τ).loc main_arg1)) (m ((c : Thread nD τ).loc main_arg2)) := by
  refine (dats m 0 c).arrAt_eq_of_covers 5 _ (by decide +kernel) fun t hf y => ?_
  have ht : t.val < 8 := t.isLt
  blk_simp
  rw [after0_5]
  rw [(left m c t).2.2.2]
  pointwise [k0_pay1, k0_pay4, w2, proj2, proj, norm, root]
  blk_point [iblk, V, idx t]

/-! ## The reference -/

section Reference

variable (x : Vec Ideal S4096x1024 .f32) (g : Vec Ideal S1x1024 .f32) (w : Vec Ideal S3840x1024 .bf16)

/-- The reference's normalised rows. -/
theorem ref_norm (s : Fin 4096) (d : Fin 1024) : val_main_v13 (F := Ideal) x g (ix2 s d) = norm x g s d := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, norm, root]

theorem ref_normed : val_main_v17 (F := Ideal) x g = normed x g := funext fun i => by
  refine (val_main_v17_apply _ _ i).trans ?_
  idx_vars i
  exact ref_norm x g i0 i1

/-- The reference's projection. -/
theorem ref_proj (s : Fin 4096) (e : Fin 3840) : val_main_v16 (F := Ideal) x g w (ix2 s e) = proj x g w s e := by
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, proj, norm, root]

theorem ref_proj0 : val_main_v18 (F := Ideal) x g w = proj0 x g w := funext fun i => by
  idx_vars i
  pointwise [val_main_v18]
  exact ref_proj x g w _ _

theorem ref_proj1 : val_main_v20 (F := Ideal) x g w = proj1 x g w := funext fun i => by
  refine (val_main_v20_apply _ _ _ i).trans ?_
  idx_vars i
  pointwise [val_main_v19]
  exact ref_proj x g w _ _

theorem ref_proj2 : val_main_v21 (F := Ideal) x g w = proj2 x g w := funext fun i => by
  idx_vars i
  pointwise [val_main_v21]
  exact ref_proj x g w _ _

end Reference

/-- The kernel's four results are the reference's. -/
theorem values : Cert.algebraic_Kernel10Ideal_Reference10Ideal := by
  pair_intro
  · run_from Cert.Kernel10Ideal.Value.run_blocks m g
  · refine (θ_run Cert.Reference10Ideal.defs _ _).mono (fun r h c => ?_) (Cert.Reference10Ideal.Value.run m' g')
    obtain ⟨h0, h1, h2⟩ := hagree c
    refine ⟨(h c).1.trans ((ref_normed _ _).trans ?_), (h c).2.1.trans ((ref_proj0 _ _ _).trans ?_),
      (h c).2.2.1.trans ((ref_proj1 _ _ _).trans ?_), (h c).2.2.2.1.trans ((ref_proj2 _ _ _).trans ?_), (h c).2.2.2.2⟩
    · rw [h0, h1]
      exact (final_normed m c).symm
    · rw [h0, h1, h2]
      exact (final_proj0 m c).symm
    · rw [h0, h1, h2]
      exact (final_proj1 m c).symm
    · rw [h0, h1, h2]
      exact (final_proj2 m c).symm

/-- What the kernel's run leaves of the arguments and the counters. -/
theorem frame : Cert.quiescent_Kernel10Ideal := fun m ρ _ => Cert.Kernel10Ideal.Gen.frame m ρ

/-- The same of the text over machine words. -/
theorem frame_words : Cert.quiescent_Kernel10 :=
  (show (∀ m ρ, True → type_of% (Cert.Kernel10Ideal.Gen.frame (F := Bits) m ρ)) = Cert.quiescent_Kernel10 by sl_kernel_rfl) ▸
    fun m ρ _ => Cert.Kernel10Ideal.Gen.frame m ρ

theorem frame_reference : Cert.quiescent_Reference10Ideal := fun m ρ _ =>
  (θ_run Cert.Reference10Ideal.defs _ _).mono (fun r h => ⟨fun c => (h c).2.2.2.2, sem_eq_zero_of_no_sems (by decide) r.2⟩)
    (Cert.Reference10Ideal.Value.run m ρ)

end Cert.FwdIn
-- ==== Proof.FwdMid.lean ====
module

public import proofs.«01_k».proof.Defs
public import proofs.«01_k».proof.Proof.Gen.Kernel11
public import proofs.«01_k».proof.Proof.Gen.Kernel11Ideal.Value
public import proofs.«01_k».proof.Proof.Gen.Reference11Ideal.Read
public import Idealize.ShloMosaic.Lib.Pipeline.ValueKit
public import proofs.«01_k».proof.Proof.Filled
public import proofs.«01_k».proof.Proof.RmsBwd
public import Idealize.ShloMosaic.Lib.VecWindow
public import Idealize.ShloMosaic.Lib.Pipeline.ReadBack
public import Idealize.ShloMosaic.Lib.Claim

@[expose] public section

set_option maxRecDepth 16384

noncomputable section

/-!
# The branches' gates, the output projection and the normalisation after it

A branch's gate scales its projection and the two scaled projections are added. Their product with the output weight is
added to the incoming rows, and the sum is normalised. A point of the grid computes 512 rows of all three results. The
first point copies the two weights into scratch memory, where the later points find them.
-/

namespace Cert.FwdMid

open Idealize.ShloMosaic Idealize.ShloMosaic.TcCoe Idealize.SL.Sem
open Idealize.ShloMosaic.Pipeline (Dat)
open Cert.Kernel11Ideal Cert.Kernel11Ideal.Gen
open Cert.Reference11Ideal.Read
open Cert.RmsBwd (root)

variable (m : (ℓ : Loc nD τ sig) → Buf (Elt Ideal) ℓ) (c : Dev nD)

/-! ## The mathematics -/

/-- The gate. -/
def gate (x : EReal) : EReal := Ideal.div 1 (1 + Ideal.exp (-x))

section Mathematics

variable (x : Vec Ideal S4096x1024 .f32) (y : Vec Ideal S4096x1024 .bf16) (g : Vec Ideal S4096x2048 .f32)
  (gn : Vec Ideal S1x1024 .f32) (wp wo : Vec Ideal S1024x1024 .bf16)

/-- The branches' gated projections, added: the first branch reads the first 512 columns, the second the last. -/
def mix (s : Fin 4096) (d : Fin 1024) : EReal :=
  gate (g (ix2 s ⟨d.val, d.isLt.trans (by decide)⟩)) * ∑ e : Fin 512, (y (ix2 s ⟨e.val, e.isLt.trans (by decide)⟩) : EReal) * (wp (ix2 d ⟨e.val, e.isLt.trans (by decide)⟩) : EReal)
    + gate (g (ix2 s ⟨1024 + d.val, Nat.add_lt_add_left d.isLt 1024⟩)) * ∑ e : Fin 512, (y (ix2 s ⟨512 + e.val, Nat.add_lt_add_left e.isLt 512⟩) : EReal)
      * (wp (ix2 d ⟨512 + e.val, Nat.add_lt_add_left e.isLt 512⟩) : EReal)

/-- The rows with the output projection added. -/
def next (s : Fin 4096) (d : Fin 1024) : EReal := x (ix2 s d) + ∑ k : Fin 1024, mix y g wp s k * (wo (ix2 k d) : EReal)

/-- The three results. -/
def merged : Vec Ideal S4096x1024 .bf16 := fun i => mix y g wp (i 0) (i 1)
def added : Vec Ideal S4096x1024 .f32 := fun i => next x y g wp wo (i 0) (i 1)
def normed : Vec Ideal S4096x1024 .bf16 := fun i => next x y g wp wo (i 0) (i 1) * root (next x y g wp wo (i 0)) * gn (ix2 0 (i 1))

end Mathematics

/-! ## The kernel -/

theorem idx : ∀ t : Fin cfg0.N, win0_0.index t = ![t.val, 0] ∧ win0_1.index t = ![t.val, 0] ∧ win0_2.index t = ![t.val, 0] ∧
    win0_3.index t = ![0, 0] ∧ win0_4.index t = ![t.val, 0] ∧ win0_5.index t = ![t.val, 0] ∧ win0_6.index t = ![t.val, 0] :=
  (by decide +kernel : ∀ t : Fin grid0.N, _)

/-- The first point's copies read the weights. -/
theorem copied4 : View.read (Elt Ideal) ((View.whole main_arg4).slice (Rect.unit ![0, 0] ![1024, 1024] inb_S1024x1024_S1024x1024_0_0)) (V m c main_arg4)
    = m ((c : Thread nD τ).loc main_arg4) := funext fun j =>
  (congrArg (V m c main_arg4) (Rect.emb_unit_full (s := S1024x1024) inb_S1024x1024_S1024x1024_0_0 j)).trans (congrFun (V_main_arg4 m c) j)

theorem copied5 : View.read (Elt Ideal) ((View.whole main_arg5).slice (Rect.unit ![0, 0] ![1024, 1024] inb_S1024x1024_S1024x1024_0_0)) (V m c main_arg5)
    = m ((c : Thread nD τ).loc main_arg5) := funext fun j =>
  (congrArg (V m c main_arg5) (Rect.emb_unit_full (s := S1024x1024) inb_S1024x1024_S1024x1024_0_0 j)).trans (congrFun (V_main_arg5 m c) j)

/-- After every point the two scratch buffers hold the weights, which the first point copied. -/
theorem weights (n : ℕ) (h : n < cfg0.N) : (outsAt0 m c n h).2.2.2 = (m ((c : Thread nD τ).loc main_arg4), m ((c : Thread nD τ).loc main_arg5)) := by
  have h8 : n < 8 := h
  induction n with
  | zero =>
    rw [outsAt0_A m c ⟨0, h⟩ rfl]
    frame_out
    exact congrArg₂ Prod.mk (copied4 m c) (copied5 m c)
  | succ n ih =>
    rw [outsAt0_B m c ⟨n + 1, h⟩ (by show ¬(n + 1) % 8 = 0; omega)]
    exact (show _ = (outsAt0 m c n (Nat.lt_of_succ_lt h)).2.2.2 from rfl).trans (ih (Nat.lt_of_succ_lt h) (by omega))

/-- The weights a point reads: each branch's columns of the projections', and the output's. -/
abbrev wp : Vec Ideal S1024x1024 .bf16 := m ((c : Thread nD τ).loc main_arg4)
abbrev wpA : Vec Ideal S1024x512 .bf16 := View.ld (wp m c) (Rect.unit ![0, 0] ![1024, 512] inb_S1024x1024_S1024x512_0_0)
abbrev wpB : Vec Ideal S1024x512 .bf16 := View.ld (wp m c) (Rect.unit ![0, 512] ![1024, 512] inb_S1024x1024_S1024x512_0_512)
abbrev wo : Vec Ideal S1024x1024 .bf16 := m ((c : Thread nD τ).loc main_arg5)

/-- A point's block of the merged branches. -/
abbrev mixAt (t : Fin cfg0.N) : FVec Ideal S512x1024 .bf16 := k0_pay3 (iblk m c 1 t) (wpA m c) (wpB m c) (iblk m c 2 t)

/-- A point's blocks of the results, over the weights. -/
theorem left (t : Fin cfg0.N) : (outsAt0 m c t.val t.isLt).1 = mixAt m c t
    ∧ (outsAt0 m c t.val t.isLt).2.1 = k0_pay1 (mixAt m c t) (iblk m c 0 t) (wo m c)
    ∧ (outsAt0 m c t.val t.isLt).2.2.1 = k0_pay2 (mixAt m c t) (iblk m c 0 t) (wo m c) (iblk m c 3 t) := by
  by_cases h0 : t.val % 8 = 0
  · rw [outsAt0_A m c t h0]
    frame_out
    rw [copied4, copied5]
    simp only [Cert.Filled.filled (S := S1024x1024) _ _ _ _ (show ∀ a, (![0, 0] : Fin 2 → ℕ) a = 0 by decide), and_self]
  · rw [outsAt0_B m c t h0]
    frame_out
    rw [weights m c (t.val - 1)]
    simp only [read_unread_whole, and_self]

theorem final_merged : (dats m 0 c).arrAt 4 cfg0.N = merged (m ((c : Thread nD τ).loc main_arg1)) (m ((c : Thread nD τ).loc main_arg2))
    (m ((c : Thread nD τ).loc main_arg4)) := by
  refine (dats m 0 c).arrAt_eq_of_covers 4 _ (by decide +kernel) fun t hf y => ?_
  have ht : t.val < 8 := t.isLt
  blk_simp
  rw [after0_4]
  rw [(left m c t).1]
  pointwise [mixAt, wpA, wpB, k0_pay3, merged, mix, gate]
  simp only [zero_sub]
  blk_point [iblk, V, idx t]

theorem final_added : (dats m 0 c).arrAt 5 cfg0.N = added (m ((c : Thread nD τ).loc main_arg0)) (m ((c : Thread nD τ).loc main_arg1))
    (m ((c : Thread nD τ).loc main_arg2)) (m ((c : Thread nD τ).loc main_arg4)) (m ((c : Thread nD τ).loc main_arg5)) := by
  refine (dats m 0 c).arrAt_eq_of_covers 5 _ (by decide +kernel) fun t hf y => ?_
  have ht : t.val < 8 := t.isLt
  blk_simp
  rw [after0_5]
  rw [(left m c t).2.1]
  pointwise [mixAt, wpA, wpB, k0_pay1, k0_pay3, added, next, mix, gate]
  simp only [zero_sub]
  blk_point [iblk, V, idx t]

theorem final_normed : (dats m 0 c).arrAt 6 cfg0.N = normed (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  have ht : t.val < 8 := t.isLt
  blk_simp
  rw [after0_6]
  rw [(left m c t).2.2]
  pointwise [mixAt, wpA, wpB, k0_pay1, k0_pay2, k0_pay3, normed, next, root, mix, gate]
  simp only [zero_sub]
  blk_point [iblk, V, idx t]

/-! ## The reference -/

section Reference

variable (x : Vec Ideal S4096x1024 .f32) (y : Vec Ideal S4096x1024 .bf16) (g : Vec Ideal S4096x2048 .f32)
  (gn : Vec Ideal S1x1024 .f32) (wp wo : Vec Ideal S1024x1024 .bf16)

/-- The reference's merged branches. -/
theorem ref_mix (s : Fin 4096) (d : Fin 1024) : val_main_v27 (F := Ideal) y g wp (ix2 s d) = mix y g wp s d := by
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1, val_main_cst_2, val_main_v1, val_main_v0, mix, gate]

theorem ref_merged : val_main_v30 (F := Ideal) y g wp = merged y g wp := funext fun i => by
  refine (val_main_v30_apply _ _ _ i).trans ?_
  idx_vars i
  exact ref_mix y g wp i0 i1

/-- The reference's rows after the output projection. -/
theorem ref_next (s : Fin 4096) (d : Fin 1024) : val_main_v29 (F := Ideal) x y g wp wo (ix2 s d) = next x y g wp wo s d := by
  pointwise [val_main_v29, val_main_v28, val_main_v2, next]
  simp only [ref_mix]

theorem ref_added : val_main_v29 (F := Ideal) x y g wp wo = added x y g wp wo := funext fun i => by
  idx_vars i
  exact ref_next x y g wp wo i0 i1

theorem ref_normed : val_main_v45 (F := Ideal) x y g gn wp wo = normed x y g gn wp wo := funext fun i => by
  refine (val_main_v45_apply _ _ _ _ _ _ i).trans ?_
  idx_vars i
  pointwise [val_main_v44, val_main_v43, val_main_v42, val_main_v41, val_main_v40, val_main_v39, val_main_v38, val_main_v37, val_main_v36, val_main_v35, val_main_v34, val_main_v33, val_main_v32, val_main_v31, val_main_cst_3, val_main_cst_4, val_main_cst_5, normed, root]
  simp only [ref_next]

end Reference

/-- The kernel's three results are the reference's. -/
theorem values : Cert.algebraic_Kernel11Ideal_Reference11Ideal := by
  pair_intro
  · run_from Cert.Kernel11Ideal.Value.run_blocks m g
  · refine (θ_run Cert.Reference11Ideal.defs _ _).mono (fun r h c => ?_) (Cert.Reference11Ideal.Value.run m' g')
    obtain ⟨h0, h1, h2, h3, h4, h5⟩ := hagree c
    refine ⟨(h c).1.trans ((ref_merged _ _ _).trans ?_), (h c).2.1.trans ((ref_added _ _ _ _ _).trans ?_),
      (h c).2.2.1.trans ((val_main_v45_eq m' c).trans ((ref_normed _ _ _ _ _ _).trans ?_)), (h c).2.2.2⟩
    · rw [h1, h2, h4]
      exact (final_merged m c).symm
    · rw [h0, h1, h2, h4, h5]
      exact (final_added m c).symm
    · rw [h0, h1, h2, h3, h4, h5]
      exact (final_normed m c).symm

/-- What the kernel's run leaves of the arguments and the counters. -/
theorem frame : Cert.quiescent_Kernel11Ideal := fun m ρ _ => Cert.Kernel11Ideal.Gen.frame m ρ

/-- The same of the text over machine words. -/
theorem frame_words : Cert.quiescent_Kernel11 :=
  (show (∀ m ρ, True → type_of% (Cert.Kernel11Ideal.Gen.frame (F := Bits) m ρ)) = Cert.quiescent_Kernel11 by sl_kernel_rfl) ▸
    fun m ρ _ => Cert.Kernel11Ideal.Gen.frame m ρ

theorem frame_reference : Cert.quiescent_Reference11Ideal := fun m ρ _ =>
  (θ_run Cert.Reference11Ideal.defs _ _).mono (fun r h => ⟨fun c => (h c).2.2.2, sem_eq_zero_of_no_sems (by decide) r.2⟩)
    (Cert.Reference11Ideal.Value.run m ρ)

end Cert.FwdMid
-- ==== Proof.FfnStep.lean ====
module

public import proofs.«01_k».proof.Defs
public import proofs.«01_k».proof.Proof.Gen.Kernel12
public import proofs.«01_k».proof.Proof.Gen.Kernel12Ideal.Value
public import proofs.«01_k».proof.Proof.Filled
public import Idealize.ShloMosaic.Lib.Pipeline.ValueKit
public import Idealize.ShloMosaic.Lib.VecWindow
public import Idealize.ShloMosaic.Lib.Pipeline.ReadBack
public import Idealize.ShloMosaic.Lib.Claim

@[expose] public section

set_option maxRecDepth 16384

noncomputable section

/-!
# A point of the feed-forward network's forward

A point takes 256 tokens, in eleven chunks of 256 gate columns and as many value columns. The first point copies the two
weights into scratch memory, where the later points find them. A third scratch array keeps the last eight rows of a
point's products: the convolution of the next point starts from them, or from zeros at the start of a sequence.
-/

namespace Cert.FwdFfn

open Idealize.ShloMosaic Idealize.ShloMosaic.TcCoe Idealize.SL.Sem
open Idealize.ShloMosaic.Pipeline (Dat)
open Cert.Kernel12Ideal Cert.Kernel12Ideal.Gen

/-! ## A point's tiles -/

/-- A rectangle lies inside an array. -/
theorem fit {s0 s1 a b n k : ℕ} (h0 : a + n ≤ s0) (h1 : b + k ≤ s1) :
    ∀ i : Fin 2, (![a, b] : Fin 2 → ℕ) i + (![n, k] : Fin 2 → ℕ) i ≤ (![s0, s1] : Fin 2 → ℕ) i :=
  Fin.forall_fin_two.mpr ⟨h0, h1⟩

/-- The eleven chunks of 256 columns, the last first. -/
def chunks : List (Fin 11) := [10, 9, 8, 7, 6, 5, 4, 3, 2, 1, 0]

section Tiles

variable (h : Vec Ideal S256x1024 .bf16) (w : Vec Ideal S5632x1024 .bf16) (p : Vec Ideal S8x5632 .f32)
  (cw : Vec Ideal S3x5632 .f32) (cb : Vec Ideal S1x5632 .f32)

/-- The product with 256 columns of the weight, from column `o` on. -/
def product (o : ℕ) (ho : o + 256 ≤ 5632) : FVec Ideal S256x256 .f32 :=
  k0_pay3 h (View.ld w (Rect.unit ![o, 0] ![256, 1024] (fit ho le_rfl)))

/-- Its convolution along the rows; the rows before the first are the last two of `p`. -/
def conv (o : ℕ) (ho : o + 256 ≤ 5632) : FVec Ideal S256x256 .f32 :=
  k0_pay13 (product h w o ho) (View.ld p (Rect.unit ![6, o] ![1, 256] (fit (by decide) ho)))
    (View.ld p (Rect.unit ![7, o] ![1, 256] (fit (by decide) ho))) (View.ld cw (Rect.unit ![0, o] ![1, 256] (fit (by decide) ho)))
    (View.ld cw (Rect.unit ![1, o] ![1, 256] (fit (by decide) ho))) (View.ld cw (Rect.unit ![2, o] ![1, 256] (fit (by decide) ho)))
    (View.ld cb (Rect.unit ![0, o] ![1, 256] (fit (by decide) ho)))

/-- A chunk's gate and value. -/
def gateAt (k : Fin 11) : FVec Ideal S256x256 .f32 := conv h w p cw cb (256 * k.val) (by omega)
def valueAt (k : Fin 11) : FVec Ideal S256x256 .f32 := conv h w p cw cb (2816 + 256 * k.val) (by omega)

/-- Eleven tiles, one for each chunk. -/
def tiles (f : Fin 11 → FVec Ideal S256x256 .bf16) : List (View.Piece (Elt Ideal) S256x2816 .bf16) :=
  chunks.map fun k => ⟨Rect.unit ![0, 256 * k.val] ![256, 256] (fit le_rfl (by omega)), f k⟩

/-- The products' tiles: a chunk's gate columns, then its value columns. -/
def pair (k : Fin 11) : List (View.Piece (Elt Ideal) S256x5632 .bf16) :=
  [⟨Rect.unit ![0, 2816 + 256 * k.val] ![256, 256] (fit le_rfl (by omega)), truncf .bf16 (product h w (2816 + 256 * k.val) (by omega)) bitsLt_bf16_f32⟩,
    ⟨Rect.unit ![0, 256 * k.val] ![256, 256] (fit le_rfl (by omega)), truncf .bf16 (product h w (256 * k.val) (by omega)) bitsLt_bf16_f32⟩]

/-- The last eight rows of the products, tile by tile. -/
def tail (k : Fin 11) : List (View.Piece (Elt Ideal) S8x5632 .f32) :=
  [⟨Rect.unit ![0, 2816 + 256 * k.val] ![8, 256] (fit le_rfl (by omega)), k0_pay8 (product h w (2816 + 256 * k.val) (by omega))⟩,
    ⟨Rect.unit ![0, 256 * k.val] ![8, 256] (fit le_rfl (by omega)), k0_pay8 (product h w (256 * k.val) (by omega))⟩]

end Tiles

variable (m : (ℓ : Loc nD τ sig) → Buf (Elt Ideal) ℓ) (c : Dev nD)

/-- The first point's copies read the weights. -/
theorem copied4 : View.read (Elt Ideal) ((View.whole main_arg4).slice (Rect.unit ![0, 0] ![5632, 1024] inb_S5632x1024_S5632x1024_0_0)) (V m c main_arg4)
    = m ((c : Thread nD τ).loc main_arg4) := funext fun j =>
  (congrArg (V m c main_arg4) (Rect.emb_unit_full (s := S5632x1024) inb_S5632x1024_S5632x1024_0_0 j)).trans (congrFun (V_main_arg4 m c) j)

theorem copied5 : View.read (Elt Ideal) ((View.whole main_arg5).slice (Rect.unit ![0, 0] ![2816, 1024] inb_S2816x1024_S2816x1024_0_0)) (V m c main_arg5)
    = m ((c : Thread nD τ).loc main_arg5) := funext fun j =>
  (congrArg (V m c main_arg5) (Rect.emb_unit_full (s := S2816x1024) inb_S2816x1024_S2816x1024_0_0 j)).trans (congrFun (V_main_arg5 m c) j)

/-- After every point two scratch buffers hold the weights, which the first point copied. -/
theorem weights (n : ℕ) (h : n < cfg0.N) : (outsAt0 m c n h).2.2.2.2.2.1 = m ((c : Thread nD τ).loc main_arg4)
    ∧ (outsAt0 m c n h).2.2.2.2.2.2.1 = m ((c : Thread nD τ).loc main_arg5) := by
  have h16 : n < 16 := h
  induction n with
  | zero =>
    rw [outsAt0_A m c ⟨0, h⟩ rfl rfl]
    constructor
    · frame_out
      exact copied4 m c
    · frame_out
      exact copied5 m c
  | succ n ih =>
    by_cases h8 : (n + 1) % 8 = 0
    · rw [outsAt0_C m c ⟨n + 1, h⟩ (by show ¬(n + 1) % 16 = 0; omega) h8]
      exact ih (Nat.lt_of_succ_lt h) (by omega)
    · rw [outsAt0_B m c ⟨n + 1, h⟩ (by show ¬(n + 1) % 16 = 0; omega) h8]
      exact ih (Nat.lt_of_succ_lt h) (by omega)

/-- The rows a point finds before its own: none at the start of a sequence, else those the point before left. -/
def before (t : Fin cfg0.N) : Vec Ideal S8x5632 .f32 :=
  if t.val % 8 = 0 then k0_pay2 (F := Ideal) else (outsAt0 m c (t.val - 1) (Nat.lt_of_le_of_lt (Nat.sub_le _ _) t.isLt)).2.2.2.2.2.2.2

theorem before_start (t : Fin cfg0.N) (h : t.val % 8 = 0) : before m c t = k0_pay2 (F := Ideal) := if_pos h

theorem before_next (t : Fin cfg0.N) (h : ¬t.val % 8 = 0) :
    before m c t = (outsAt0 m c (t.val - 1) (Nat.lt_of_le_of_lt (Nat.sub_le _ _) t.isLt)).2.2.2.2.2.2.2 := if_neg h

/-- A load of one row misses a store of other columns. -/
theorem skip (v : View sig .tc .vmem S8x5632 .f32) (b r o : ℕ) (inb : ∀ a, (![0, b] : Fin 2 → ℕ) a + (![8, 256] : Fin 2 → ℕ) a ≤ S8x5632.size a)
    (inb' : ∀ a, (![r, o] : Fin 2 → ℕ) a + (![1, 256] : Fin 2 → ℕ) a ≤ S8x5632.size a) (w : (Rect.unit (s := S8x5632) ![0, b] ![8, 256] inb).shape.Idx → Elt Ideal .f32)
    (L : List (View.Piece (Elt Ideal) S8x5632 .f32)) (h : b + 256 ≤ o ∨ o + 256 ≤ b) :
    v.readCov (⟨Rect.unit ![0, b] ![8, 256] inb, w⟩ :: L) (Rect.unit ![r, o] ![1, 256] inb').toLoadRect
      = v.readCov L (Rect.unit ![r, o] ![1, 256] inb').toLoadRect := by
  refine View.readCov_skip v _ w L _ (decide_eq_true ⟨1, ?_⟩)
  rcases h with h | h
  · exact Or.inr (Or.inr (Or.inl (by show b + 1 * (256 - 1) < o; omega)))
  · exact Or.inr (Or.inr (Or.inr (by show o + 1 * (256 - 1) < b; omega)))

/-- The weights. -/
abbrev up : Vec Ideal S5632x1024 .bf16 := m ((c : Thread nD τ).loc main_arg4)
abbrev down : Vec Ideal S2816x1024 .bf16 := m ((c : Thread nD τ).loc main_arg5)

/-- A point's chunks of the gate and of the value. -/
abbrev gateOf (t : Fin cfg0.N) (k : Fin 11) : FVec Ideal S256x256 .f32 := gateAt (iblk m c 1 t) (up m c) (before m c t) (iblk m c 2 t) (iblk m c 3 t) k
abbrev valueOf (t : Fin cfg0.N) (k : Fin 11) : FVec Ideal S256x256 .f32 := valueAt (iblk m c 1 t) (up m c) (before m c t) (iblk m c 2 t) (iblk m c 3 t) k

/-- A load of a whole array reads all the stores. -/
theorem whole (v : View sig .tc .vmem S256x2816 .bf16) (L : List (View.Piece (Elt Ideal) S256x2816 .bf16)) (inb : ∀ a, (![0, 0] : Fin 2 → ℕ) a + (![256, 2816] : Fin 2 → ℕ) a ≤ S256x2816.size a) :
    v.readCov L (Rect.unit (s := S256x2816) ![0, 0] ![256, 2816] inb).toLoadRect = View.canon L := by
  rw [View.readCov_eq_canon']
  exact funext fun j => congrArg (View.canon L) (Rect.emb_unit_full (s := S256x2816) inb j)

set_option maxHeartbeats 4000000 in
/-- What a point leaves of each result, and the products' last eight rows. -/
theorem left (t : Fin cfg0.N) :
    (outsAt0 m c t.val t.isLt).1 = View.canon (chunks.flatMap (pair (iblk m c 1 t) (up m c)))
    ∧ (outsAt0 m c t.val t.isLt).2.1 = View.canon (tiles fun k => k0_pay17 (gateOf m c t k) (valueOf m c t k))
    ∧ (outsAt0 m c t.val t.isLt).2.2.1 = View.canon (tiles fun k => k0_pay16 (gateOf m c t k))
    ∧ (outsAt0 m c t.val t.isLt).2.2.2.1 = View.canon (tiles fun k => k0_pay18 (gateOf m c t k) (valueOf m c t k))
    ∧ (outsAt0 m c t.val t.isLt).2.2.2.2.2.2.2
      = View.canon (chunks.flatMap (tail (iblk m c 1 t) (up m c)) ++ if t.val % 8 = 0 then [⟨Rect.unit ![0, 0] ![8, 5632] inb_S8x5632_S8x5632_0_0, k0_pay2 (F := Ideal)⟩] else []) := by
  by_cases h1 : t.val % 8 = 0
  · unfold gateOf valueOf
    rw [before_start m c t h1, if_pos h1]
    by_cases h0 : t.val % 16 = 0
    · rw [outsAt0_A m c t h0 h1]
      frame_out
      rw [copied4]
      simp only [Cert.Filled.filled (S := S5632x1024) _ _ _ _ (show ∀ a, (![0, 0] : Fin 2 → ℕ) a = 0 by decide),
        Cert.Filled.filled (S := S8x5632) _ _ _ _ (show ∀ a, (![0, 0] : Fin 2 → ℕ) a = 0 by decide), ↓skip, Nat.reduceAdd, Nat.reduceLeDiff, or_true, true_or]
      exact ⟨rfl, rfl, rfl, rfl, rfl⟩
    · rw [outsAt0_C m c t h0 h1]
      frame_out
      rw [(weights m c (t.val - 1) _).1]
      simp only [read_unread_whole,
        Cert.Filled.filled (S := S8x5632) _ _ _ _ (show ∀ a, (![0, 0] : Fin 2 → ℕ) a = 0 by decide), ↓skip, Nat.reduceAdd, Nat.reduceLeDiff, or_true, true_or]
      exact ⟨rfl, rfl, rfl, rfl, rfl⟩
  · rw [outsAt0_B m c t (by omega) h1]
    frame_out
    rw [(weights m c (t.val - 1) _).1]
    simp only [read_unread_whole]
    unfold gateOf valueOf
    rw [before_next m c t h1, if_neg h1]
    exact ⟨rfl, rfl, rfl, rfl, rfl⟩

set_option maxHeartbeats 1600000 in
/-- The rows a point leaves after the second product, over the activations it leaves. -/
theorem left_next (t : Fin cfg0.N) : (outsAt0 m c t.val t.isLt).2.2.2.2.1 = k0_pay1 (iblk m c 0 t) (outsAt0 m c t.val t.isLt).2.2.2.1 (down m c) := by
  by_cases h1 : t.val % 8 = 0
  · by_cases h0 : t.val % 16 = 0
    · rw [outsAt0_A m c t h0 h1]
      frame_out
      rw [copied5]
      exact congrArg₂ (k0_pay1 (F := Ideal) _) ((shapeCast_self _ _).trans (whole _ _ _)) rfl
    · rw [outsAt0_C m c t h0 h1]
      frame_out
      rw [(weights m c (t.val - 1) _).2]
      refine congrArg₂ (k0_pay1 (F := Ideal) _) ((shapeCast_self _ _).trans (whole _ _ _)) ?_
      simp only [read_unread_whole]
  · rw [outsAt0_B m c t (by omega) h1]
    frame_out
    rw [(weights m c (t.val - 1) _).2]
    refine congrArg₂ (k0_pay1 (F := Ideal) _) ((shapeCast_self _ _).trans (whole _ _ _)) ?_
    simp only [read_unread_whole]

end Cert.FwdFfn
-- ==== Proof.FfnTiles.lean ====
module

public import proofs.«01_k».proof.Defs
public import proofs.«01_k».proof.Proof.Gen.Kernel12
public import proofs.«01_k».proof.Proof.Gen.Kernel12Ideal.Value
public import proofs.«01_k».proof.Proof.Filled
public import proofs.«01_k».proof.Proof.FfnStep
public import Idealize.ShloMosaic.Lib.Pipeline.ValueKit
public import Idealize.ShloMosaic.Lib.VecWindow
public import Idealize.ShloMosaic.Lib.Pipeline.ReadBack
public import Idealize.ShloMosaic.Lib.Claim

@[expose] public section

set_option maxRecDepth 16384

noncomputable section

/-!
# The entries of a point's tiles

Each entry of the five arrays that a point leaves lies in one of its tiles, and is there a product, a convolved product
or an activation.
-/

namespace Cert.FwdFfn

open Idealize.ShloMosaic Idealize.ShloMosaic.TcCoe Idealize.SL.Sem
open Idealize.ShloMosaic.Pipeline (Dat)
open Cert.Kernel12Ideal Cert.Kernel12Ideal.Gen

/-! ## An entry of a tile -/

/-- Comparing two small numbers as words is comparing the numbers. -/
theorem word_eq : ∀ r : Fin 8, ∀ k : Fin 2, IntOp.cmpi .eq (BitVec.ofNat 32 r.val) (BitVec.ofNat 32 k.val) = if r.val = k.val then 1#1 else 0#1 := by
  decide

/-- A select on that comparison. -/
theorem select_row (n : ℕ) (k : Fin 2) (h : n < 8) (a b : EReal) :
    Scalar.select (IntOp.cmpi .eq (BitVec.ofNat 32 n) (BitVec.ofNat 32 k.val)) a b = if n = k.val then a else b := by
  rw [word_eq ⟨n, h⟩ k]
  by_cases hk : n = k.val <;> simp [hk, Scalar.select]

/-- An entry of the convolution: each row reads itself and the two rows before it, of which the first two rows find `p` and `q`. -/
theorem conv_apply (x : FVec Ideal S256x256 .f32) (p q : Vec Ideal S1x256 .f32) (c0 c1 c2 b : Vec Ideal S1x256 .f32) (r e : Fin 256) :
    k0_pay13 x p q c0 c1 c2 b (ix2 r e)
      = c0 (ix2 0 e) * (if h0 : r.val = 0 then p (ix2 0 e) else if h1 : r.val = 1 then q (ix2 0 e) else x (ix2 ⟨r.val - 2, by omega⟩ e))
        + c1 (ix2 0 e) * (if h0 : r.val = 0 then q (ix2 0 e) else x (ix2 ⟨r.val - 1, by omega⟩ e)) + c2 (ix2 0 e) * x (ix2 r e) + b (ix2 0 e) := by
  pointwise [k0_pay13]
  have h0 : ∀ a b, r.val < 8 → Scalar.select (IntOp.cmpi .eq (BitVec.ofNat 32 r.val) 0#32) a b = if r.val = 0 then a else b := fun a b h => select_row r.val 0 h a b
  have h1 : ∀ a b, r.val < 8 → Scalar.select (IntOp.cmpi .eq (BitVec.ofNat 32 r.val) 1#32) a b = if r.val = 1 then a else b := fun a b h => select_row r.val 1 h a b
  have hr : ∀ (n : ℕ) (hn : n < 256) (d : ℕ), d ≤ r.val → n = (r.val + 256 - d) % 256 → ∀ h', x (ix2 ⟨n, hn⟩ e) = x (ix2 ⟨r.val - d, h'⟩ e) := fun n hn d hd h h' =>
    congrArg (fun a => x (ix2 a e)) (Fin.ext (by show n = r.val - d; omega))
  refine congrArg₂ (fun u v => c0 (ix2 0 e) * u + c1 (ix2 0 e) * v + c2 (ix2 0 e) * x (ix2 r e) + b (ix2 0 e)) ?_ ?_
  · split
    · rw [h0 _ _ ‹_›, h1 _ _ ‹_›]
      split
      · rfl
      · split
        · rfl
        · exact hr _ _ 2 (by omega) rfl _
    · rw [dif_neg (by omega), dif_neg (by omega)]
      exact hr _ _ 2 (by omega) (by omega) _
  · split
    · rw [h0 _ _ ‹_›]
      split
      · rfl
      · exact hr _ _ 1 (by omega) rfl _
    · rw [dif_neg (by omega)]
      exact hr _ _ 1 (by omega) (by omega) _

/-- An entry of a product. -/
theorem product_apply (h : Vec Ideal S256x1024 .bf16) (w : Vec Ideal S5632x1024 .bf16) (o : ℕ) (ho : o + 256 ≤ 5632) (r e : Fin 256) :
    product h w o ho (ix2 r e) = ∑ k : Fin 1024, (h (ix2 r k) : EReal) * (w (ix2 ⟨o + e.val, by omega⟩ k) : EReal) := by
  pointwise [product, k0_pay3]

/-- An entry of a row that was loaded. -/
theorem row_apply {n : ℕ} (p : Vec Ideal (⟨2, ![n, 5632]⟩ : Shape) .f32) (a : Fin n) (o : ℕ) (ho : o + 256 ≤ 5632) (e : Fin 256) (inb) :
    View.ld p (Rect.unit (s := (⟨2, ![n, 5632]⟩ : Shape)) ![a.val, o] ![1, 256] inb) (ix2 0 e) = p (ix2 a ⟨o + e.val, by omega⟩) := by
  refine congrArg p (funext (Fin.forall_fin_two.mpr ⟨Fin.ext ?_, Fin.ext ?_⟩))
  · show a.val + 1 * 0 = a.val
    omega
  · show o + 1 * e.val = o + e.val
    omega

/-! ## An entry of what the tiles make up -/

/-- Stores of 256 columns each, whatever came before them: an entry is the entry of the store that covers its column. -/
theorem blocks {n N : ℕ} {ty : EltTy} (L L' : List (View.Piece (Elt Ideal) (⟨2, ![n, N]⟩ : Shape) ty)) (G : Fin n → Fin N → Elt Ideal ty)
    (hL : ∀ p ∈ L, ∃ (o : ℕ) (ho : o + 256 ≤ N) (f : (⟨2, ![n, 256]⟩ : Shape).Idx → Elt Ideal ty),
      p = ⟨Rect.unit ![0, o] ![n, 256] (fit (by omega) ho), f⟩ ∧ ∀ (r : Fin n) (e : Fin 256), f (ix2 r e) = G r ⟨o + e.val, by omega⟩)
    (hc : ∀ j : Fin N, ∃ p ∈ L, ∃ (o : ℕ) (ho : o + 256 ≤ N), p.1 = Rect.unit ![0, o] ![n, 256] (fit (by omega) ho) ∧ o ≤ j.val ∧ j.val < o + 256)
    (r : Fin n) (j : Fin N) : View.canon (L ++ L') (ix2 r j) = G r j := by
  refine View.canon_append_of_pieces (fun i => G (i 0) (i 1)) L' L (fun p hp x => ?_) (ix2 r j) ?_
  · obtain ⟨o, ho, f, rfl, hf⟩ := hL p hp
    have hx : x = ix2 (x 0) (x 1) := funext (Fin.forall_fin_two.mpr ⟨rfl, rfl⟩)
    refine (congrArg f hx).trans ((hf (x 0) (x 1)).trans (congrArg₂ G (Fin.ext ?_) (Fin.ext ?_)))
    · show (x 0).val = 0 + 1 * (x 0).val
      omega
    · show o + (x 1).val = o + 1 * (x 1).val
      omega
  · obtain ⟨p, hp, o, ho, hr, h0, h1⟩ := hc j
    refine ⟨p, hp, ?_⟩
    rw [hr]
    exact Rect.mem_set_unit.mpr (Fin.forall_fin_two.mpr ⟨⟨Nat.zero_le _, by show r.val < 0 + n; omega⟩, ⟨h0, h1⟩⟩)

theorem mem_chunks : ∀ k : Fin 11, k ∈ chunks := by decide

theorem tiles_apply (f : Fin 11 → FVec Ideal S256x256 .bf16) (G : Fin 256 → Fin 2816 → EReal)
    (h : ∀ k r e, f k (ix2 r e) = G r ⟨256 * k.val + e.val, by omega⟩) (r : Fin 256) (j : Fin 2816) : View.canon (tiles f) (ix2 r j) = G r j := by
  rw [← List.append_nil (tiles f)]
  refine blocks (tiles f) [] G (fun p hp => ?_) (fun i => ?_) r j
  · obtain ⟨k, -, rfl⟩ := List.mem_map.mp hp
    exact ⟨256 * k.val, by omega, f k, rfl, h k⟩
  · exact ⟨_, List.mem_map.mpr ⟨⟨i.val / 256, by omega⟩, mem_chunks _, rfl⟩, 256 * (i.val / 256), by omega, rfl, by omega, by omega⟩

variable (h : Vec Ideal S256x1024 .bf16) (w : Vec Ideal S5632x1024 .bf16)

theorem pairs_apply (r : Fin 256) (j : Fin 5632) : View.canon (chunks.flatMap (pair h w)) (ix2 r j)
    = ∑ k : Fin 1024, (h (ix2 r k) : EReal) * (w (ix2 j k) : EReal) := by
  rw [← List.append_nil (chunks.flatMap (pair h w))]
  refine blocks _ [] (fun r j => ∑ k : Fin 1024, (h (ix2 r k) : EReal) * (w (ix2 j k) : EReal)) (fun p hp => ?_) (fun i => ?_) r j
  · obtain ⟨k, -, hk⟩ := List.mem_flatMap.mp hp
    rcases List.mem_cons.mp hk with rfl | hk
    · exact ⟨2816 + 256 * k.val, by omega, _, rfl, product_apply h w (2816 + 256 * k.val) (by omega)⟩
    · obtain rfl := List.mem_singleton.mp hk
      exact ⟨256 * k.val, by omega, _, rfl, product_apply h w (256 * k.val) (by omega)⟩
  · by_cases hi : i.val < 2816
    · exact ⟨_, List.mem_flatMap.mpr ⟨⟨i.val / 256, by omega⟩, mem_chunks _, List.mem_cons_of_mem _ (List.mem_singleton_self _)⟩,
        256 * (i.val / 256), by omega, rfl, by omega, by omega⟩
    · exact ⟨_, List.mem_flatMap.mpr ⟨⟨(i.val - 2816) / 256, by omega⟩, mem_chunks _, List.mem_cons_self⟩,
        2816 + 256 * ((i.val - 2816) / 256), by omega, rfl, by omega, by omega⟩

/-- An entry of a tile's last eight rows. -/
theorem last_apply (x : FVec Ideal S256x256 .f32) (a : Fin 8) (e : Fin 256) : k0_pay8 x (ix2 a e) = x (ix2 ⟨248 + a.val, by omega⟩ e) := by
  pointwise [k0_pay8]

theorem tails_apply (L : List (View.Piece (Elt Ideal) S8x5632 .f32)) (a : Fin 8) (j : Fin 5632) : View.canon (chunks.flatMap (tail h w) ++ L) (ix2 a j)
    = ∑ k : Fin 1024, (h (ix2 ⟨248 + a.val, by omega⟩ k) : EReal) * (w (ix2 j k) : EReal) := by
  refine blocks _ L (fun a j => ∑ k : Fin 1024, (h (ix2 ⟨248 + a.val, by omega⟩ k) : EReal) * (w (ix2 j k) : EReal)) (fun p hp => ?_) (fun i => ?_) a j
  · obtain ⟨k, -, hk⟩ := List.mem_flatMap.mp hp
    rcases List.mem_cons.mp hk with rfl | hk
    · exact ⟨2816 + 256 * k.val, by omega, _, rfl, fun r e => (last_apply _ r e).trans (product_apply h w (2816 + 256 * k.val) (by omega) _ _)⟩
    · obtain rfl := List.mem_singleton.mp hk
      exact ⟨256 * k.val, by omega, _, rfl, fun r e => (last_apply _ r e).trans (product_apply h w (256 * k.val) (by omega) _ _)⟩
  · by_cases hi : i.val < 2816
    · exact ⟨_, List.mem_flatMap.mpr ⟨⟨i.val / 256, by omega⟩, mem_chunks _, List.mem_cons_of_mem _ (List.mem_singleton_self _)⟩,
        256 * (i.val / 256), by omega, rfl, by omega, by omega⟩
    · exact ⟨_, List.mem_flatMap.mpr ⟨⟨(i.val - 2816) / 256, by omega⟩, mem_chunks _, List.mem_cons_self⟩,
        2816 + 256 * ((i.val - 2816) / 256), by omega, rfl, by omega, by omega⟩

end Cert.FwdFfn
-- ==== Proof.FwdFfn.lean ====
module

public import proofs.«01_k».proof.Defs
public import proofs.«01_k».proof.Proof.Gen.Kernel12
public import proofs.«01_k».proof.Proof.Gen.Kernel12Ideal.Value
public import proofs.«01_k».proof.Proof.Filled
public import proofs.«01_k».proof.Proof.Gen.Reference12Ideal.Read
public import proofs.«01_k».proof.Proof.FfnTiles
public import Idealize.ShloMosaic.Lib.Pipeline.ValueKit
public import Idealize.ShloMosaic.Lib.VecWindow
public import Idealize.ShloMosaic.Lib.Pipeline.ReadBack
public import Idealize.ShloMosaic.Lib.Claim

@[expose] public section

set_option maxRecDepth 16384

noncomputable section

/-!
# The feed-forward network's forward

The normalised rows times the first weight, a convolution over three tokens of a sequence, the gated activation, and the
product with the second weight, added to the incoming rows. What a point of the grid leaves (FfnStep) and the entries
of its tiles (FfnTiles) give the five arrays as formulas in the arguments; the reference's are the same.
-/

namespace Cert.FwdFfn

open Idealize.ShloMosaic Idealize.ShloMosaic.TcCoe Idealize.SL.Sem
open Idealize.ShloMosaic.Pipeline (Dat)
open Cert.Kernel12Ideal Cert.Kernel12Ideal.Gen

/-! ## The mathematics -/

/-- The sigmoid. -/
def sigmoid (x : EReal) : EReal := Ideal.div 1 (1 + Ideal.exp (-x))

section Mathematics

variable (x : Vec Ideal S4096x1024 .f32) (h : Vec Ideal S4096x1024 .bf16) (cw : Vec Ideal S3x5632 .f32) (cb : Vec Ideal S1x5632 .f32)
  (wu : Vec Ideal S5632x1024 .bf16) (wd : Vec Ideal S2816x1024 .bf16)

/-- The first product. -/
def pre (s : Fin 4096) (j : Fin 5632) : EReal := ∑ k : Fin 1024, (h (ix2 s k) : EReal) * (wu (ix2 j k) : EReal)

/-- The first product `d` tokens before token `s`, and zero before the sequence starts. -/
def ago (d : ℕ) (s : Fin 4096) (j : Fin 5632) : EReal := if s.val % 2048 < d then 0 else pre h wu ⟨s.val - d, by omega⟩ j

/-- The causal convolution along the tokens. -/
def conved (s : Fin 4096) (j : Fin 5632) : EReal :=
  cw (ix2 0 j) * ago h wu 2 s j + cw (ix2 1 j) * ago h wu 1 s j + cw (ix2 2 j) * pre h wu s j + cb (ix2 0 j)

/-- The gate, the value, and the gate's activation. -/
def gateOn (s : Fin 4096) (j : Fin 2816) : EReal := conved h cw cb wu s ⟨j.val, by omega⟩
def valueOn (s : Fin 4096) (j : Fin 2816) : EReal := conved h cw cb wu s ⟨2816 + j.val, by omega⟩
def silu (s : Fin 4096) (j : Fin 2816) : EReal := gateOn h cw cb wu s j * sigmoid (gateOn h cw cb wu s j)

/-- What multiplies the activation's cotangent in the gate's. -/
def slope (s : Fin 4096) (j : Fin 2816) : EReal :=
  valueOn h cw cb wu s j * (sigmoid (gateOn h cw cb wu s j) * (1 + gateOn h cw cb wu s j * (1 - sigmoid (gateOn h cw cb wu s j))))

/-- The five results. -/
def products : Vec Ideal S4096x5632 .bf16 := fun i => pre h wu (i 0) (i 1)
def slopes : Vec Ideal S4096x2816 .bf16 := fun i => slope h cw cb wu (i 0) (i 1)
def silus : Vec Ideal S4096x2816 .bf16 := fun i => silu h cw cb wu (i 0) (i 1)
def acts : Vec Ideal S4096x2816 .bf16 := fun i => silu h cw cb wu (i 0) (i 1) * valueOn h cw cb wu (i 0) (i 1)
def added : Vec Ideal S4096x1024 .f32 := fun i =>
  x i + ∑ k : Fin 2816, silu h cw cb wu (i 0) k * valueOn h cw cb wu (i 0) k * (wd (ix2 k (i 1)) : EReal)

end Mathematics

/-! ## The kernel -/

variable (m : (ℓ : Loc nD τ sig) → Buf (Elt Ideal) ℓ) (c : Dev nD)

/-- The arguments. -/
abbrev xs : Vec Ideal S4096x1024 .f32 := m ((c : Thread nD τ).loc main_arg0)
abbrev hs : Vec Ideal S4096x1024 .bf16 := m ((c : Thread nD τ).loc main_arg1)
abbrev cws : Vec Ideal S3x5632 .f32 := m ((c : Thread nD τ).loc main_arg2)
abbrev cbs : Vec Ideal S1x5632 .f32 := m ((c : Thread nD τ).loc main_arg3)

theorem idx : ∀ t : Fin cfg0.N, win0_0.index t = ![t.val, 0] ∧ win0_1.index t = ![t.val, 0] ∧ win0_2.index t = ![0, 0] ∧
    win0_3.index t = ![0, 0] ∧ win0_4.index t = ![t.val, 0] ∧ win0_5.index t = ![t.val, 0] ∧ win0_6.index t = ![t.val, 0] ∧
    win0_7.index t = ![t.val, 0] ∧ win0_8.index t = ![t.val, 0] :=
  (by decide +kernel : ∀ t : Fin grid0.N, _)

/-- Token `r` of a point's tokens. -/
def tok (t : Fin cfg0.N) (r : Fin 256) : Fin 4096 := ⟨256 * t.val + r.val, by have ht : t.val < 16 := t.isLt; omega⟩

theorem block0 (t : Fin cfg0.N) (r : Fin 256) (k : Fin 1024) : (iblk m c 0 t : Vec Ideal S256x1024 .f32) (ix2 r k) = xs m c (ix2 (tok t r) k) := by
  blk_point [iblk, V, idx t]
  show t.val * 256 + r.val = 256 * t.val + r.val
  omega

theorem block1 (t : Fin cfg0.N) (r : Fin 256) (k : Fin 1024) : (iblk m c 1 t : Vec Ideal S256x1024 .bf16) (ix2 r k) = hs m c (ix2 (tok t r) k) := by
  blk_point [iblk, V, idx t]
  show t.val * 256 + r.val = 256 * t.val + r.val
  omega

theorem block2 (t : Fin cfg0.N) (a : Fin 3) (j : Fin 5632) : (iblk m c 2 t : Vec Ideal S3x5632 .f32) (ix2 a j) = cws m c (ix2 a j) := by
  blk_point [iblk, V, idx t]

theorem block3 (t : Fin cfg0.N) (j : Fin 5632) : (iblk m c 3 t : Vec Ideal S1x5632 .f32) (ix2 0 j) = cbs m c (ix2 0 j) := by
  blk_point [iblk, V, idx t]

/-- A point's product. -/
theorem product_tok (t : Fin cfg0.N) (o : ℕ) (ho : o + 256 ≤ 5632) (r e : Fin 256) :
    product (iblk m c 1 t) (up m c) o ho (ix2 r e) = pre (hs m c) (up m c) (tok t r) ⟨o + e.val, by omega⟩ := by
  rw [product_apply]
  exact Finset.sum_congr rfl fun k _ => congrArg (· * _) (block1 m c t r k)

theorem ago_within (t : Fin cfg0.N) (r : Fin 256) (d : ℕ) (hd : d ≤ r.val) (j : Fin 5632) :
    ago (hs m c) (up m c) d (tok t r) j = pre (hs m c) (up m c) (tok t ⟨r.val - d, by omega⟩) j := by
  unfold ago
  rw [if_neg (by show ¬(256 * t.val + r.val) % 2048 < d; omega)]
  exact congrArg (pre (hs m c) (up m c) · j) (Fin.ext (by show 256 * t.val + r.val - d = 256 * t.val + (r.val - d); omega))

/-- The rows a point finds before its own are the products of the tokens before, or zero at the start of a sequence. -/
theorem before_apply (t : Fin cfg0.N) (a : Fin 8) (j : Fin 5632) (d : ℕ) (r : Fin 256) (ha : d + a.val = 8 + r.val) (hr : r.val < d) (hd : d ≤ 2) :
    before m c t (ix2 a j) = ago (hs m c) (up m c) d (tok t r) j := by
  have ht : t.val < 16 := t.isLt
  unfold ago
  by_cases h8 : t.val % 8 = 0
  · rw [before_start m c t h8, if_pos (by show (256 * t.val + r.val) % 2048 < d; omega)]
    pointwise [k0_pay2]
  · rw [before_next m c t h8, if_neg (by show ¬(256 * t.val + r.val) % 2048 < d; omega)]
    rw [(left m c ⟨t.val - 1, by omega⟩).2.2.2.2, tails_apply]
    refine Finset.sum_congr rfl fun k _ => congrArg (· * _) ((block1 m c ⟨t.val - 1, by omega⟩ _ k).trans ?_)
    exact congrArg (fun s => hs m c (ix2 s k)) (Fin.ext (by show 256 * (t.val - 1) + (248 + a.val) = 256 * t.val + r.val - d; omega))

/-- A point's convolution. -/
theorem conv_tok (t : Fin cfg0.N) (o : ℕ) (ho : o + 256 ≤ 5632) (r e : Fin 256) :
    conv (iblk m c 1 t) (up m c) (before m c t) (iblk m c 2 t) (iblk m c 3 t) o ho (ix2 r e)
      = conved (hs m c) (cws m c) (cbs m c) (up m c) (tok t r) ⟨o + e.val, by omega⟩ := by
  unfold conv conved
  rw [conv_apply]
  have h6 := row_apply (before m c t) 6 o ho e (fit (by decide) ho)
  have h7 := row_apply (before m c t) 7 o ho e (fit (by decide) ho)
  refine congrArg₂ (fun u v : EReal => u + v) (congrArg₂ (fun u v : EReal => u + v) (congrArg₂ (fun u v : EReal => u + v)
    (congrArg₂ (fun u v : EReal => u * v) ?_ ?_) (congrArg₂ (fun u v : EReal => u * v) ?_ ?_)) (congrArg₂ (fun u v : EReal => u * v) ?_ ?_)) ?_
  · exact (row_apply (iblk m c 2 t) 0 o ho e (fit (by decide) ho)).trans (block2 m c t 0 _)
  · split
    · exact h6.trans (before_apply m c t 6 _ 2 r (by show 2 + 6 = _; omega) (by omega) le_rfl)
    · split
      · exact h7.trans (before_apply m c t 7 _ 2 r (by show 2 + 7 = _; omega) (by omega) le_rfl)
      · exact (product_tok m c t o ho _ e).trans (ago_within m c t r 2 (by omega) _).symm
  · exact (row_apply (iblk m c 2 t) 1 o ho e (fit (by decide) ho)).trans (block2 m c t 1 _)
  · split
    · exact h7.trans (before_apply m c t 7 _ 1 r (by show 1 + 7 = _; omega) (by omega) (by decide))
    · exact (product_tok m c t o ho _ e).trans (ago_within m c t r 1 (by omega) _).symm
  · exact (row_apply (iblk m c 2 t) 2 o ho e (fit (by decide) ho)).trans (block2 m c t 2 _)
  · exact product_tok m c t o ho r e
  · exact (row_apply (iblk m c 3 t) 0 o ho e (fit (by decide) ho)).trans (block3 m c t _)

theorem gate_tok (t : Fin cfg0.N) (k : Fin 11) (r e : Fin 256) :
    gateOf m c t k (ix2 r e) = gateOn (hs m c) (cws m c) (cbs m c) (up m c) (tok t r) ⟨256 * k.val + e.val, by omega⟩ := conv_tok m c t _ _ r e

theorem value_tok (t : Fin cfg0.N) (k : Fin 11) (r e : Fin 256) :
    valueOf m c t k (ix2 r e) = valueOn (hs m c) (cws m c) (cbs m c) (up m c) (tok t r) ⟨256 * k.val + e.val, by omega⟩ :=
  (conv_tok m c t _ _ r e).trans (congrArg (conved (hs m c) (cws m c) (cbs m c) (up m c) (tok t r)) (Fin.ext (Nat.add_assoc _ _ _)))

/-- A point's activations. -/
theorem acts_tok (t : Fin cfg0.N) (r : Fin 256) (j : Fin 2816) : (outsAt0 m c t.val t.isLt).2.2.2.1 (ix2 r j)
    = silu (hs m c) (cws m c) (cbs m c) (up m c) (tok t r) j * valueOn (hs m c) (cws m c) (cbs m c) (up m c) (tok t r) j := by
  rw [(left m c t).2.2.2.1]
  refine tiles_apply _ (fun r j => silu (hs m c) (cws m c) (cbs m c) (up m c) (tok t r) j * valueOn (hs m c) (cws m c) (cbs m c) (up m c) (tok t r) j)
    (fun k r e => ?_) r j
  pointwise [k0_pay18, k0_pay15, k0_pay14, silu, sigmoid]
  simp only [zero_sub, gate_tok, value_tok]

/-! ## The results -/

/-- Where an entry of a point's block lies in the result. -/
theorem place4 (t : Fin cfg0.N) (r : Fin 256) (j : Fin 5632) : (win0_4.blk t).view.emb (ix2 r j) = ix2 (tok t r) j := by
  refine funext (Fin.forall_fin_two.mpr ⟨Fin.ext ?_, Fin.ext ?_⟩)
  · blk_simp [idx t]
    show t.val * 256 + r.val = 256 * t.val + r.val
    omega
  · blk_simp [idx t]

theorem final_products : (dats m 0 c).arrAt 4 cfg0.N = products (hs m c) (up m c) := by
  refine (dats m 0 c).arrAt_eq_of_covers 4 _ (by decide +kernel) fun t hf y => ?_
  have ht : t.val < 16 := t.isLt
  blk_simp
  rw [after0_4]
  rw [(left m c t).1]
  idx_vars y
  rw [place4]
  exact (pairs_apply _ _ y0 y1).trans (Finset.sum_congr rfl fun k _ => congrArg (fun u : EReal => u * (up m c (ix2 y1 k) : EReal)) (block1 m c t y0 k))

theorem place5 (t : Fin cfg0.N) (r : Fin 256) (j : Fin 2816) : (win0_5.blk t).view.emb (ix2 r j) = ix2 (tok t r) j := by
  refine funext (Fin.forall_fin_two.mpr ⟨Fin.ext ?_, Fin.ext ?_⟩)
  · blk_simp [idx t]
    show t.val * 256 + r.val = 256 * t.val + r.val
    omega
  · blk_simp [idx t]

theorem final_slopes : (dats m 0 c).arrAt 5 cfg0.N = slopes (hs m c) (cws m c) (cbs m c) (up m c) := by
  refine (dats m 0 c).arrAt_eq_of_covers 5 _ (by decide +kernel) fun t hf y => ?_
  have ht : t.val < 16 := t.isLt
  blk_simp
  rw [after0_5]
  rw [(left m c t).2.1]
  idx_vars y
  rw [place5]
  refine tiles_apply _ (fun r j => slope (hs m c) (cws m c) (cbs m c) (up m c) (tok t r) j) (fun k r e => ?_) y0 y1
  pointwise [k0_pay17, k0_pay14, slope, sigmoid]
  simp only [zero_sub, gate_tok, value_tok]

theorem place6 (t : Fin cfg0.N) (r : Fin 256) (j : Fin 2816) : (win0_6.blk t).view.emb (ix2 r j) = ix2 (tok t r) j := by
  refine funext (Fin.forall_fin_two.mpr ⟨Fin.ext ?_, Fin.ext ?_⟩)
  · blk_simp [idx t]
    show t.val * 256 + r.val = 256 * t.val + r.val
    omega
  · blk_simp [idx t]

theorem final_silus : (dats m 0 c).arrAt 6 cfg0.N = silus (hs m c) (cws m c) (cbs m c) (up m c) := by
  refine (dats m 0 c).arrAt_eq_of_covers 6 _ (by decide +kernel) fun t hf y => ?_
  have ht : t.val < 16 := t.isLt
  blk_simp
  rw [after0_6]
  rw [(left m c t).2.2.1]
  idx_vars y
  rw [place6]
  refine tiles_apply _ (fun r j => silu (hs m c) (cws m c) (cbs m c) (up m c) (tok t r) j) (fun k r e => ?_) y0 y1
  pointwise [k0_pay16, k0_pay15, k0_pay14, silu, sigmoid]
  simp only [zero_sub, gate_tok]

theorem place7 (t : Fin cfg0.N) (r : Fin 256) (j : Fin 2816) : (win0_7.blk t).view.emb (ix2 r j) = ix2 (tok t r) j := by
  refine funext (Fin.forall_fin_two.mpr ⟨Fin.ext ?_, Fin.ext ?_⟩)
  · blk_simp [idx t]
    show t.val * 256 + r.val = 256 * t.val + r.val
    omega
  · blk_simp [idx t]

theorem final_acts : (dats m 0 c).arrAt 7 cfg0.N = acts (hs m c) (cws m c) (cbs m c) (up m c) := by
  refine (dats m 0 c).arrAt_eq_of_covers 7 _ (by decide +kernel) fun t hf y => ?_
  have ht : t.val < 16 := t.isLt
  blk_simp
  rw [after0_7]
  idx_vars y
  rw [place7]
  exact acts_tok m c t y0 y1

theorem place8 (t : Fin cfg0.N) (r : Fin 256) (j : Fin 1024) : (win0_8.blk t).view.emb (ix2 r j) = ix2 (tok t r) j := by
  refine funext (Fin.forall_fin_two.mpr ⟨Fin.ext ?_, Fin.ext ?_⟩)
  · blk_simp [idx t]
    show t.val * 256 + r.val = 256 * t.val + r.val
    omega
  · blk_simp [idx t]

theorem final_added : (dats m 0 c).arrAt 8 cfg0.N = added (xs m c) (hs m c) (cws m c) (cbs m c) (up m c) (down m c) := by
  refine (dats m 0 c).arrAt_eq_of_covers 8 _ (by decide +kernel) fun t hf y => ?_
  have ht : t.val < 16 := t.isLt
  blk_simp
  rw [after0_8]
  rw [left_next m c t]
  idx_vars y
  rw [place8]
  pointwise [k0_pay1, added]
  simp only [acts_tok]
  exact congrArg (· + _) (block0 m c t y0 y1)

/-! ## The reference -/

open Cert.Reference12Ideal.Read

/-- The sigmoid's derivative, factored two ways. -/
theorem slope_eq (g : EReal) : sigmoid g + g * (sigmoid g * (1 - sigmoid g)) = sigmoid g * (1 + g * (1 - sigmoid g)) := by
  induction g with
  | bot =>
    have ht : (1 : EReal) + ⊤ = ⊤ := EReal.add_top_of_ne_bot (EReal.coe_ne_bot 1)
    have h : sigmoid ⊥ = 0 := by simp [sigmoid, Ideal.div, ht]
    simp [h]
  | top =>
    have h : sigmoid ⊤ = 1 := by simp [sigmoid, Ideal.div]
    simp [h]
  | coe x =>
    have hp : (1 + Real.exp (-x)) ≠ 0 := (add_pos one_pos (Real.exp_pos _)).ne'
    have h : sigmoid (x : EReal) = ((1 / (1 + Real.exp (-x)) : ℝ) : EReal) := by
      unfold sigmoid
      rw [← EReal.coe_neg, Ideal.exp_coe, ← EReal.coe_one, ← EReal.coe_add, Ideal.div_coe hp, ← EReal.coe_mul, one_mul]
    rw [h, ← EReal.coe_one, ← EReal.coe_sub, ← EReal.coe_mul, ← EReal.coe_mul, ← EReal.coe_mul, ← EReal.coe_add, ← EReal.coe_add, ← EReal.coe_mul]
    exact congrArg _ (by ring)

section Reference

variable (x : Vec Ideal S4096x1024 .f32) (h : Vec Ideal S4096x1024 .bf16) (cw : Vec Ideal S3x5632 .f32) (cb : Vec Ideal S1x5632 .f32)
  (wu : Vec Ideal S5632x1024 .bf16) (wd : Vec Ideal S2816x1024 .bf16)

/-- Token `s` of sequence `b`. -/
def seqTok (b : Fin 2) (s : Fin 2048) : Fin 4096 := ⟨b.val * 2048 + s.val, by omega⟩

/-- The reference's product with the first weight. -/
theorem ref_pre (b : Fin 2) (s : Fin 2048) (j : Fin 5632) : val_main_v4 (F := Ideal) h wu (ix3 b s j) = pre h wu (seqTok b s) j := by
  pointwise [val_main_v4, val_main_v3, val_main_v2, val_main_v1, val_main_v0, pre]
  rfl

/-- The padding is zero. -/
theorem zero_word : FloatOps.sitofp (F := Ideal) FTy.f32 0#32 = 0 := by
  show ((((0#32).toInt : ℤ) : ℝ) : EReal) = 0
  simp

/-- The reference's padded product, `d` tokens before token `s`. -/
theorem ref_pad (b : Fin 2) (s : Fin 2048) (d : ℕ) (hd : d ≤ 2) (n : ℕ) (hn : n + d = 2 + s.val) (h' : n < 2050) (j : Fin 5632) :
    val_main_v6 (F := Ideal) h wu (ix3 b ⟨n, h'⟩ j) = ago h wu d (seqTok b s) j := by
  pointwise [val_main_v6, val_main_call0_v0, val_main_c]
  unfold ago
  by_cases hs : s.val < d
  · rw [dif_neg (by omega), if_pos (by show (b.val * 2048 + s.val) % 2048 < d; omega)]
    exact zero_word
  · rw [dif_pos (by omega), if_neg (by show ¬(b.val * 2048 + s.val) % 2048 < d; omega)]
    exact (ref_pre h wu b _ j).trans (congrArg (pre h wu · j) (Fin.ext (by show b.val * 2048 + (n - 2) = b.val * 2048 + s.val - d; omega)))

/-- The reference's convolution. -/
theorem ref_conv (b : Fin 2) (s : Fin 2048) (j : Fin 5632) : val_main_v29 (F := Ideal) h cw cb wu (ix3 b s j) = conved h cw cb wu (seqTok b s) j := by
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v5]
  rw [ref_pad h wu b s 2 le_rfl s.val (by omega), ref_pad h wu b s 1 (by decide) (1 + s.val) (by omega), ref_pad h wu b s 0 (by decide) (2 + s.val) (by omega)]
  unfold conved
  rw [show ago h wu 0 (seqTok b s) j = pre h wu (seqTok b s) j from if_neg (Nat.not_lt_zero _)]

/-- The gate's half of it. -/
theorem ref_gate (b : Fin 2) (s : Fin 2048) (j : Fin 2816) : val_main_v30 (F := Ideal) h cw cb wu (ix3 b s j) = gateOn h cw cb wu (seqTok b s) j := by
  pointwise [val_main_v30]
  rw [ref_conv]
  rfl

/-- The value's half of it. -/
theorem ref_value (b : Fin 2) (s : Fin 2048) (j : Fin 2816) : val_main_v31 (F := Ideal) h cw cb wu (ix3 b s j) = valueOn h cw cb wu (seqTok b s) j := by
  pointwise [val_main_v31]
  rw [ref_conv]
  rfl

/-- The reference's activations. -/
theorem ref_act (b : Fin 2) (s : Fin 2048) (j : Fin 2816) : val_main_v33 (F := Ideal) h cw cb wu (ix3 b s j)
    = silu h cw cb wu (seqTok b s) j * valueOn h cw cb wu (seqTok b s) j := by
  pointwise [val_main_v33, val_main_v32_0, val_main_v32_2, val_main_call1_v4, val_main_call1_v3, val_main_call1_v2, val_main_call1_v1, val_main_call1_v0, val_main_call1_cst, val_main_call1_cst_0, silu, sigmoid]
  rw [ref_gate, ref_value]

/-- Every token is a token of its sequence. -/
theorem seqTok_self (s : Fin 4096) (h0 : s.val / 2048 < 2) (h1 : s.val % 2048 < 2048) : seqTok ⟨s.val / 2048, h0⟩ ⟨s.val % 2048, h1⟩ = s :=
  Fin.ext (by show s.val / 2048 * 2048 + s.val % 2048 = s.val; omega)

theorem ref_products : val_main_v39 (F := Ideal) h wu = products h wu := funext fun i => by
  idx_vars i
  pointwise [val_main_v39, val_main_v38, products]
  rw [ref_pre, seqTok_self]

theorem ref_slopes : val_main_v44 (F := Ideal) h cw cb wu = slopes h cw cb wu := funext fun i => by
  idx_vars i
  pointwise [val_main_v44, val_main_v43, val_main_v42, val_main_v41, val_main_v40, val_main_cst, val_main_call2_v0, val_main_call2_v1, val_main_call2_v2, val_main_v32_1, val_main_v32_2, val_main_call1_v7, val_main_call1_v6, val_main_call1_cst_1, val_main_call1_v4, val_main_call1_v3, val_main_call1_v2, val_main_call1_v1, val_main_call1_v0, val_main_call1_cst, val_main_call1_cst_0, slopes, slope]
  rw [ref_gate, ref_value, seqTok_self, ← slope_eq]
  rfl

theorem ref_silus : val_main_v46 (F := Ideal) h cw cb wu = silus h cw cb wu := funext fun i => by
  idx_vars i
  pointwise [val_main_v46, val_main_v45, val_main_v32_0, val_main_v32_2, val_main_call1_v4, val_main_call1_v3, val_main_call1_v2, val_main_call1_v1, val_main_call1_v0, val_main_call1_cst, val_main_call1_cst_0, silus, silu, sigmoid]
  rw [ref_gate, seqTok_self]

theorem ref_acts : val_main_v48 (F := Ideal) h cw cb wu = acts h cw cb wu := funext fun i => by
  idx_vars i
  pointwise [val_main_v48, val_main_v47, acts]
  rw [ref_act, seqTok_self]

theorem ref_added : val_main_v49 (F := Ideal) x h cw cb wu wd = added x h cw cb wu wd := funext fun i => by
  idx_vars i
  pointwise [val_main_v49, val_main_v37, val_main_v36, val_main_v35, val_main_v34, added]
  simp only [ref_act, seqTok_self]

end Reference

/-- The kernel's five results are the reference's. -/
theorem values : Cert.algebraic_Kernel12Ideal_Reference12Ideal := by
  pair_intro
  · run_from Cert.Kernel12Ideal.Value.run_blocks m g
  · refine (θ_run Cert.Reference12Ideal.defs _ _).mono (fun r h c => ?_) (Cert.Reference12Ideal.Value.run m' g')
    obtain ⟨h0, h1, h2, h3, h4, h5⟩ := hagree c
    refine ⟨(h c).1.trans ((ref_products _ _).trans ?_), (h c).2.1.trans ((val_main_v44_eq m' c).trans ((ref_slopes _ _ _ _).trans ?_)),
      (h c).2.2.1.trans ((val_main_v46_eq m' c).trans ((ref_silus _ _ _ _).trans ?_)), (h c).2.2.2.1.trans ((val_main_v48_eq m' c).trans ((ref_acts _ _ _ _).trans ?_)),
      (h c).2.2.2.2.1.trans ((val_main_v49_eq m' c).trans ((ref_added _ _ _ _ _ _).trans ?_)), (h c).2.2.2.2.2⟩
    · rw [h1, h4]
      exact (final_products m c).symm
    · rw [h1, h2, h3, h4]
      exact (final_slopes m c).symm
    · rw [h1, h2, h3, h4]
      exact (final_silus m c).symm
    · rw [h1, h2, h3, h4]
      exact (final_acts m c).symm
    · rw [h0, h1, h2, h3, h4, h5]
      exact (final_added m c).symm

/-- What the kernel's run leaves of the arguments and the counters. -/
theorem frame : Cert.quiescent_Kernel12Ideal := fun m ρ _ => Cert.Kernel12Ideal.Gen.frame m ρ

/-- The same of the text over machine words. -/
theorem frame_words : Cert.quiescent_Kernel12 :=
  (show (∀ m ρ, True → type_of% (Cert.Kernel12Ideal.Gen.frame (F := Bits) m ρ)) = Cert.quiescent_Kernel12 by sl_kernel_rfl) ▸
    fun m ρ _ => Cert.Kernel12Ideal.Gen.frame m ρ

theorem frame_reference : Cert.quiescent_Reference12Ideal := fun m ρ _ =>
  (θ_run Cert.Reference12Ideal.defs _ _).mono (fun r h => ⟨fun c => (h c).2.2.2.2.2, sem_eq_zero_of_no_sems (by decide) r.2⟩)
    (Cert.Reference12Ideal.Value.run m ρ)

end Cert.FwdFfn
-- ==== Proof.Adam.lean ====
module

public import proofs.«01_k».proof.Defs
public import proofs.«01_k».proof.Proof.Gen.Kernel13
public import proofs.«01_k».proof.Proof.Gen.Kernel13Ideal.Value
public import proofs.«01_k».proof.Proof.Gen.Reference13Ideal.Run
public import proofs.«01_k».proof.Proof.Gen.Kernel14
public import proofs.«01_k».proof.Proof.Gen.Kernel14Ideal.Value
public import proofs.«01_k».proof.Proof.Gen.Reference14Ideal.Run
public import proofs.«01_k».proof.Proof.Gen.Kernel15
public import proofs.«01_k».proof.Proof.Gen.Kernel15Ideal.Value
public import proofs.«01_k».proof.Proof.Gen.Reference15Ideal.Run
public import proofs.«01_k».proof.Proof.Gen.Kernel16
public import proofs.«01_k».proof.Proof.Gen.Kernel16Ideal.Value
public import proofs.«01_k».proof.Proof.Gen.Reference16Ideal.Run
public import Idealize.ShloMosaic.Lib.Pipeline.ValueKit
public import Idealize.ShloMosaic.Lib.Claim

@[expose] public section

set_option maxRecDepth 16384

noncomputable section

/-!
# The optimiser's steps

A step of AdamW works on every entry apart: the kernel takes blocks of rows, the reference the whole arrays, and an entry
of a result is the same formula in the entries of the weight, the gradient and the two moments.
-/

open Idealize.ShloMosaic Idealize.ShloMosaic.TcCoe Idealize.SL.Sem

/-! ## The step of the first weight of the FFN -/

namespace Cert.AdamUp

/-- The kernel's three results are the reference's. -/
theorem values : Cert.algebraic_Kernel13Ideal_Reference13Ideal := by
  pair_intro
  · run_from Cert.Kernel13Ideal.Value.run m g
  · refine (θ_run Cert.Reference13Ideal.defs _ _).mono (fun r h c => ?_) (Cert.Reference13Ideal.Value.run m' g')
    obtain ⟨h0, h1, h2, h3⟩ := hagree c
    rw [← h0, ← h1, ← h2, ← h3]
    exact h c

/-- What the kernel's run leaves of the arguments and the counters. -/
theorem frame : Cert.quiescent_Kernel13Ideal := fun m ρ _ => Cert.Kernel13Ideal.Gen.frame m ρ

/-- The same of the text over machine words. -/
theorem frame_words : Cert.quiescent_Kernel13 :=
  (show (∀ m ρ, True → type_of% (Cert.Kernel13Ideal.Gen.frame (F := Bits) m ρ)) = Cert.quiescent_Kernel13 by sl_kernel_rfl) ▸
    fun m ρ _ => Cert.Kernel13Ideal.Gen.frame m ρ

theorem frame_reference : Cert.quiescent_Reference13Ideal := fun m ρ _ =>
  (θ_run Cert.Reference13Ideal.defs _ _).mono (fun r h => ⟨fun c => (h c).2.2.2, sem_eq_zero_of_no_sems (by decide) r.2⟩)
    (Cert.Reference13Ideal.Value.run m ρ)

end Cert.AdamUp

/-! ## The step of the second weight of the FFN -/

namespace Cert.AdamDown

/-- The kernel's three results are the reference's. -/
theorem values : Cert.algebraic_Kernel14Ideal_Reference14Ideal := by
  pair_intro
  · run_from Cert.Kernel14Ideal.Value.run m g
  · refine (θ_run Cert.Reference14Ideal.defs _ _).mono (fun r h c => ?_) (Cert.Reference14Ideal.Value.run m' g')
    obtain ⟨h0, h1, h2, h3⟩ := hagree c
    rw [← h0, ← h1, ← h2, ← h3]
    exact h c

/-- What the kernel's run leaves of the arguments and the counters. -/
theorem frame : Cert.quiescent_Kernel14Ideal := fun m ρ _ => Cert.Kernel14Ideal.Gen.frame m ρ

/-- The same of the text over machine words. -/
theorem frame_words : Cert.quiescent_Kernel14 :=
  (show (∀ m ρ, True → type_of% (Cert.Kernel14Ideal.Gen.frame (F := Bits) m ρ)) = Cert.quiescent_Kernel14 by sl_kernel_rfl) ▸
    fun m ρ _ => Cert.Kernel14Ideal.Gen.frame m ρ

theorem frame_reference : Cert.quiescent_Reference14Ideal := fun m ρ _ =>
  (θ_run Cert.Reference14Ideal.defs _ _).mono (fun r h => ⟨fun c => (h c).2.2.2, sem_eq_zero_of_no_sems (by decide) r.2⟩)
    (Cert.Reference14Ideal.Value.run m ρ)

end Cert.AdamDown

/-! ## The step of the output projection's weight -/

namespace Cert.AdamOut

/-- The kernel's three results are the reference's. -/
theorem values : Cert.algebraic_Kernel15Ideal_Reference15Ideal := by
  pair_intro
  · run_from Cert.Kernel15Ideal.Value.run m g
  · refine (θ_run Cert.Reference15Ideal.defs _ _).mono (fun r h c => ?_) (Cert.Reference15Ideal.Value.run m' g')
    obtain ⟨h0, h1, h2, h3⟩ := hagree c
    rw [← h0, ← h1, ← h2, ← h3]
    exact h c

/-- What the kernel's run leaves of the arguments and the counters. -/
theorem frame : Cert.quiescent_Kernel15Ideal := fun m ρ _ => Cert.Kernel15Ideal.Gen.frame m ρ

/-- The same of the text over machine words. -/
theorem frame_words : Cert.quiescent_Kernel15 :=
  (show (∀ m ρ, True → type_of% (Cert.Kernel15Ideal.Gen.frame (F := Bits) m ρ)) = Cert.quiescent_Kernel15 by sl_kernel_rfl) ▸
    fun m ρ _ => Cert.Kernel15Ideal.Gen.frame m ρ

theorem frame_reference : Cert.quiescent_Reference15Ideal := fun m ρ _ =>
  (θ_run Cert.Reference15Ideal.defs _ _).mono (fun r h => ⟨fun c => (h c).2.2.2, sem_eq_zero_of_no_sems (by decide) r.2⟩)
    (Cert.Reference15Ideal.Value.run m ρ)

end Cert.AdamOut

/-! ## The step of the branches' projections -/

namespace Cert.AdamBranch

/-- The kernel's three results are the reference's. -/
theorem values : Cert.algebraic_Kernel16Ideal_Reference16Ideal := by
  pair_intro
  · run_from Cert.Kernel16Ideal.Value.run m g
  · refine (θ_run Cert.Reference16Ideal.defs _ _).mono (fun r h c => ?_) (Cert.Reference16Ideal.Value.run m' g')
    obtain ⟨h0, h1, h2, h3⟩ := hagree c
    rw [← h0, ← h1, ← h2, ← h3]
    exact h c

/-- What the kernel's run leaves of the arguments and the counters. -/
theorem frame : Cert.quiescent_Kernel16Ideal := fun m ρ _ => Cert.Kernel16Ideal.Gen.frame m ρ

/-- The same of the text over machine words. -/
theorem frame_words : Cert.quiescent_Kernel16 :=
  (show (∀ m ρ, True → type_of% (Cert.Kernel16Ideal.Gen.frame (F := Bits) m ρ)) = Cert.quiescent_Kernel16 by sl_kernel_rfl) ▸
    fun m ρ _ => Cert.Kernel16Ideal.Gen.frame m ρ

theorem frame_reference : Cert.quiescent_Reference16Ideal := fun m ρ _ =>
  (θ_run Cert.Reference16Ideal.defs _ _).mono (fun r h => ⟨fun c => (h c).2.2.2, sem_eq_zero_of_no_sems (by decide) r.2⟩)
    (Cert.Reference16Ideal.Value.run m ρ)

end Cert.AdamBranch
-- ==== Proof.SmallSum.lean ====
module

public import proofs.«01_k».proof.Defs
public import proofs.«01_k».proof.Proof.Gen.Kernel17
public import proofs.«01_k».proof.Proof.Gen.Kernel17Ideal.Value
public import proofs.«01_k».proof.Proof.Gen.Reference17Ideal.Read
public import Idealize.ShloMosaic.Lib.Pipeline.ValueKit
public import Idealize.ShloMosaic.Lib.VecWindow
public import Idealize.ShloMosaic.Lib.Claim

@[expose] public section

set_option maxRecDepth 16384

noncomputable section

/-!
# The sum of the small gradients over the eight devices

The eight devices' small gradients, packed into one array each, lie side by side; the result is their sum.
-/

namespace Cert.SmallSum

open Idealize.ShloMosaic Idealize.ShloMosaic.TcCoe Idealize.SL.Sem
open Cert.Kernel17Ideal Cert.Kernel17Ideal.Gen

/-- The sum over the devices. -/
def total (p : Vec Ideal S8x760x128 .f32) : Vec Ideal S760x128 .f32 := fun i => ∑ d : Fin 8, (p (ix3 d (i 0) (i 1)) : EReal)

theorem kernel_total (p : Vec Ideal S8x760x128 .f32) : Cert.Kernel17Ideal.Value.G1 (F := Ideal) p = total p := funext fun i => by
  idx_vars i
  pointwise [Cert.Kernel17Ideal.Value.G1, k0_pay1, total]
  rw [Fin.sum_univ_eight]

theorem reference_total (p : Vec Ideal S8x760x128 .f32) : Cert.Reference17Ideal.Read.val_main_v0 (F := Ideal) p = total p := funext fun i => by
  idx_vars i
  pointwise [Cert.Reference17Ideal.Read.val_main_v0, Cert.Reference17Ideal.Read.val_main_cst, total]

/-- The kernel's sum is the reference's. -/
theorem values : Cert.algebraic_Kernel17Ideal_Reference17Ideal := by
  pair_intro
  · run_from Cert.Kernel17Ideal.Value.run m g
  · refine (θ_run Cert.Reference17Ideal.defs _ _).mono (fun r h c => ?_) (Cert.Reference17Ideal.Value.run m' g')
    refine ⟨(h c).1.trans ((reference_total _).trans ?_), (h c).2⟩
    rw [hagree c]
    exact (kernel_total _).symm

/-- What the kernel's run leaves of the arguments and the counters. -/
theorem frame : Cert.quiescent_Kernel17Ideal := fun m ρ _ => Cert.Kernel17Ideal.Gen.frame m ρ

/-- The same of the text over machine words. -/
theorem frame_words : Cert.quiescent_Kernel17 :=
  (show (∀ m ρ, True → type_of% (Cert.Kernel17Ideal.Gen.frame (F := Bits) m ρ)) = Cert.quiescent_Kernel17 by sl_kernel_rfl) ▸
    fun m ρ _ => Cert.Kernel17Ideal.Gen.frame m ρ

theorem frame_reference : Cert.quiescent_Reference17Ideal := fun m ρ _ =>
  (θ_run Cert.Reference17Ideal.defs _ _).mono (fun r h => ⟨fun c => (h c).2, sem_eq_zero_of_no_sems (by decide) r.2⟩)
    (Cert.Reference17Ideal.Value.run m ρ)

end Cert.SmallSum
-- ==== Proof.Sums.lean ====
module

public import Idealize.ShloMosaic.Lib.Pipeline.ValueKit
public import Idealize.ShloMosaic.Lib.Pointwise

@[expose] public section

noncomputable section

/-!
# Sums over several axes

The host's sum over the first two axes of a rank-three array, over the axes 0, 1 and 4 of a rank-five array, and a
contraction over three axes: each is read at a result index as an iterated sum.
-/

namespace Cert.Sums

open Idealize.ShloMosaic

section Reduce
variable {n0 n1 n2 n3 n4 : Nat}

/-- The source indices of a sum over the first two of three axes. -/
theorem fiber_first_two (h : (⟨3, ![n0, n1, n2]⟩ : Shape).ReducesTo [0, 1] ⟨1, ![n2]⟩) (k : Fin n2)
    (i : (⟨3, ![n0, n1, n2]⟩ : Shape).Idx) :
    h.drop i = ix1 k ↔ ∃ p : Fin n0 × Fin n1, ix3 p.1 p.2 k = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨p, rfl⟩
    funext b
    apply Fin.ext
    match b with
    | ⟨0, _⟩ => rfl

/-- The host's sum over the first two of three axes, at an index. -/
theorem reduce_first_two (h : (⟨3, ![n0, n1, n2]⟩ : Shape).ReducesTo [0, 1] ⟨1, ![n2]⟩)
    (v : (⟨3, ![n0, n1, n2]⟩ : Shape).Idx → EReal) (init : EReal) (k : Fin n2) :
    Ideal.hostReduceAdd h v init (ix1 k) = init + ∑ a : Fin n0, ∑ b : Fin n1, v (ix3 a b k) := by
  refine congrArg (init + ·) ?_
  refine (Finset.sum_filter_eq_sum_of_fiber _ (fun p : Fin n0 × Fin n1 => ix3 p.1 p.2 k)
    (fun _ _ e => Prod.ext (congrFun e 0) (congrFun e 1)) (fiber_first_two h k) v).trans ?_
  simp only [Fintype.sum_prod_type]

/-- The source indices of a sum over the axes 0, 1 and 4 of five. -/
theorem fiber_outer (h : (⟨5, ![n0, n1, n2, n3, n4]⟩ : Shape).ReducesTo [0, 1, 4] ⟨2, ![n2, n3]⟩) (k : Fin n2)
    (l : Fin n3) (i : (⟨5, ![n0, n1, n2, n3, n4]⟩ : Shape).Idx) :
    h.drop i = ix2 k l ↔ ∃ p : Fin n0 × Fin n1 × Fin n4, ix5 p.1 p.2.1 k l p.2.2 = i := by
  constructor
  · intro e
    refine ⟨(i 0, i 1, i 4), ?_⟩
    funext a; apply Fin.ext
    match a with
    | ⟨0, _⟩ => rfl
    | ⟨1, _⟩ => rfl
    | ⟨2, _⟩ => exact (congrArg Fin.val (congrFun e 0)).symm
    | ⟨3, _⟩ => exact (congrArg Fin.val (congrFun e 1)).symm
    | ⟨4, _⟩ => rfl
  · rintro ⟨p, rfl⟩
    funext b
    apply Fin.ext
    match b with
    | ⟨0, _⟩ => rfl
    | ⟨1, _⟩ => rfl

/-- The host's sum over the axes 0, 1 and 4 of five, at an index. -/
theorem reduce_outer (h : (⟨5, ![n0, n1, n2, n3, n4]⟩ : Shape).ReducesTo [0, 1, 4] ⟨2, ![n2, n3]⟩)
    (v : (⟨5, ![n0, n1, n2, n3, n4]⟩ : Shape).Idx → EReal) (init : EReal) (k : Fin n2) (l : Fin n3) :
    Ideal.hostReduceAdd h v init (ix2 k l)
      = init + ∑ a : Fin n0, ∑ b : Fin n1, ∑ e : Fin n4, v (ix5 a b k l e) := by
  refine congrArg (init + ·) ?_
  refine (Finset.sum_filter_eq_sum_of_fiber _ (fun p : Fin n0 × Fin n1 × Fin n4 => ix5 p.1 p.2.1 k l p.2.2)
    (fun _ _ e => Prod.ext (congrFun e 0) (Prod.ext (congrFun e 1) (congrFun e 4))) (fiber_outer h k l) v).trans ?_
  simp only [Fintype.sum_prod_type]

end Reduce

section Contract
variable {sl sr so : Shape} (d : DotDims sl sr so)

theorem contr_size {a b e : Fin sl.rank} (hc : d.lhsContracting = [a, b, e]) {A B E : Nat} (hA : sl.size a = A)
    (hB : sl.size b = B) (hE : sl.size e = E) (p : Fin d.contr.rank) :
    (if p.val = 0 then A else if p.val = 1 then B else E) = d.contr.size p := by
  subst hA hB hE
  have : ∀ (l : List (Fin sl.rank)) (_ : l = [a, b, e]) (p : Fin (l.map sl.size).length),
      (if p.val = 0 then sl.size a else if p.val = 1 then sl.size b else sl.size e) = (l.map sl.size)[p] := by
    rintro _ rfl ⟨p, hp⟩
    have : p = 0 ∨ p = 1 ∨ p = 2 := by simp at hp; omega
    rcases this with rfl | rfl | rfl <;> rfl
  exact this _ hc p

theorem contr_rank {a b e : Fin sl.rank} (hc : d.lhsContracting = [a, b, e]) : d.contr.rank = 3 := by
  rw [d.rank_contr, hc]; rfl

/-- The contraction index of a contraction over three axes, from its coordinates. -/
def contrIdx {a b e : Fin sl.rank} (hc : d.lhsContracting = [a, b, e]) {A B E : Nat} (hA : sl.size a = A)
    (hB : sl.size b = B) (hE : sl.size e = E) (x : Fin A) (y : Fin B) (z : Fin E) : d.contr.Idx :=
  fun p => if h : p.val = 0 then x.cast (by rw [← contr_size d hc hA hB hE p, if_pos h])
    else if h' : p.val = 1 then y.cast (by rw [← contr_size d hc hA hB hE p, if_neg h, if_pos h'])
    else z.cast (by rw [← contr_size d hc hA hB hE p, if_neg h, if_neg h'])

/-- Contraction indices over three axes are triples of coordinates. -/
def contrEquiv {a b e : Fin sl.rank} (hc : d.lhsContracting = [a, b, e]) {A B E : Nat} (hA : sl.size a = A)
    (hB : sl.size b = B) (hE : sl.size e = E) : Fin A × Fin B × Fin E ≃ d.contr.Idx where
  toFun k := contrIdx d hc hA hB hE k.1 k.2.1 k.2.2
  invFun q :=
    ((q ⟨0, by rw [contr_rank d hc]; decide⟩).cast (contr_size d hc hA hB hE _).symm,
     (q ⟨1, by rw [contr_rank d hc]; decide⟩).cast (contr_size d hc hA hB hE _).symm,
     (q ⟨2, by rw [contr_rank d hc]; decide⟩).cast (contr_size d hc hA hB hE _).symm)
  left_inv _ := rfl
  right_inv q := by
    funext p
    have : p = ⟨0, by rw [contr_rank d hc]; decide⟩ ∨ p = ⟨1, by rw [contr_rank d hc]; decide⟩
        ∨ p = ⟨2, by rw [contr_rank d hc]; decide⟩ := by
      have := contr_rank d hc
      rcases p with ⟨p, hp⟩
      simp only [Fin.mk.injEq]; omega
    rcases this with rfl | rfl | rfl <;> rfl

/-- A sum over the indices of a contraction over three axes is the triple sum over the coordinates. -/
theorem sum_contr {M : Type*} [AddCommMonoid M] {a b e : Fin sl.rank} (hc : d.lhsContracting = [a, b, e]) {A B E : Nat}
    (hA : sl.size a = A) (hB : sl.size b = B) (hE : sl.size e = E) (f : d.contr.Idx → M) :
    ∑ q : d.contr.Idx, f q = ∑ x : Fin A, ∑ y : Fin B, ∑ z : Fin E, f (contrIdx d hc hA hB hE x y z) := by
  rw [← Fintype.sum_equiv (contrEquiv d hc hA hB hE) (fun k => f (contrIdx d hc hA hB hE k.1 k.2.1 k.2.2)) f
    fun _ => rfl]
  simp only [Fintype.sum_prod_type]

/-- A product that contracts three axes, at a result index, the operands' indices named. -/
theorem matmul_apply {a b e : Fin sl.rank} (hc : d.lhsContracting = [a, b, e]) {A B E : Nat} (hA : sl.size a = A)
    (hB : sl.size b = B) (hE : sl.size e = E) (x : sl.Idx → EReal) (y : sr.Idx → EReal) (j : so.Idx)
    (L : Fin A → Fin B → Fin E → sl.Idx) (R : Fin A → Fin B → Fin E → sr.Idx)
    (hL : ∀ p q r, d.lhsIdx j (contrIdx d hc hA hB hE p q r) = L p q r)
    (hR : ∀ p q r, d.rhsIdx j (contrIdx d hc hA hB hE p q r) = R p q r) :
    Ideal.matmul d x y (fun _ => 0) j = ∑ p : Fin A, ∑ q : Fin B, ∑ r : Fin E, x (L p q r) * y (R p q r) := by
  refine (zero_add (∑ k : d.contr.Idx, x (d.lhsIdx j k) * y (d.rhsIdx j k))).trans ?_
  rw [sum_contr d hc hA hB hE]
  simp only [hL, hR]

end Contract

end Cert.Sums
-- ==== Proof.Sgu.lean ====
module

public import proofs.«01_k».proof.Proof.Sums

@[expose] public section

set_option maxRecDepth 16384

noncomputable section

/-!
# The gradients of the gated token mixer, entry by entry

A device holds 4096 tokens, two sequences of sixteen chunks of 128. Chunk `k : Fin 32` holds the tokens `128 k + t`;
channel group `g` holds the channels `128 g + e`. With `x` the pre-activations (512 of `u`, then 512 of `v`) and `y` the
cotangent of the mixer's output, the gradients are sums over chunks of products of

* `ds`: the cotangent of the mixed value, `gelu u * dy`;
* `vv`: the normalised `gelu v`.
-/

namespace Cert.Sgu

open Idealize.ShloMosaic

/-- The tanh form of gelu, on one number. -/
def gelu (x : EReal) : EReal :=
  x * (Ideal.ofBits FTy.f32 0x3F000000#32 * (1 + Ideal.tanh (Ideal.ofBits FTy.f32 0x3F4C422A#32
    * (x + Ideal.ofBits FTy.f32 0x3D372713#32 * (x * x * x)))))

/-- Token `t` of chunk `k`. -/
def tok (k : Fin 32) (t : Fin 128) : Fin 4096 := ⟨128 * k.val + t.val, by omega⟩

/-- Channel `e` of group `g`. -/
def chan (g : Fin 4) (e : Fin 128) : Fin 512 := ⟨128 * g.val + e.val, by omega⟩

/-- Chunk `n` of sequence `b`. -/
def chunk (b : Fin 2) (n : Fin 16) : Fin 32 := ⟨16 * b.val + n.val, by omega⟩

section Rows

variable {R : Type} (x y : R → Fin 1024 → EReal)

/-- The value branch after its activation. -/
def act (r : R) (c : Fin 512) : EReal := gelu (x r ⟨512 + c.val, by omega⟩)

/-- The value branch after its normalisation. -/
def vv (r : R) (c : Fin 512) : EReal :=
  act x r c * Ideal.rsqrt (Ideal.div (∑ k : Fin 512, act x r k * act x r k) (Ideal.ofBits FTy.f32 0x44000000#32)
    + Ideal.ofBits FTy.f32 0x358637BD#32)

/-- The cotangent of the mixed value. -/
def ds (r : R) (c : Fin 512) : EReal := gelu (x r ⟨c.val, by omega⟩) * y r ⟨c.val, by omega⟩

end Rows

variable (x y : Fin 4096 → Fin 1024 → EReal) (gain : Fin 512 → EReal) (w : Fin 4 → Fin 128 → Fin 128 → EReal)

/-- What chunk `k` adds to the gradient of the mixing weight, before the mask. -/
def dwTerm (g : Fin 4) (t s : Fin 128) (k : Fin 32) : EReal :=
  ∑ e : Fin 128, ds x y (tok k t) (chan g e) * (vv x (tok k s) (chan g e) * gain (chan g e))

/-- The gradient of the mixing weight. -/
def dw (g : Fin 4) (t s : Fin 128) : EReal :=
  if s.val ≤ t.val then ∑ k : Fin 32, dwTerm x y gain g t s k else 0

/-- The gradient of the mixing bias. -/
def db (g : Fin 4) (t : Fin 128) : EReal := ∑ k : Fin 32, ∑ e : Fin 128, ds x y (tok k t) (chan g e)

/-- The mixing weight under its mask. -/
def wm (g : Fin 4) (t s : Fin 128) : EReal := if s.val ≤ t.val then w g t s else 0

/-- The gradient of the normalisation's gain. -/
def dgTerm (g : Fin 4) (e : Fin 128) (k : Fin 32) : EReal :=
  ∑ s : Fin 128, vv x (tok k s) (chan g e) * ∑ t : Fin 128, ds x y (tok k t) (chan g e) * wm w g t s

def dg (g : Fin 4) (e : Fin 128) : EReal := ∑ k : Fin 32, dgTerm x y w g e k

/-- A sum over the two sequences' chunks is a sum over all chunks. -/
theorem sum_chunks {M : Type*} [AddCommMonoid M] (f : Fin 32 → M) :
    ∑ b : Fin 2, ∑ n : Fin 16, f (chunk b n) = ∑ k, f k := by
  rw [Fin.sum_univ_tiles 2 16 rfl f]
  refine Finset.sum_congr rfl fun b _ => Finset.sum_congr rfl fun n _ => ?_
  congr 1
  apply Fin.ext
  simp [chunk]
  try omega

end Cert.Sgu
-- ==== Proof.SguRef.lean ====
module

public import proofs.«01_k».proof.Proof.Gen.ReferenceIdeal.Run
public import proofs.«01_k».proof.Proof.Sgu

@[expose] public section

set_option maxRecDepth 16384

noncomputable section

namespace Cert.Sgu

open Idealize.ShloMosaic Idealize.ShloMosaic.TcCoe Idealize.SL.Sem
open Cert.ReferenceIdeal Cert.ReferenceIdeal.Gen Cert.ReferenceIdeal.Value

abbrev Half := FVec Ideal S2x2048x512 .f32

/-- The first half of the columns, by sequence. -/
def lo (X : FVec Ideal S4096x1024 .f32) : Half :=
  extractStridedSlice S2x2048x512 ![0, 0, 0] (shapeCast _ X shapeCasts_S4096x1024_S2x2048x1024)
    slices_S2x2048x1024_S2x2048x512_0_0_0

/-- The second half of the columns, by sequence. -/
def hi (X : FVec Ideal S4096x1024 .f32) : Half :=
  extractStridedSlice S2x2048x512 ![0, 0, 512] (shapeCast _ X shapeCasts_S4096x1024_S2x2048x1024)
    slices_S2x2048x1024_S2x2048x512_0_0_512

def geluT (x : Half) : Half :=
  mulf x (mulf (broadcastInDim S2x2048x512 ![] bcast_S_S2x2048x512 (constant S_ .f32 0x3F000000#32)) (addf (broadcastInDim S2x2048x512 ![] bcast_S_S2x2048x512 (constant S_ .f32 0x3F800000#32)) (Host.tanh (mulf (broadcastInDim S2x2048x512 ![] bcast_S_S2x2048x512 (constant S_ .f32 0x3F4C422A#32)) (addf x (mulf (broadcastInDim S2x2048x512 ![] bcast_S_S2x2048x512 (constant S_ .f32 0x3D372713#32)) (mulf (mulf x x) x)))))))

def normT (x : Half) : Half :=
  mulf x (broadcastInDim S2x2048x512 ![0, 1, 2] bcast_S2x2048x1_S2x2048x512_0_1_2 (Host.rsqrt (addf (Host.divf (broadcastInDim S2x2048x1 ![0, 1] bcast_S2x2048_S2x2048x1_0_1 (Host.reduceAdd (mulf x x) (constant S_ .f32 0x00000000#32) reducesTo_S2x2048x512_S2x2048_d2 h_S_)) (broadcastInDim S2x2048x1 ![] bcast_S_S2x2048x1 (constant S_ .f32 0x44000000#32))) (broadcastInDim S2x2048x1 ![] bcast_S_S2x2048x1 (constant S_ .f32 0x358637BD#32)))))

def gainT (x : Half) (G : FVec Ideal S1x512 .f32) : Half :=
  mulf x (broadcastInDim S2x2048x512 ![0, 1, 2] bcast_S1x1x512_S2x2048x512_0_1_2 (broadcastInDim S1x1x512 ![2] bcast_S512_S1x1x512_2 (shapeCast _ G shapeCasts_S1x512_S512)))

def triT : FVec Ideal S4x128x128 .f32 :=
  broadcastInDim S4x128x128 ![0, 1, 2] bcast_S1x128x128_S4x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32))))

theorem lo_apply (X : FVec Ideal S4096x1024 .f32) (b : Fin 2) (q : Fin 2048) (c : Fin 512) :
    lo X (ix3 b q c) = X (ix2 ⟨2048 * b.val + q.val, by omega⟩ ⟨c.val, by omega⟩) := by
  pointwise [lo]
  simp only [Nat.mul_comm]

theorem hi_apply (X : FVec Ideal S4096x1024 .f32) (b : Fin 2) (q : Fin 2048) (c : Fin 512) :
    hi X (ix3 b q c) = X (ix2 ⟨2048 * b.val + q.val, by omega⟩ ⟨512 + c.val, by omega⟩) := by
  pointwise [hi]
  simp only [Nat.mul_comm]

theorem geluT_apply (x : Half) (j : S2x2048x512.Idx) : geluT x j = gelu (x j) := by
  idx_vars j
  pointwise [geluT]
  rfl

theorem normT_apply (x : Half) (b : Fin 2) (q : Fin 2048) (c : Fin 512) :
    normT x (ix3 b q c) = x (ix3 b q c) * Ideal.rsqrt (Ideal.div (∑ k : Fin 512, x (ix3 b q k) * x (ix3 b q k))
      (Ideal.ofBits FTy.f32 0x44000000#32) + Ideal.ofBits FTy.f32 0x358637BD#32) := by
  pointwise [normT]

theorem gainT_apply (x : Half) (G : FVec Ideal S1x512 .f32) (b : Fin 2) (q : Fin 2048) (c : Fin 512) :
    gainT x G (ix3 b q c) = x (ix3 b q c) * G (ix2 0 c) := by
  pointwise [gainT]

theorem le_words : ∀ t s : Fin 128, IntOp.cmpi CmpIPredicate.sge (IntOp.addi (BitVec.ofNat 32 t.val) 0#32)
    (BitVec.ofNat 32 s.val) = BitVec.ofBool (decide (s.val ≤ t.val)) := by
  decide +kernel

theorem triT_apply (g : Fin 4) (t s : Fin 128) :
    triT (ix3 g t s) = if s.val ≤ t.val then 1 else 0 := by
  pointwise [triT]
  rw [le_words]
  by_cases h : s.val ≤ t.val <;> simp [h, Scalar.select]

/-- An array of rows as a function of its coordinates. -/
def mat (X : FVec Ideal S4096x1024 .f32) (r : Fin 4096) (c : Fin 1024) : EReal := X (ix2 r c)

def dsT (X Y : FVec Ideal S4096x1024 .f32) : Half := mulf (geluT (lo X)) (lo Y)
def vvT (X : FVec Ideal S4096x1024 .f32) : Half := normT (geluT (hi X))

theorem dsT_apply (X Y : FVec Ideal S4096x1024 .f32) (b : Fin 2) (q : Fin 2048) (c : Fin 512) :
    dsT X Y (ix3 b q c) = ds (mat X) (mat Y) ⟨2048 * b.val + q.val, by omega⟩ c := by
  pointwise [dsT]
  rw [geluT_apply, lo_apply, lo_apply]
  rfl

theorem vvT_apply (X : FVec Ideal S4096x1024 .f32) (b : Fin 2) (q : Fin 2048) (c : Fin 512) :
    vvT X (ix3 b q c) = vv (mat X) ⟨2048 * b.val + q.val, by omega⟩ c := by
  unfold vvT
  rw [normT_apply]
  simp only [geluT_apply, hi_apply]
  rfl

def dbT (s : Half) : FVec Ideal S4x128x1 .f32 :=
  broadcastInDim S4x128x1 ![0, 1] bcast_S4x128_S4x128x1_0_1 (transpose S4x128 [1, 0] (Host.reduceAdd (shapeCast _
    (Host.reduceAdd (shapeCast _ s shapeCasts_S2x2048x512_S2x16x128x4x128) (constant S_ .f32 0x00000000#32)
      reducesTo_S2x16x128x4x128_S128x4_d0_1_4 h_S_) shapeCasts_S128x4_S1x1x128x4x1) (constant S_ .f32 0x00000000#32)
        reducesTo_S1x1x128x4x1_S128x4_d0_1_4 h_S_) transposes_S128x4_S4x128_1_0)

def dwT (s v : Half) : FVec Ideal S4x128x128 .f32 :=
  mulf (Host.dotGeneral dot_S4x2x16x128x128_S2x16x128x4x128_S4x128x128_123_014_4_2_0_3 none
      (transpose S4x2x16x128x128 [3, 0, 1, 4, 2] (shapeCast _ s shapeCasts_S2x2048x512_S2x16x128x4x128)
          transposes_S2x16x128x4x128_S4x2x16x128x128_3_0_1_4_2)
      (shapeCast _ v shapeCasts_S2x2048x512_S2x16x128x4x128)) triT

def dgT (s v : Half) (W : FVec Ideal S1x4x128x128 .f32) : FVec Ideal S1x512 .f32 :=
  broadcastInDim S1x512 ![1] bcast_S512_S1x512_1 (Host.reduceAdd (shapeCast _ (Host.reduceAdd (mulf v
    (shapeCast _ (transpose S2x16x128x4x128 [1, 2, 4, 0, 3] (Host.dotGeneral dot_S4x2x16x128x128_S4x128x128_S4x2x16x128x128_4_1_123_2_0_0 none (transpose S4x2x16x128x128 [3, 0, 1, 4, 2] (shapeCast _ s shapeCasts_S2x2048x512_S2x16x128x4x128) transposes_S2x16x128x4x128_S4x2x16x128x128_3_0_1_4_2) (mulf (shapeCast _ W shapeCasts_S1x4x128x128_S4x128x128) triT)) transposes_S4x2x16x128x128_S2x16x128x4x128_1_2_4_0_3) shapeCasts_S2x16x128x4x128_S2x2048x512)) (constant S_ .f32 0x00000000#32) reducesTo_S2x2048x512_S512_d0_1 h_S_) shapeCasts_S512_S1x1x512) (constant S_ .f32 0x00000000#32) reducesTo_S1x1x512_S512_d0_1 h_S_)

theorem dg_term (m : (ℓ : Loc nD τ sig) → Buf (Elt Ideal) ℓ) (c : Dev nD) :
    res_out2 m c = dgT (dsT (m ((c.tc : Thread nD τ).loc main_arg0)) (m ((c.tc : Thread nD τ).loc main_arg2)))
      (vvT (m ((c.tc : Thread nD τ).loc main_arg0))) (m ((c.tc : Thread nD τ).loc main_arg4)) := rfl

theorem dw_term (m : (ℓ : Loc nD τ sig) → Buf (Elt Ideal) ℓ) (c : Dev nD) :
    res_out0 m c = dwT (dsT (m ((c.tc : Thread nD τ).loc main_arg0)) (m ((c.tc : Thread nD τ).loc main_arg2)))
      (gainT (vvT (m ((c.tc : Thread nD τ).loc main_arg0))) (m ((c.tc : Thread nD τ).loc main_arg3))) := rfl

theorem dbT_apply (s : Half) (g : Fin 4) (t : Fin 128) :
    dbT s (ix3 g t 0) = ∑ b : Fin 2, ∑ n : Fin 16, ∑ e : Fin 128,
      s (ix3 b ⟨n.val * 128 + t.val, by omega⟩ ⟨g.val * 128 + e.val, by omega⟩) := by
  pointwise [dbT]
  rw [Cert.Sums.reduce_outer]
  pointwise
  rw [Cert.Sums.reduce_outer]
  pointwise
  simp only [Fin.sum_univ_one]

theorem dot_apply (x : FVec Ideal S4x2x16x128x128 .f32) (y : FVec Ideal S2x16x128x4x128 .f32) (g : Fin 4) (t u : Fin 128) :
    Ideal.matmul dot_S4x2x16x128x128_S2x16x128x4x128_S4x128x128_123_014_4_2_0_3 x y (fun _ => 0) (ix3 g t u)
      = ∑ b : Fin 2, ∑ n : Fin 16, ∑ e : Fin 128, x (ix5 g b n e t) * y (ix5 b n u g e) :=
  Cert.Sums.matmul_apply (A := 2) (B := 16) (E := 128) dot_S4x2x16x128x128_S2x16x128x4x128_S4x128x128_123_014_4_2_0_3
    rfl rfl rfl rfl x y (ix3 g t u) (fun b n e => ix5 g b n e t) (fun b n e => ix5 b n u g e)
    (fun b n e => by funext a; fin_cases a <;> rfl) (fun b n e => by funext a; fin_cases a <;> rfl)

theorem dwT_apply (s v : Half) (g : Fin 4) (t u : Fin 128) :
    dwT s v (ix3 g t u) = (∑ b : Fin 2, ∑ n : Fin 16, ∑ e : Fin 128,
      s (ix3 b ⟨n.val * 128 + t.val, by omega⟩ ⟨g.val * 128 + e.val, by omega⟩)
        * v (ix3 b ⟨n.val * 128 + u.val, by omega⟩ ⟨g.val * 128 + e.val, by omega⟩))
      * if u.val ≤ t.val then 1 else 0 := by
  pointwise [dwT]
  rw [triT_apply]
  refine congrArg (· * _) ?_
  refine (dot_apply _ _ g t u).trans ?_
  pointwise

theorem dgT_apply (s v : Half) (W : FVec Ideal S1x4x128x128 .f32) (q : Fin 512) :
    dgT s v W (ix2 0 q) = ∑ b : Fin 2, ∑ p : Fin 2048, v (ix3 b p q) * ∑ t : Fin 128,
      s (ix3 b ⟨p.val / 128 * 128 + t.val, by omega⟩ q) * (W (ix4 0 ⟨q.val / 128, by omega⟩ t ⟨p.val % 128, by omega⟩)
        * triT (ix3 ⟨q.val / 128, by omega⟩ t ⟨p.val % 128, by omega⟩)) := by
  pointwise [dgT]
  rw [Cert.Sums.reduce_first_two]
  pointwise
  rw [Cert.Sums.reduce_first_two]
  pointwise
  simp only [Fin.sum_univ_one]

/-- The bias argument's place in a chunk: the row of sequence `b`, chunk `n`, token `t`. -/
theorem row_eq (b : Fin 2) (n : Fin 16) (t : Fin 128) (h : 2048 * b.val + (n.val * 128 + t.val) < 4096) :
    (⟨2048 * b.val + (n.val * 128 + t.val), h⟩ : Fin 4096) = tok (chunk b n) t := by
  apply Fin.ext; simp only [tok, chunk]; omega

theorem chan_eq (g : Fin 4) (e : Fin 128) (h : g.val * 128 + e.val < 512) :
    (⟨g.val * 128 + e.val, h⟩ : Fin 512) = chan g e := by
  apply Fin.ext; simp only [chan]; omega

variable (m : (ℓ : Loc nD τ sig) → Buf (Elt Ideal) ℓ) (c : Dev nD)

/-- The gain as a function of its channel. -/
def row (G : FVec Ideal S1x512 .f32) (k : Fin 512) : EReal := G (ix2 0 k)

/-- The mixing weights as a function of group, output token and input token. -/
def mix (W : FVec Ideal S1x4x128x128 .f32) (g : Fin 4) (t s : Fin 128) : EReal := W (ix4 0 g t s)

theorem dw_ref (g : Fin 4) (t u : Fin 128) :
    res_out0 m c (ix3 g t u) = dw (mat (m ((c.tc : Thread nD τ).loc main_arg0)))
      (mat (m ((c.tc : Thread nD τ).loc main_arg2))) (row (m ((c.tc : Thread nD τ).loc main_arg3))) g t u := by
  rw [dw_term, dwT_apply, dw]
  by_cases h : u.val ≤ t.val
  · rw [if_pos h, if_pos h, mul_one, ← sum_chunks]
    simp only [dsT_apply, gainT_apply, vvT_apply, row_eq, chan_eq]
    rfl
  · rw [if_neg h, if_neg h, mul_zero]

theorem dgT_ref (X Y : FVec Ideal S4096x1024 .f32) (W : FVec Ideal S1x4x128x128 .f32) (g : Fin 4) (e : Fin 128) :
    dgT (dsT X Y) (vvT X) W (ix2 0 (chan g e)) = dg (mat X) (mat Y) (mix W) g e := by
  rw [dgT_apply, dg, ← sum_chunks]
  refine Finset.sum_congr rfl fun b _ => ?_
  rw [Fin.sum_univ_tiles 16 128 rfl]
  refine Finset.sum_congr rfl fun n _ => Finset.sum_congr rfl fun s _ => ?_
  have hg : (⟨(chan g e).val / 128, by omega⟩ : Fin 4) = g := Fin.ext (by simp only [chan]; omega)
  have hs : (⟨(n.val * 128 + s.val) % 128, by omega⟩ : Fin 128) = s := Fin.ext (by simp only []; omega)
  have ht : ∀ t : Fin 128, (⟨2048 * b.val + ((n.val * 128 + s.val) / 128 * 128 + t.val), by omega⟩ : Fin 4096)
      = tok (chunk b n) t := fun t => Fin.ext (by simp only [tok, chunk]; omega)
  simp only [vvT_apply, dsT_apply, hg, hs, ht, row_eq, triT_apply]
  refine congrArg _ (Finset.sum_congr rfl fun t _ => congrArg _ ?_)
  rw [wm]
  split
  · rw [mul_one]; rfl
  · rw [mul_zero]

theorem dg_ref (g : Fin 4) (e : Fin 128) :
    res_out2 m c (ix2 0 (chan g e)) = dg (mat (m ((c.tc : Thread nD τ).loc main_arg0)))
      (mat (m ((c.tc : Thread nD τ).loc main_arg2))) (mix (m ((c.tc : Thread nD τ).loc main_arg4))) g e :=
  (congrFun (dg_term m c) _).trans (dgT_ref _ _ _ g e)

theorem db_ref (g : Fin 4) (t : Fin 128) (s : Half)
    (hs : s = dsT (m ((c.tc : Thread nD τ).loc main_arg0)) (m ((c.tc : Thread nD τ).loc main_arg2))) :
    dbT s (ix3 g t 0) = db (mat (m ((c.tc : Thread nD τ).loc main_arg0))) (mat (m ((c.tc : Thread nD τ).loc main_arg2))) g t := by
  subst hs
  rw [dbT_apply, db, ← sum_chunks]
  simp only [dsT_apply, row_eq, chan_eq]

end Cert.Sgu
-- ==== Proof.SguPay.lean ====
module

public import proofs.«01_k».proof.Proof.Gen.KernelIdeal.Skeleton
public import proofs.«01_k».proof.Proof.Sgu
public import Idealize.ShloMosaic.Lib.Pipeline.ValueKit
public import Idealize.ShloMosaic.Lib.Pointwise

@[expose] public section

set_option maxRecDepth 16384

noncomputable section

/-!
# The kernel's values in a block of four chunks, entry by entry

A grid point holds 512 rows, four chunks of 128. For each chunk `n` and each channel group `g`: gelu of the gate branch,
the normalised value branch, and the cotangent of the mixed value.
-/

namespace Cert.Sgu

open Idealize.ShloMosaic Idealize.ShloMosaic.TcCoe
open Cert.KernelIdeal Cert.KernelIdeal.Gen

/-- The mask's comparison, on the words the kernel compares. -/
theorem sge_words : ∀ t s : Fin 128, IntOp.cmpi CmpIPredicate.sge (BitVec.ofNat 32 t.val) (BitVec.ofNat 32 s.val)
    = BitVec.ofBool (decide (s.val ≤ t.val)) := by
  decide +kernel

/-- Row `t` of chunk `n` of a block. -/
def brow (n : Fin 4) (t : Fin 128) : Fin 512 := ⟨128 * n.val + t.val, by omega⟩

/-- A block's rows. -/
def rows (X : Vec Ideal S512x1024 .f32) (r : Fin 512) (c : Fin 1024) : EReal := X (ix2 r c)

variable (X Y : Vec Ideal S512x1024 .f32) (G : Vec Ideal S1x512 .f32) (t : Fin 128) (c : Fin 512) (e : Fin 128)

theorem gate0 : k0_pay515 X (ix2 t c) = gelu (rows X (brow 0 t) ⟨c.val, by omega⟩) := by
  pointwise! [k0_pay515, k0_pay513, k0_pay512, gelu, rows, brow]

theorem gate1 : k0_pay533 (F := Ideal) (k0_pay530 X) k0_pay532 (ix2 t c) = gelu (rows X (brow 1 t) ⟨c.val, by omega⟩) := by
  pointwise! [k0_pay533, k0_pay530, k0_pay532, k0_pay529, gelu, rows, brow]

theorem gate2 : k0_pay552 X (ix2 t c) = gelu (rows X (brow 2 t) ⟨c.val, by omega⟩) := by
  pointwise! [k0_pay552, k0_pay550, k0_pay549, gelu, rows, brow]

theorem gate3 : k0_pay571 X (ix2 t c) = gelu (rows X (brow 3 t) ⟨c.val, by omega⟩) := by
  pointwise! [k0_pay571, k0_pay569, k0_pay568, gelu, rows, brow]

theorem norm0 : k0_pay518 (k0_pay514 X) (ix2 t c) = vv (rows X) (brow 0 t) c := by
  pointwise! [k0_pay518, k0_pay514, k0_pay517, k0_pay516, k0_pay512, vv, act, gelu, rows, brow]

theorem norm1 : k0_pay536 (k0_pay531 X) (ix2 t c) = vv (rows X) (brow 1 t) c := by
  pointwise! [k0_pay536, k0_pay531, k0_pay535, k0_pay534, k0_pay529, vv, act, gelu, rows, brow]

theorem norm2 : k0_pay555 X (ix2 t c) = vv (rows X) (brow 2 t) c := by
  pointwise! [k0_pay555, k0_pay554, k0_pay553, k0_pay551, k0_pay549, vv, act, gelu, rows, brow]

theorem norm3 : k0_pay577 (k0_pay572 X) (k0_pay573 X) k0_pay574 (ix2 t c) = vv (rows X) (brow 3 t) c := by
  pointwise! [k0_pay577, k0_pay572, k0_pay573, k0_pay574, k0_pay576, k0_pay575, k0_pay570, k0_pay568, vv, act, gelu, rows, brow]

theorem gained0 : k0_pay519 G (k0_pay514 X) (ix2 t c) = vv (rows X) (brow 0 t) c * G (ix2 0 c) := by
  rw [← norm0]
  pointwise [k0_pay519]

theorem gained1 : k0_pay537 G (k0_pay531 X) (ix2 t c) = vv (rows X) (brow 1 t) c * G (ix2 0 c) := by
  rw [← norm1]
  pointwise [k0_pay537]

theorem gained2 : k0_pay556 G (k0_pay555 X) (ix2 t c) = vv (rows X) (brow 2 t) c * G (ix2 0 c) := by
  rw [← norm2]
  pointwise [k0_pay556]

theorem gained3 : k0_pay578 G (k0_pay572 X) (k0_pay573 X) k0_pay574 (ix2 t c) = vv (rows X) (brow 3 t) c * G (ix2 0 c) := by
  rw [← norm3]
  pointwise [k0_pay578]

theorem ds00 : k0_pay688 (k0_pay515 X) (k0_pay680 (k0_pay359 Y)) (ix2 t e) = ds (rows X) (rows Y) (brow 0 t) (chan 0 e) := by
  pointwise [k0_pay688, k0_pay680, k0_pay359, gate0, ds, chan, rows, brow]
  try exact mul_comm _ _

theorem ds01 : k0_pay698 (k0_pay515 X) (k0_pay690 (k0_pay359 Y)) (ix2 t e) = ds (rows X) (rows Y) (brow 0 t) (chan 1 e) := by
  pointwise [k0_pay698, k0_pay690, k0_pay359, gate0, ds, chan, rows, brow]
  try exact mul_comm _ _

theorem ds02 : k0_pay706 (k0_pay515 X) (k0_pay700 (k0_pay359 Y)) (ix2 t e) = ds (rows X) (rows Y) (brow 0 t) (chan 2 e) := by
  pointwise [k0_pay706, k0_pay700, k0_pay359, gate0, ds, chan, rows, brow]
  try exact mul_comm _ _

theorem ds03 : k0_pay714 (k0_pay515 X) (k0_pay708 (k0_pay359 Y)) (ix2 t e) = ds (rows X) (rows Y) (brow 0 t) (chan 3 e) := by
  pointwise [k0_pay714, k0_pay708, k0_pay359, gate0, ds, chan, rows, brow]
  try exact mul_comm _ _

theorem ds10 : k0_pay721 (k0_pay533 (k0_pay530 X) k0_pay532) (k0_pay716 (k0_pay360 Y)) (ix2 t e) = ds (rows X) (rows Y) (brow 1 t) (chan 0 e) := by
  pointwise [k0_pay721, k0_pay716, k0_pay360, gate1, ds, chan, rows, brow]
  try exact mul_comm _ _

theorem ds11 : k0_pay729 (k0_pay533 (k0_pay530 X) k0_pay532) (k0_pay723 (k0_pay360 Y)) (ix2 t e) = ds (rows X) (rows Y) (brow 1 t) (chan 1 e) := by
  pointwise [k0_pay729, k0_pay723, k0_pay360, gate1, ds, chan, rows, brow]
  try exact mul_comm _ _

theorem ds12 : k0_pay736 (k0_pay533 (k0_pay530 X) k0_pay532) (k0_pay731 (k0_pay360 Y)) (ix2 t e) = ds (rows X) (rows Y) (brow 1 t) (chan 2 e) := by
  pointwise [k0_pay736, k0_pay731, k0_pay360, gate1, ds, chan, rows, brow]
  try exact mul_comm _ _

theorem ds13 : k0_pay743 (k0_pay533 (k0_pay530 X) k0_pay532) (k0_pay738 (k0_pay360 Y)) (ix2 t e) = ds (rows X) (rows Y) (brow 1 t) (chan 3 e) := by
  pointwise [k0_pay743, k0_pay738, k0_pay360, gate1, ds, chan, rows, brow]
  try exact mul_comm _ _

theorem ds20 : k0_pay748 (k0_pay552 X) (k0_pay745 (k0_pay361 Y)) (ix2 t e) = ds (rows X) (rows Y) (brow 2 t) (chan 0 e) := by
  pointwise [k0_pay748, k0_pay745, k0_pay361, gate2, ds, chan, rows, brow]
  try exact mul_comm _ _

theorem ds21 : k0_pay752 (k0_pay361 Y) (k0_pay552 X) (ix2 t e) = ds (rows X) (rows Y) (brow 2 t) (chan 1 e) := by
  pointwise [k0_pay752, k0_pay361, k0_pay750, gate2, ds, chan, rows, brow]
  try exact mul_comm _ _

theorem ds22 : k0_pay757 (k0_pay361 Y) (k0_pay552 X) (ix2 t e) = ds (rows X) (rows Y) (brow 2 t) (chan 2 e) := by
  pointwise [k0_pay757, k0_pay361, k0_pay755, gate2, ds, chan, rows, brow]
  try exact mul_comm _ _

theorem ds23 : k0_pay762 (k0_pay361 Y) (k0_pay552 X) (ix2 t e) = ds (rows X) (rows Y) (brow 2 t) (chan 3 e) := by
  pointwise [k0_pay762, k0_pay361, k0_pay760, gate2, ds, chan, rows, brow]
  try exact mul_comm _ _

theorem ds30 : k0_pay767 (k0_pay362 Y) (k0_pay571 X) (ix2 t e) = ds (rows X) (rows Y) (brow 3 t) (chan 0 e) := by
  pointwise [k0_pay767, k0_pay362, k0_pay765, gate3, ds, chan, rows, brow]
  try exact mul_comm _ _

theorem ds31 : k0_pay771 (k0_pay362 Y) (k0_pay571 X) (ix2 t e) = ds (rows X) (rows Y) (brow 3 t) (chan 1 e) := by
  pointwise [k0_pay771, k0_pay362, k0_pay769, gate3, ds, chan, rows, brow]
  try exact mul_comm _ _

theorem ds32 : k0_pay775 (k0_pay571 X) (k0_pay773 (k0_pay362 Y)) (ix2 t e) = ds (rows X) (rows Y) (brow 3 t) (chan 2 e) := by
  pointwise [k0_pay775, k0_pay773, k0_pay362, gate3, ds, chan, rows, brow]
  try exact mul_comm _ _

theorem ds33 : k0_pay779 (k0_pay571 X) (k0_pay777 (k0_pay362 Y)) (ix2 t e) = ds (rows X) (rows Y) (brow 3 t) (chan 3 e) := by
  pointwise [k0_pay779, k0_pay777, k0_pay362, gate3, ds, chan, rows, brow]
  try exact mul_comm _ _

theorem mask0 (a b : EReal) (s : Fin 128) : Scalar.select (k0_pay520 (ix2 t s)) a b = if s.val ≤ t.val then a else b := by
  pointwise [k0_pay520]
  rw [sge_words]
  by_cases h : s.val ≤ t.val <;> simp [h, Scalar.select]

theorem mask1 (a b : EReal) (s : Fin 128) : Scalar.select (k0_pay538 (ix2 t s)) a b = if s.val ≤ t.val then a else b := by
  pointwise [k0_pay538]
  rw [sge_words]
  by_cases h : s.val ≤ t.val <;> simp [h, Scalar.select]

theorem mask2 (a b : EReal) (s : Fin 128) : Scalar.select (k0_pay557 (ix2 t s)) a b = if s.val ≤ t.val then a else b := by
  pointwise [k0_pay557]
  rw [sge_words]
  by_cases h : s.val ≤ t.val <;> simp [h, Scalar.select]

theorem mask3 (a b : EReal) (s : Fin 128) : Scalar.select (k0_pay579 (ix2 t s)) a b = if s.val ≤ t.val then a else b := by
  pointwise [k0_pay579]
  rw [sge_words]
  by_cases h : s.val ≤ t.val <;> simp [h, Scalar.select]

/-- What a block adds to the mixing bias's gradient. -/
def dbAdd (X Y : Vec Ideal S512x1024 .f32) (y : S4x128x1.Idx) : EReal :=
  ∑ n : Fin 4, ∑ e : Fin 128, ds (rows X) (rows Y) (brow n (y 1)) (chan (y 0) e)

/-- What a block adds to the mixing weight's gradient. -/
def dwAdd (X Y : Vec Ideal S512x1024 .f32) (G : Vec Ideal S1x512 .f32) (y : S4x128x128.Idx) : EReal :=
  ∑ n : Fin 4, if (y 2).val ≤ (y 1).val then
    ∑ e : Fin 128, ds (rows X) (rows Y) (brow n (y 1)) (chan (y 0) e) * (vv (rows X) (brow n (y 2)) (chan (y 0) e) * G (ix2 0 (chan (y 0) e)))
  else 0

/-- What a block adds to the gain's gradient, in channel `e` of group `g`. -/
def dgSum (X Y : Vec Ideal S512x1024 .f32) (W : Vec Ideal S4x128x128 .f32) (g : Fin 4) (e : Fin 128) : EReal :=
  ∑ n : Fin 4, ∑ s : Fin 128, (∑ t : Fin 128, (if s.val ≤ t.val then W (ix3 g t s) else 0) * ds (rows X) (rows Y) (brow n t) (chan g e))
    * vv (rows X) (brow n s) (chan g e)

def dgAdd (X Y : Vec Ideal S512x1024 .f32) (W : Vec Ideal S4x128x128 .f32) (y : S1x512.Idx) : EReal :=
  dgSum X Y W ⟨(y 1).val / 128, by have := (y 1).isLt; simp at this; omega⟩ ⟨(y 1).val % 128, by omega⟩

set_option maxHeartbeats 1600000 in
theorem dg_piece3 (W : Vec Ideal S4x128x128 .f32) (w : Vec Ideal S1x128x128 .f32) (hw : ∀ t s : Fin 128, w (ix3 0 t s) = W (ix3 3 t s))
    (v : Vec Ideal S1x128 .f32) (a : Fin 1) :
    k0_pay911 (k0_pay577 (k0_pay572 X) (k0_pay573 X) k0_pay574) (k0_pay836 (k0_pay583 w) (k0_pay779 (k0_pay571 X) (k0_pay777 (k0_pay362 Y)))) (k0_pay892 (k0_pay555 X) (k0_pay822 (k0_pay561 w) (k0_pay762 (k0_pay361 Y) (k0_pay552 X))) (k0_pay869 (k0_pay536 (k0_pay531 X)) (k0_pay808 (k0_pay542 k0_pay538 w) (k0_pay743 (k0_pay533 (k0_pay530 X) k0_pay532) (k0_pay738 (k0_pay360 Y)))) (k0_pay848 (k0_pay518 (k0_pay514 X)) (k0_pay794 (k0_pay524 k0_pay520 w) (k0_pay714 (k0_pay515 X) (k0_pay708 (k0_pay359 Y)))) v))) (ix2 a e)
      = v (ix2 a e) + dgSum X Y W 3 e := by
  obtain rfl := Subsingleton.elim a 0
  pointwise [k0_pay911, k0_pay836, k0_pay583, k0_pay892, k0_pay822, k0_pay561, k0_pay869, k0_pay808, k0_pay542, k0_pay848, k0_pay794, k0_pay524, ds03, ds13, ds23, ds33, norm0, norm1, norm2, norm3, mask0, mask1, mask2, mask3, hw, chan]
  simp only [dgSum, Fin.sum_univ_four, ← add_assoc]
  rfl

set_option maxHeartbeats 1600000 in
theorem dg_piece2 (W : Vec Ideal S4x128x128 .f32) (w : Vec Ideal S1x128x128 .f32) (hw : ∀ t s : Fin 128, w (ix3 0 t s) = W (ix3 2 t s))
    (v : Vec Ideal S1x128 .f32) (a : Fin 1) :
    k0_pay907 (k0_pay577 (k0_pay572 X) (k0_pay573 X) k0_pay574) (k0_pay835 (k0_pay582 w) (k0_pay775 (k0_pay571 X) (k0_pay773 (k0_pay362 Y)))) (k0_pay890 (k0_pay888 (k0_pay867 (k0_pay536 (k0_pay531 X)) (k0_pay807 (k0_pay541 k0_pay538 w) (k0_pay736 (k0_pay533 (k0_pay530 X) k0_pay532) (k0_pay731 (k0_pay360 Y)))) (k0_pay846 (k0_pay518 (k0_pay514 X)) (k0_pay793 (k0_pay523 w) (k0_pay706 (k0_pay515 X) (k0_pay700 (k0_pay359 Y)))) v))) (k0_pay889 (k0_pay555 X) (k0_pay821 (k0_pay560 w) (k0_pay757 (k0_pay361 Y) (k0_pay552 X))))) (ix2 a e)
      = v (ix2 a e) + dgSum X Y W 2 e := by
  obtain rfl := Subsingleton.elim a 0
  pointwise [k0_pay907, k0_pay835, k0_pay582, k0_pay890, k0_pay888, k0_pay867, k0_pay807, k0_pay541, k0_pay846, k0_pay793, k0_pay523, k0_pay889, k0_pay821, k0_pay560, ds02, ds12, ds22, ds32, norm0, norm1, norm2, norm3, mask0, mask1, mask2, mask3, hw, chan]
  simp only [dgSum, Fin.sum_univ_four, ← add_assoc]
  rfl

set_option maxHeartbeats 1600000 in
theorem dg_piece1 (W : Vec Ideal S4x128x128 .f32) (w : Vec Ideal S1x128x128 .f32) (hw : ∀ t s : Fin 128, w (ix3 0 t s) = W (ix3 1 t s))
    (v : Vec Ideal S1x128 .f32) (a : Fin 1) :
    k0_pay905 (k0_pay577 (k0_pay572 X) (k0_pay573 X) k0_pay574) (k0_pay834 (k0_pay581 w) (k0_pay771 (k0_pay362 Y) (k0_pay571 X))) (k0_pay886 (k0_pay555 X) (k0_pay820 (k0_pay559 w) (k0_pay752 (k0_pay361 Y) (k0_pay552 X))) (k0_pay864 (k0_pay536 (k0_pay531 X)) (k0_pay806 (k0_pay540 k0_pay538 w) (k0_pay729 (k0_pay533 (k0_pay530 X) k0_pay532) (k0_pay723 (k0_pay360 Y)))) (k0_pay844 (k0_pay518 (k0_pay514 X)) (k0_pay792 (k0_pay522 w) (k0_pay698 (k0_pay515 X) (k0_pay690 (k0_pay359 Y)))) v))) (ix2 a e)
      = v (ix2 a e) + dgSum X Y W 1 e := by
  obtain rfl := Subsingleton.elim a 0
  pointwise [k0_pay905, k0_pay834, k0_pay581, k0_pay886, k0_pay820, k0_pay559, k0_pay864, k0_pay806, k0_pay540, k0_pay844, k0_pay792, k0_pay522, ds01, ds11, ds21, ds31, norm0, norm1, norm2, norm3, mask0, mask1, mask2, mask3, hw, chan]
  simp only [dgSum, Fin.sum_univ_four, ← add_assoc]
  rfl

set_option maxHeartbeats 1600000 in
theorem dg_piece0 (W : Vec Ideal S4x128x128 .f32) (w : Vec Ideal S1x128x128 .f32) (hw : ∀ t s : Fin 128, w (ix3 0 t s) = W (ix3 0 t s))
    (v : Vec Ideal S1x128 .f32) (a : Fin 1) :
    k0_pay901 (k0_pay577 (k0_pay572 X) (k0_pay573 X) k0_pay574) (k0_pay833 (k0_pay580 w) (k0_pay767 (k0_pay362 Y) (k0_pay571 X))) (k0_pay884 (k0_pay882 (k0_pay862 (k0_pay536 (k0_pay531 X)) (k0_pay805 (k0_pay539 w) (k0_pay721 (k0_pay533 (k0_pay530 X) k0_pay532) (k0_pay716 (k0_pay360 Y)))) (k0_pay842 (k0_pay518 (k0_pay514 X)) (k0_pay791 (k0_pay521 w) (k0_pay688 (k0_pay515 X) (k0_pay680 (k0_pay359 Y)))) v))) (k0_pay883 (k0_pay555 X) (k0_pay819 (k0_pay558 w) (k0_pay748 (k0_pay552 X) (k0_pay745 (k0_pay361 Y)))))) (ix2 a e)
      = v (ix2 a e) + dgSum X Y W 0 e := by
  obtain rfl := Subsingleton.elim a 0
  pointwise [k0_pay901, k0_pay833, k0_pay580, k0_pay884, k0_pay882, k0_pay862, k0_pay805, k0_pay539, k0_pay842, k0_pay791, k0_pay521, k0_pay883, k0_pay819, k0_pay558, ds00, ds10, ds20, ds30, norm0, norm1, norm2, norm3, mask0, mask1, mask2, mask3, hw, chan]
  simp only [dgSum, Fin.sum_univ_four, ← add_assoc]
  rw [show chan 0 e = ⟨e.val, by omega⟩ from Fin.ext (Nat.zero_add _)]

set_option maxHeartbeats 1600000 in
theorem dw_piece3 (v : Vec Ideal S1x128x128 .f32) (a : Fin 1) (s : Fin 128) :
    k0_pay910 k0_pay579 (k0_pay832 (k0_pay578 G (k0_pay572 X) (k0_pay573 X) k0_pay574) (k0_pay779 (k0_pay571 X) (k0_pay777 (k0_pay362 Y)))) (k0_pay908 (k0_pay891 k0_pay557 (k0_pay818 (k0_pay556 G (k0_pay555 X)) (k0_pay762 (k0_pay361 Y) (k0_pay552 X))) (k0_pay868 k0_pay538 (k0_pay804 (k0_pay537 G (k0_pay531 X)) (k0_pay743 (k0_pay533 (k0_pay530 X) k0_pay532) (k0_pay738 (k0_pay360 Y)))) (k0_pay847 k0_pay520 (k0_pay790 (k0_pay519 G (k0_pay514 X)) (k0_pay714 (k0_pay515 X) (k0_pay708 (k0_pay359 Y)))) v)))) k0_pay909 (ix3 a t s)
      = v (ix3 a t s) + dwAdd X Y G (ix3 3 t s) := by
  obtain rfl := Subsingleton.elim a 0
  pointwise [k0_pay910, k0_pay832, k0_pay908, k0_pay891, k0_pay818, k0_pay868, k0_pay804, k0_pay847, k0_pay790, k0_pay909, ds03, ds13, ds23, ds33, gained0, gained1, gained2, gained3, mask0, mask1, mask2, mask3, chan]
  simp only [dwAdd, Fin.sum_univ_four, ← add_assoc]
  rfl

set_option maxHeartbeats 1600000 in
theorem dw_piece2 (v : Vec Ideal S1x128x128 .f32) (a : Fin 1) (s : Fin 128) :
    k0_pay906 k0_pay579 (k0_pay831 (k0_pay829 (k0_pay775 (k0_pay571 X) (k0_pay773 (k0_pay362 Y)))) (k0_pay830 (k0_pay578 G (k0_pay572 X) (k0_pay573 X) k0_pay574)) (constant S128x128 .f32 0#32)) (k0_pay887 k0_pay557 (k0_pay817 (k0_pay815 (k0_pay757 (k0_pay361 Y) (k0_pay552 X))) (k0_pay816 (k0_pay556 G (k0_pay555 X))) (constant S128x128 .f32 0#32)) (k0_pay866 (k0_pay865 k0_pay538 (k0_pay803 (k0_pay801 (k0_pay736 (k0_pay533 (k0_pay530 X) k0_pay532) (k0_pay731 (k0_pay360 Y)))) (k0_pay802 (k0_pay537 G (k0_pay531 X))) (constant S128x128 .f32 0#32)) (k0_pay845 k0_pay520 (k0_pay789 (k0_pay787 (k0_pay706 (k0_pay515 X) (k0_pay700 (k0_pay359 Y)))) (k0_pay788 (k0_pay519 G (k0_pay514 X))) (constant S128x128 .f32 0#32)) v)))) (ix3 a t s)
      = v (ix3 a t s) + dwAdd X Y G (ix3 2 t s) := by
  obtain rfl := Subsingleton.elim a 0
  pointwise [k0_pay906, k0_pay831, k0_pay829, k0_pay830, k0_pay887, k0_pay817, k0_pay815, k0_pay816, k0_pay866, k0_pay865, k0_pay803, k0_pay801, k0_pay802, k0_pay845, k0_pay789, k0_pay787, k0_pay788, ds02, ds12, ds22, ds32, gained0, gained1, gained2, gained3, mask0, mask1, mask2, mask3, chan]
  simp only [dwAdd, Fin.sum_univ_four, ← add_assoc]
  rfl

set_option maxHeartbeats 1600000 in
theorem dw_piece1 (v : Vec Ideal S1x128x128 .f32) (a : Fin 1) (s : Fin 128) :
    k0_pay904 k0_pay579 (k0_pay828 (k0_pay578 G (k0_pay572 X) (k0_pay573 X) k0_pay574) (k0_pay771 (k0_pay362 Y) (k0_pay571 X))) (k0_pay902 (k0_pay885 k0_pay557 (k0_pay814 (k0_pay556 G (k0_pay555 X)) (k0_pay752 (k0_pay361 Y) (k0_pay552 X))) (k0_pay863 k0_pay538 (k0_pay800 (k0_pay537 G (k0_pay531 X)) (k0_pay729 (k0_pay533 (k0_pay530 X) k0_pay532) (k0_pay723 (k0_pay360 Y)))) (k0_pay843 k0_pay520 (k0_pay786 (k0_pay519 G (k0_pay514 X)) (k0_pay698 (k0_pay515 X) (k0_pay690 (k0_pay359 Y)))) v)))) k0_pay903 (ix3 a t s)
      = v (ix3 a t s) + dwAdd X Y G (ix3 1 t s) := by
  obtain rfl := Subsingleton.elim a 0
  pointwise [k0_pay904, k0_pay828, k0_pay902, k0_pay885, k0_pay814, k0_pay863, k0_pay800, k0_pay843, k0_pay786, k0_pay903, ds01, ds11, ds21, ds31, gained0, gained1, gained2, gained3, mask0, mask1, mask2, mask3, chan]
  simp only [dwAdd, Fin.sum_univ_four, ← add_assoc]
  rfl

set_option maxHeartbeats 1600000 in
theorem dw_piece0 (v : Vec Ideal S1x128x128 .f32) (a : Fin 1) (s : Fin 128) :
    k0_pay900 k0_pay579 (k0_pay827 (k0_pay578 G (k0_pay572 X) (k0_pay573 X) k0_pay574) (k0_pay767 (k0_pay362 Y) (k0_pay571 X))) (k0_pay881 k0_pay557 (k0_pay813 (k0_pay556 G (k0_pay555 X)) (k0_pay748 (k0_pay552 X) (k0_pay745 (k0_pay361 Y)))) (k0_pay861 (k0_pay860 k0_pay538 (k0_pay799 (k0_pay537 G (k0_pay531 X)) (k0_pay721 (k0_pay533 (k0_pay530 X) k0_pay532) (k0_pay716 (k0_pay360 Y)))) (k0_pay841 k0_pay520 (k0_pay785 (k0_pay519 G (k0_pay514 X)) (k0_pay688 (k0_pay515 X) (k0_pay680 (k0_pay359 Y)))) v)))) (ix3 a t s)
      = v (ix3 a t s) + dwAdd X Y G (ix3 0 t s) := by
  obtain rfl := Subsingleton.elim a 0
  pointwise [k0_pay900, k0_pay827, k0_pay881, k0_pay813, k0_pay861, k0_pay860, k0_pay799, k0_pay841, k0_pay785, ds00, ds10, ds20, ds30, gained0, gained1, gained2, gained3, mask0, mask1, mask2, mask3, chan]
  simp only [dwAdd, Fin.sum_univ_four, ← add_assoc]
  rfl

theorem db_piece3 (v : Vec Ideal S1x128x1 .f32) (a : Fin 1) (b : Fin 1) :
    k0_pay780 (k0_pay571 X) (k0_pay777 (k0_pay362 Y)) (k0_pay764 (k0_pay762 (k0_pay361 Y) (k0_pay552 X)) (k0_pay763 (k0_pay744 (k0_pay533 (k0_pay530 X) k0_pay532) (k0_pay738 (k0_pay360 Y)) (k0_pay715 (k0_pay515 X) (k0_pay708 (k0_pay359 Y)) v)))) (ix3 a t b)
      = v (ix3 a t b) + dbAdd X Y (ix3 3 t 0) := by
  obtain rfl := Subsingleton.elim a 0
  obtain rfl := Subsingleton.elim b 0
  pointwise [k0_pay780, k0_pay764, k0_pay763, k0_pay744, k0_pay715, ds03, ds13, ds23, ds33]
  simp only [dbAdd, Fin.sum_univ_four, ← add_assoc]
  rfl

theorem db_piece2 (v : Vec Ideal S1x128x1 .f32) (a : Fin 1) (b : Fin 1) :
    k0_pay776 (k0_pay571 X) (k0_pay773 (k0_pay362 Y)) (k0_pay759 (k0_pay758 (k0_pay361 Y) (k0_pay552 X) (k0_pay737 (k0_pay533 (k0_pay530 X) k0_pay532) (k0_pay731 (k0_pay360 Y)) (k0_pay707 (k0_pay515 X) (k0_pay700 (k0_pay359 Y)) v)))) (ix3 a t b)
      = v (ix3 a t b) + dbAdd X Y (ix3 2 t 0) := by
  obtain rfl := Subsingleton.elim a 0
  obtain rfl := Subsingleton.elim b 0
  pointwise [k0_pay776, k0_pay759, k0_pay758, k0_pay737, k0_pay707, ds02, ds12, ds22, ds32]
  simp only [dbAdd, Fin.sum_univ_four, ← add_assoc]
  rfl

theorem db_piece1 (v : Vec Ideal S1x128x1 .f32) (a : Fin 1) (b : Fin 1) :
    k0_pay772 (k0_pay771 (k0_pay362 Y) (k0_pay571 X)) (k0_pay754 (k0_pay753 (k0_pay361 Y) (k0_pay552 X) (k0_pay730 (k0_pay533 (k0_pay530 X) k0_pay532) (k0_pay723 (k0_pay360 Y)) (k0_pay699 (k0_pay515 X) (k0_pay690 (k0_pay359 Y)) v)))) (ix3 a t b)
      = v (ix3 a t b) + dbAdd X Y (ix3 1 t 0) := by
  obtain rfl := Subsingleton.elim a 0
  obtain rfl := Subsingleton.elim b 0
  pointwise [k0_pay772, k0_pay754, k0_pay753, k0_pay730, k0_pay699, ds01, ds11, ds21, ds31]
  simp only [dbAdd, Fin.sum_univ_four, ← add_assoc]
  rfl

theorem db_piece0 (v : Vec Ideal S1x128x1 .f32) (a : Fin 1) (b : Fin 1) :
    k0_pay768 (k0_pay767 (k0_pay362 Y) (k0_pay571 X)) (k0_pay749 (k0_pay552 X) (k0_pay745 (k0_pay361 Y)) (k0_pay722 (k0_pay533 (k0_pay530 X) k0_pay532) (k0_pay716 (k0_pay360 Y)) (k0_pay689 (k0_pay515 X) (k0_pay680 (k0_pay359 Y)) v))) (ix3 a t b)
      = v (ix3 a t b) + dbAdd X Y (ix3 0 t 0) := by
  obtain rfl := Subsingleton.elim a 0
  obtain rfl := Subsingleton.elim b 0
  pointwise [k0_pay768, k0_pay749, k0_pay722, k0_pay689, ds00, ds10, ds20, ds30]
  simp only [dbAdd, Fin.sum_univ_four, ← add_assoc]
  rfl

end Cert.Sgu
-- ==== Proof.SguStep.lean ====
module

public import proofs.«01_k».proof.Proof.MixFrame
public import proofs.«01_k».proof.Proof.SguPay
public import Idealize.ShloMosaic.Lib.Pipeline.ReadBack

@[expose] public section

set_option maxRecDepth 16384

noncomputable section

/-!
# What a grid point adds to the three gradients

In every case of a point the three accumulators' last stores are one piece per channel group, over what the point before
left (over zeros at the first point).
-/

namespace Cert.Sgu

open Idealize.ShloMosaic Idealize.ShloMosaic.TcCoe Idealize.SL.Sem
open Idealize.ShloMosaic.Pipeline (Dat)
open Cert.KernelIdeal Cert.KernelIdeal.Gen Cert.KernelIdeal.Mix

/-- An entry of the gain's gradient by its group and its channel in the group. -/
theorem dgAdd_chan (X Y : Vec Ideal S512x1024 .f32) (W : Vec Ideal S4x128x128 .f32) (g : Fin 4) (e : Fin 128) (i : Fin 512) (h : i = chan g e) :
    dgAdd X Y W (ix2 0 i) = dgSum X Y W g e := by
  subst h
  unfold dgAdd
  congr 1
  · apply Fin.ext; show (128 * g.val + e.val) / 128 = g.val; omega
  · apply Fin.ext; show (128 * g.val + e.val) % 128 = e.val; omega

variable (m : (ℓ : Loc nD τ sig) → Buf (Elt Ideal) ℓ) (c : Dev nD) (t : Fin cfg0.N)

set_option maxHeartbeats 4000000 in
theorem dbs_A (h0 : t.val % 8 = 0) (h1 : t.val % 4 = 0) (h2 : ¬t.val % 8 = 7) (y : S4x128x1.Idx) :
    (leftA m c t h0 h1 h2).dbs y = (0 : EReal) + dbAdd (iblk m c 0 t) (iblk m c 3 t) y := by
  unfold leftA runA
  dsimp only
  frame_open
  simp (disch := decide) only [↓ View.readCov_skip, ↓ View.readCov_cons_toLoadRect, ↓ View.readCov_fill]
  frame_out
  generalize iblk m c 0 t = X
  generalize iblk m c 3 t = Y
  refine View.canon_append_of_piecesOf (Val := Elt Ideal) (s := S4x128x1) (e := .f32) (fun y => (0 : EReal) + dbAdd X Y y)
    _ [_, _, _, _] ⟨fun x => ?_, fun x => ?_, fun x => ?_, fun x => ?_, trivial⟩ y ?_
  rotate_left 4
  · exact View.cover_of_tiledL (s := S4x128x1) _ S1x128x1.size (by sl_kernel_rfl) y
  all_goals idx_vars x
  · refine (db_piece3 X Y x1 _ x0 x2).trans (congrArg₂ (fun a b : EReal => a + b) ?_ (congrArg (dbAdd X Y) (?_ : ix3 3 x1 0 = _)))
    · pointwise [k0_pay88, k0_pay89, k0_pay90]
    · blk_ext
  · refine (db_piece2 X Y x1 _ x0 x2).trans (congrArg₂ (fun a b : EReal => a + b) ?_ (congrArg (dbAdd X Y) (?_ : ix3 2 x1 0 = _)))
    · pointwise [k0_pay88, k0_pay89, k0_pay90]
    · blk_ext
  · refine (db_piece1 X Y x1 _ x0 x2).trans (congrArg₂ (fun a b : EReal => a + b) ?_ (congrArg (dbAdd X Y) (?_ : ix3 1 x1 0 = _)))
    · pointwise [k0_pay88, k0_pay89, k0_pay90]
    · blk_ext
  · refine (db_piece0 X Y x1 _ x0 x2).trans (congrArg₂ (fun a b : EReal => a + b) ?_ (congrArg (dbAdd X Y) (?_ : ix3 0 x1 0 = _)))
    · pointwise [k0_pay88, k0_pay89, k0_pay90]
    · blk_ext

set_option maxHeartbeats 4000000 in
theorem dbs_B (h0 : ¬t.val % 8 = 0) (h1 : ¬t.val % 4 = 0) (h2 : ¬t.val % 8 = 7) (P : Left Ideal) (y : S4x128x1.Idx) :
    (leftB m c t h0 h1 h2 P).dbs y = P.dbs y + dbAdd (iblk m c 0 t) (iblk m c 3 t) y := by
  unfold leftB runB
  dsimp only
  frame_open
  simp (disch := decide) only [↓ View.readCov_skip, ↓ View.readCov_cons_toLoadRect, ↓ View.readCov_fill]
  frame_out
  generalize iblk m c 0 t = X
  generalize iblk m c 3 t = Y
  refine View.canon_append_of_piecesOf (Val := Elt Ideal) (s := S4x128x1) (e := .f32) (fun y => P.dbs y + dbAdd X Y y)
    _ [_, _, _, _] ⟨fun x => ?_, fun x => ?_, fun x => ?_, fun x => ?_, trivial⟩ y ?_
  rotate_left 4
  · exact View.cover_of_tiledL (s := S4x128x1) _ S1x128x1.size (by sl_kernel_rfl) y
  all_goals idx_vars x
  · refine (db_piece3 X Y x1 _ x0 x2).trans (congrArg₂ (fun a b : EReal => a + b) rfl (congrArg (dbAdd X Y) (?_ : ix3 3 x1 0 = _)))
    blk_ext
  · refine (db_piece2 X Y x1 _ x0 x2).trans (congrArg₂ (fun a b : EReal => a + b) rfl (congrArg (dbAdd X Y) (?_ : ix3 2 x1 0 = _)))
    blk_ext
  · refine (db_piece1 X Y x1 _ x0 x2).trans (congrArg₂ (fun a b : EReal => a + b) rfl (congrArg (dbAdd X Y) (?_ : ix3 1 x1 0 = _)))
    blk_ext
  · refine (db_piece0 X Y x1 _ x0 x2).trans (congrArg₂ (fun a b : EReal => a + b) rfl (congrArg (dbAdd X Y) (?_ : ix3 0 x1 0 = _)))
    blk_ext

set_option maxHeartbeats 4000000 in
theorem dbs_C (h0 : ¬t.val % 8 = 0) (h1 : t.val % 4 = 0) (h2 : ¬t.val % 8 = 7) (P : Left Ideal) (y : S4x128x1.Idx) :
    (leftC m c t h0 h1 h2 P).dbs y = P.dbs y + dbAdd (iblk m c 0 t) (iblk m c 3 t) y := by
  unfold leftC runC
  dsimp only
  frame_open
  simp (disch := decide) only [↓ View.readCov_skip, ↓ View.readCov_cons_toLoadRect, ↓ View.readCov_fill]
  frame_out
  generalize iblk m c 0 t = X
  generalize iblk m c 3 t = Y
  refine View.canon_append_of_piecesOf (Val := Elt Ideal) (s := S4x128x1) (e := .f32) (fun y => P.dbs y + dbAdd X Y y)
    _ [_, _, _, _] ⟨fun x => ?_, fun x => ?_, fun x => ?_, fun x => ?_, trivial⟩ y ?_
  rotate_left 4
  · exact View.cover_of_tiledL (s := S4x128x1) _ S1x128x1.size (by sl_kernel_rfl) y
  all_goals idx_vars x
  · refine (db_piece3 X Y x1 _ x0 x2).trans (congrArg₂ (fun a b : EReal => a + b) rfl (congrArg (dbAdd X Y) (?_ : ix3 3 x1 0 = _)))
    blk_ext
  · refine (db_piece2 X Y x1 _ x0 x2).trans (congrArg₂ (fun a b : EReal => a + b) rfl (congrArg (dbAdd X Y) (?_ : ix3 2 x1 0 = _)))
    blk_ext
  · refine (db_piece1 X Y x1 _ x0 x2).trans (congrArg₂ (fun a b : EReal => a + b) rfl (congrArg (dbAdd X Y) (?_ : ix3 1 x1 0 = _)))
    blk_ext
  · refine (db_piece0 X Y x1 _ x0 x2).trans (congrArg₂ (fun a b : EReal => a + b) rfl (congrArg (dbAdd X Y) (?_ : ix3 0 x1 0 = _)))
    blk_ext

set_option maxHeartbeats 4000000 in
theorem dbs_D (h0 : ¬t.val % 8 = 0) (h1 : ¬t.val % 4 = 0) (h2 : t.val % 8 = 7) (P : Left Ideal) (y : S4x128x1.Idx) :
    (leftD m c t h0 h1 h2 P).dbs y = P.dbs y + dbAdd (iblk m c 0 t) (iblk m c 3 t) y := by
  unfold leftD runD
  dsimp only
  frame_open
  simp (disch := decide) only [↓ View.readCov_skip, ↓ View.readCov_cons_toLoadRect, ↓ View.readCov_fill]
  frame_out
  generalize iblk m c 0 t = X
  generalize iblk m c 3 t = Y
  refine View.canon_append_of_piecesOf (Val := Elt Ideal) (s := S4x128x1) (e := .f32) (fun y => P.dbs y + dbAdd X Y y)
    _ [_, _, _, _] ⟨fun x => ?_, fun x => ?_, fun x => ?_, fun x => ?_, trivial⟩ y ?_
  rotate_left 4
  · exact View.cover_of_tiledL (s := S4x128x1) _ S1x128x1.size (by sl_kernel_rfl) y
  all_goals idx_vars x
  · refine (db_piece3 X Y x1 _ x0 x2).trans (congrArg₂ (fun a b : EReal => a + b) rfl (congrArg (dbAdd X Y) (?_ : ix3 3 x1 0 = _)))
    blk_ext
  · refine (db_piece2 X Y x1 _ x0 x2).trans (congrArg₂ (fun a b : EReal => a + b) rfl (congrArg (dbAdd X Y) (?_ : ix3 2 x1 0 = _)))
    blk_ext
  · refine (db_piece1 X Y x1 _ x0 x2).trans (congrArg₂ (fun a b : EReal => a + b) rfl (congrArg (dbAdd X Y) (?_ : ix3 1 x1 0 = _)))
    blk_ext
  · refine (db_piece0 X Y x1 _ x0 x2).trans (congrArg₂ (fun a b : EReal => a + b) rfl (congrArg (dbAdd X Y) (?_ : ix3 0 x1 0 = _)))
    blk_ext

set_option maxHeartbeats 4000000 in
theorem dws_A (h0 : t.val % 8 = 0) (h1 : t.val % 4 = 0) (h2 : ¬t.val % 8 = 7) (y : S4x128x128.Idx) :
    (leftA m c t h0 h1 h2).dws y = (0 : EReal) + dwAdd (iblk m c 0 t) (iblk m c 3 t) (iblk m c 4 t) y := by
  unfold leftA runA
  dsimp only
  frame_open
  simp (disch := decide) only [↓ View.readCov_skip, ↓ View.readCov_cons_toLoadRect, ↓ View.readCov_fill]
  frame_out
  generalize iblk m c 0 t = X
  generalize iblk m c 3 t = Y
  generalize iblk m c 4 t = G
  refine View.canon_append_of_piecesOf (Val := Elt Ideal) (s := S4x128x128) (e := .f32) (fun y => (0 : EReal) + dwAdd X Y G y)
    _ [_, _, _, _] ⟨fun x => ?_, fun x => ?_, fun x => ?_, fun x => ?_, trivial⟩ y ?_
  rotate_left 4
  · exact View.cover_of_tiledL (s := S4x128x128) _ S1x128x128.size (by sl_kernel_rfl) y
  all_goals idx_vars x
  · refine (dw_piece3 X Y G x1 _ x0 x2).trans (congrArg₂ (fun a b : EReal => a + b) ?_ (congrArg (dwAdd X Y G) (?_ : ix3 3 x1 x2 = _)))
    · pointwise [k0_pay88, k0_pay89, k0_pay90]
    · blk_ext
  · refine (dw_piece2 X Y G x1 _ x0 x2).trans (congrArg₂ (fun a b : EReal => a + b) ?_ (congrArg (dwAdd X Y G) (?_ : ix3 2 x1 x2 = _)))
    · pointwise [k0_pay88, k0_pay89, k0_pay90]
    · blk_ext
  · refine (dw_piece1 X Y G x1 _ x0 x2).trans (congrArg₂ (fun a b : EReal => a + b) ?_ (congrArg (dwAdd X Y G) (?_ : ix3 1 x1 x2 = _)))
    · pointwise [k0_pay88, k0_pay89, k0_pay90]
    · blk_ext
  · refine (dw_piece0 X Y G x1 _ x0 x2).trans (congrArg₂ (fun a b : EReal => a + b) ?_ (congrArg (dwAdd X Y G) (?_ : ix3 0 x1 x2 = _)))
    · pointwise [k0_pay88, k0_pay89, k0_pay90]
    · blk_ext

set_option maxHeartbeats 4000000 in
theorem dws_B (h0 : ¬t.val % 8 = 0) (h1 : ¬t.val % 4 = 0) (h2 : ¬t.val % 8 = 7) (P : Left Ideal) (y : S4x128x128.Idx) :
    (leftB m c t h0 h1 h2 P).dws y = P.dws y + dwAdd (iblk m c 0 t) (iblk m c 3 t) (iblk m c 4 t) y := by
  unfold leftB runB
  dsimp only
  frame_open
  simp (disch := decide) only [↓ View.readCov_skip, ↓ View.readCov_cons_toLoadRect, ↓ View.readCov_fill]
  frame_out
  generalize iblk m c 0 t = X
  generalize iblk m c 3 t = Y
  generalize iblk m c 4 t = G
  refine View.canon_append_of_piecesOf (Val := Elt Ideal) (s := S4x128x128) (e := .f32) (fun y => P.dws y + dwAdd X Y G y)
    _ [_, _, _, _] ⟨fun x => ?_, fun x => ?_, fun x => ?_, fun x => ?_, trivial⟩ y ?_
  rotate_left 4
  · exact View.cover_of_tiledL (s := S4x128x128) _ S1x128x128.size (by sl_kernel_rfl) y
  all_goals idx_vars x
  · refine (dw_piece3 X Y G x1 _ x0 x2).trans (congrArg₂ (fun a b : EReal => a + b) rfl (congrArg (dwAdd X Y G) (?_ : ix3 3 x1 x2 = _)))
    blk_ext
  · refine (dw_piece2 X Y G x1 _ x0 x2).trans (congrArg₂ (fun a b : EReal => a + b) rfl (congrArg (dwAdd X Y G) (?_ : ix3 2 x1 x2 = _)))
    blk_ext
  · refine (dw_piece1 X Y G x1 _ x0 x2).trans (congrArg₂ (fun a b : EReal => a + b) rfl (congrArg (dwAdd X Y G) (?_ : ix3 1 x1 x2 = _)))
    blk_ext
  · refine (dw_piece0 X Y G x1 _ x0 x2).trans (congrArg₂ (fun a b : EReal => a + b) rfl (congrArg (dwAdd X Y G) (?_ : ix3 0 x1 x2 = _)))
    blk_ext

set_option maxHeartbeats 4000000 in
theorem dws_C (h0 : ¬t.val % 8 = 0) (h1 : t.val % 4 = 0) (h2 : ¬t.val % 8 = 7) (P : Left Ideal) (y : S4x128x128.Idx) :
    (leftC m c t h0 h1 h2 P).dws y = P.dws y + dwAdd (iblk m c 0 t) (iblk m c 3 t) (iblk m c 4 t) y := by
  unfold leftC runC
  dsimp only
  frame_open
  simp (disch := decide) only [↓ View.readCov_skip, ↓ View.readCov_cons_toLoadRect, ↓ View.readCov_fill]
  frame_out
  generalize iblk m c 0 t = X
  generalize iblk m c 3 t = Y
  generalize iblk m c 4 t = G
  refine View.canon_append_of_piecesOf (Val := Elt Ideal) (s := S4x128x128) (e := .f32) (fun y => P.dws y + dwAdd X Y G y)
    _ [_, _, _, _] ⟨fun x => ?_, fun x => ?_, fun x => ?_, fun x => ?_, trivial⟩ y ?_
  rotate_left 4
  · exact View.cover_of_tiledL (s := S4x128x128) _ S1x128x128.size (by sl_kernel_rfl) y
  all_goals idx_vars x
  · refine (dw_piece3 X Y G x1 _ x0 x2).trans (congrArg₂ (fun a b : EReal => a + b) rfl (congrArg (dwAdd X Y G) (?_ : ix3 3 x1 x2 = _)))
    blk_ext
  · refine (dw_piece2 X Y G x1 _ x0 x2).trans (congrArg₂ (fun a b : EReal => a + b) rfl (congrArg (dwAdd X Y G) (?_ : ix3 2 x1 x2 = _)))
    blk_ext
  · refine (dw_piece1 X Y G x1 _ x0 x2).trans (congrArg₂ (fun a b : EReal => a + b) rfl (congrArg (dwAdd X Y G) (?_ : ix3 1 x1 x2 = _)))
    blk_ext
  · refine (dw_piece0 X Y G x1 _ x0 x2).trans (congrArg₂ (fun a b : EReal => a + b) rfl (congrArg (dwAdd X Y G) (?_ : ix3 0 x1 x2 = _)))
    blk_ext

set_option maxHeartbeats 4000000 in
theorem dws_D (h0 : ¬t.val % 8 = 0) (h1 : ¬t.val % 4 = 0) (h2 : t.val % 8 = 7) (P : Left Ideal) (y : S4x128x128.Idx) :
    (leftD m c t h0 h1 h2 P).dws y = P.dws y + dwAdd (iblk m c 0 t) (iblk m c 3 t) (iblk m c 4 t) y := by
  unfold leftD runD
  dsimp only
  frame_open
  simp (disch := decide) only [↓ View.readCov_skip, ↓ View.readCov_cons_toLoadRect, ↓ View.readCov_fill]
  frame_out
  generalize iblk m c 0 t = X
  generalize iblk m c 3 t = Y
  generalize iblk m c 4 t = G
  refine View.canon_append_of_piecesOf (Val := Elt Ideal) (s := S4x128x128) (e := .f32) (fun y => P.dws y + dwAdd X Y G y)
    _ [_, _, _, _] ⟨fun x => ?_, fun x => ?_, fun x => ?_, fun x => ?_, trivial⟩ y ?_
  rotate_left 4
  · exact View.cover_of_tiledL (s := S4x128x128) _ S1x128x128.size (by sl_kernel_rfl) y
  all_goals idx_vars x
  · refine (dw_piece3 X Y G x1 _ x0 x2).trans (congrArg₂ (fun a b : EReal => a + b) rfl (congrArg (dwAdd X Y G) (?_ : ix3 3 x1 x2 = _)))
    blk_ext
  · refine (dw_piece2 X Y G x1 _ x0 x2).trans (congrArg₂ (fun a b : EReal => a + b) rfl (congrArg (dwAdd X Y G) (?_ : ix3 2 x1 x2 = _)))
    blk_ext
  · refine (dw_piece1 X Y G x1 _ x0 x2).trans (congrArg₂ (fun a b : EReal => a + b) rfl (congrArg (dwAdd X Y G) (?_ : ix3 1 x1 x2 = _)))
    blk_ext
  · refine (dw_piece0 X Y G x1 _ x0 x2).trans (congrArg₂ (fun a b : EReal => a + b) rfl (congrArg (dwAdd X Y G) (?_ : ix3 0 x1 x2 = _)))
    blk_ext

set_option maxHeartbeats 4000000 in
theorem dg_A (h0 : t.val % 8 = 0) (h1 : t.val % 4 = 0) (h2 : ¬t.val % 8 = 7) (y : S1x512.Idx) :
    (leftA m c t h0 h1 h2).dg y = (0 : EReal) + dgAdd (iblk m c 0 t) (iblk m c 3 t) (iblk m c 5 t) y := by
  unfold leftA runA
  dsimp only
  frame_open
  simp (disch := decide) only [↓ View.readCov_skip, ↓ View.readCov_cons_toLoadRect, ↓ View.readCov_fill]
  frame_out
  generalize iblk m c 0 t = X
  generalize iblk m c 3 t = Y
  generalize iblk m c 5 t = W
  refine View.canon_append_of_piecesOf (Val := Elt Ideal) (s := S1x512) (e := .f32) (fun y => (0 : EReal) + dgAdd X Y W y)
    _ [_, _, _, _] ⟨fun x => ?_, fun x => ?_, fun x => ?_, fun x => ?_, trivial⟩ y ?_
  rotate_left 4
  · exact View.cover_of_tiledL (s := S1x512) _ S1x128.size (by sl_kernel_rfl) y
  all_goals idx_vars x
  · refine (dg_piece3 X Y x1 W _ (fun t s => by pointwise) _ x0).trans (congrArg₂ (fun a b : EReal => a + b) ?_ ((dgAdd_chan X Y W 3 x1 _ rfl).symm.trans (congrArg (dgAdd X Y W) (?_ : ix2 0 ⟨384 + x1.val, by omega⟩ = _))))
    · pointwise [k0_pay88, k0_pay89, k0_pay90]
    · blk_ext
  · refine (dg_piece2 X Y x1 W _ (fun t s => by pointwise) _ x0).trans (congrArg₂ (fun a b : EReal => a + b) ?_ ((dgAdd_chan X Y W 2 x1 _ rfl).symm.trans (congrArg (dgAdd X Y W) (?_ : ix2 0 ⟨256 + x1.val, by omega⟩ = _))))
    · pointwise [k0_pay88, k0_pay89, k0_pay90]
    · blk_ext
  · refine (dg_piece1 X Y x1 W _ (fun t s => by pointwise) _ x0).trans (congrArg₂ (fun a b : EReal => a + b) ?_ ((dgAdd_chan X Y W 1 x1 _ rfl).symm.trans (congrArg (dgAdd X Y W) (?_ : ix2 0 ⟨128 + x1.val, by omega⟩ = _))))
    · pointwise [k0_pay88, k0_pay89, k0_pay90]
    · blk_ext
  · refine (dg_piece0 X Y x1 W _ (fun t s => by pointwise) _ x0).trans (congrArg₂ (fun a b : EReal => a + b) ?_ ((dgAdd_chan X Y W 0 x1 _ (Fin.ext (Nat.zero_add _).symm)).symm.trans (congrArg (dgAdd X Y W) (?_ : ix2 0 ⟨x1.val, by omega⟩ = _))))
    · pointwise [k0_pay88, k0_pay89, k0_pay90]
    · blk_ext

set_option maxHeartbeats 4000000 in
theorem dg_B (h0 : ¬t.val % 8 = 0) (h1 : ¬t.val % 4 = 0) (h2 : ¬t.val % 8 = 7) (P : Left Ideal) (y : S1x512.Idx) :
    (leftB m c t h0 h1 h2 P).dg y = P.dg y + dgAdd (iblk m c 0 t) (iblk m c 3 t) (iblk m c 5 t) y := by
  unfold leftB runB
  dsimp only
  frame_open
  simp (disch := decide) only [↓ View.readCov_skip, ↓ View.readCov_cons_toLoadRect, ↓ View.readCov_fill]
  frame_out
  generalize iblk m c 0 t = X
  generalize iblk m c 3 t = Y
  generalize iblk m c 5 t = W
  refine View.canon_append_of_piecesOf (Val := Elt Ideal) (s := S1x512) (e := .f32) (fun y => P.dg y + dgAdd X Y W y)
    _ [_, _, _, _] ⟨fun x => ?_, fun x => ?_, fun x => ?_, fun x => ?_, trivial⟩ y ?_
  rotate_left 4
  · exact View.cover_of_tiledL (s := S1x512) _ S1x128.size (by sl_kernel_rfl) y
  all_goals idx_vars x
  · refine (dg_piece3 X Y x1 W _ (fun t s => by pointwise) _ x0).trans (congrArg₂ (fun a b : EReal => a + b) rfl ((dgAdd_chan X Y W 3 x1 _ rfl).symm.trans (congrArg (dgAdd X Y W) (?_ : ix2 0 ⟨384 + x1.val, by omega⟩ = _))))
    blk_ext
  · refine (dg_piece2 X Y x1 W _ (fun t s => by pointwise) _ x0).trans (congrArg₂ (fun a b : EReal => a + b) rfl ((dgAdd_chan X Y W 2 x1 _ rfl).symm.trans (congrArg (dgAdd X Y W) (?_ : ix2 0 ⟨256 + x1.val, by omega⟩ = _))))
    blk_ext
  · refine (dg_piece1 X Y x1 W _ (fun t s => by pointwise) _ x0).trans (congrArg₂ (fun a b : EReal => a + b) rfl ((dgAdd_chan X Y W 1 x1 _ rfl).symm.trans (congrArg (dgAdd X Y W) (?_ : ix2 0 ⟨128 + x1.val, by omega⟩ = _))))
    blk_ext
  · refine (dg_piece0 X Y x1 W _ (fun t s => by pointwise) _ x0).trans (congrArg₂ (fun a b : EReal => a + b) rfl ((dgAdd_chan X Y W 0 x1 _ (Fin.ext (Nat.zero_add _).symm)).symm.trans (congrArg (dgAdd X Y W) (?_ : ix2 0 ⟨x1.val, by omega⟩ = _))))
    blk_ext

set_option maxHeartbeats 4000000 in
theorem dg_C (h0 : ¬t.val % 8 = 0) (h1 : t.val % 4 = 0) (h2 : ¬t.val % 8 = 7) (P : Left Ideal) (y : S1x512.Idx) :
    (leftC m c t h0 h1 h2 P).dg y = P.dg y + dgAdd (iblk m c 0 t) (iblk m c 3 t) (iblk m c 5 t) y := by
  unfold leftC runC
  dsimp only
  frame_open
  simp (disch := decide) only [↓ View.readCov_skip, ↓ View.readCov_cons_toLoadRect, ↓ View.readCov_fill]
  frame_out
  generalize iblk m c 0 t = X
  generalize iblk m c 3 t = Y
  generalize iblk m c 5 t = W
  refine View.canon_append_of_piecesOf (Val := Elt Ideal) (s := S1x512) (e := .f32) (fun y => P.dg y + dgAdd X Y W y)
    _ [_, _, _, _] ⟨fun x => ?_, fun x => ?_, fun x => ?_, fun x => ?_, trivial⟩ y ?_
  rotate_left 4
  · exact View.cover_of_tiledL (s := S1x512) _ S1x128.size (by sl_kernel_rfl) y
  all_goals idx_vars x
  · refine (dg_piece3 X Y x1 W _ (fun t s => by pointwise) _ x0).trans (congrArg₂ (fun a b : EReal => a + b) rfl ((dgAdd_chan X Y W 3 x1 _ rfl).symm.trans (congrArg (dgAdd X Y W) (?_ : ix2 0 ⟨384 + x1.val, by omega⟩ = _))))
    blk_ext
  · refine (dg_piece2 X Y x1 W _ (fun t s => by pointwise) _ x0).trans (congrArg₂ (fun a b : EReal => a + b) rfl ((dgAdd_chan X Y W 2 x1 _ rfl).symm.trans (congrArg (dgAdd X Y W) (?_ : ix2 0 ⟨256 + x1.val, by omega⟩ = _))))
    blk_ext
  · refine (dg_piece1 X Y x1 W _ (fun t s => by pointwise) _ x0).trans (congrArg₂ (fun a b : EReal => a + b) rfl ((dgAdd_chan X Y W 1 x1 _ rfl).symm.trans (congrArg (dgAdd X Y W) (?_ : ix2 0 ⟨128 + x1.val, by omega⟩ = _))))
    blk_ext
  · refine (dg_piece0 X Y x1 W _ (fun t s => by pointwise) _ x0).trans (congrArg₂ (fun a b : EReal => a + b) rfl ((dgAdd_chan X Y W 0 x1 _ (Fin.ext (Nat.zero_add _).symm)).symm.trans (congrArg (dgAdd X Y W) (?_ : ix2 0 ⟨x1.val, by omega⟩ = _))))
    blk_ext

set_option maxHeartbeats 4000000 in
theorem dg_D (h0 : ¬t.val % 8 = 0) (h1 : ¬t.val % 4 = 0) (h2 : t.val % 8 = 7) (P : Left Ideal) (y : S1x512.Idx) :
    (leftD m c t h0 h1 h2 P).dg y = P.dg y + dgAdd (iblk m c 0 t) (iblk m c 3 t) (iblk m c 5 t) y := by
  unfold leftD runD
  dsimp only
  frame_open
  simp (disch := decide) only [↓ View.readCov_skip, ↓ View.readCov_cons_toLoadRect, ↓ View.readCov_fill]
  frame_out
  generalize iblk m c 0 t = X
  generalize iblk m c 3 t = Y
  generalize iblk m c 5 t = W
  refine View.canon_append_of_piecesOf (Val := Elt Ideal) (s := S1x512) (e := .f32) (fun y => P.dg y + dgAdd X Y W y)
    _ [_, _, _, _] ⟨fun x => ?_, fun x => ?_, fun x => ?_, fun x => ?_, trivial⟩ y ?_
  rotate_left 4
  · exact View.cover_of_tiledL (s := S1x512) _ S1x128.size (by sl_kernel_rfl) y
  all_goals idx_vars x
  · refine (dg_piece3 X Y x1 W _ (fun t s => by pointwise) _ x0).trans (congrArg₂ (fun a b : EReal => a + b) rfl ((dgAdd_chan X Y W 3 x1 _ rfl).symm.trans (congrArg (dgAdd X Y W) (?_ : ix2 0 ⟨384 + x1.val, by omega⟩ = _))))
    blk_ext
  · refine (dg_piece2 X Y x1 W _ (fun t s => by pointwise) _ x0).trans (congrArg₂ (fun a b : EReal => a + b) rfl ((dgAdd_chan X Y W 2 x1 _ rfl).symm.trans (congrArg (dgAdd X Y W) (?_ : ix2 0 ⟨256 + x1.val, by omega⟩ = _))))
    blk_ext
  · refine (dg_piece1 X Y x1 W _ (fun t s => by pointwise) _ x0).trans (congrArg₂ (fun a b : EReal => a + b) rfl ((dgAdd_chan X Y W 1 x1 _ rfl).symm.trans (congrArg (dgAdd X Y W) (?_ : ix2 0 ⟨128 + x1.val, by omega⟩ = _))))
    blk_ext
  · refine (dg_piece0 X Y x1 W _ (fun t s => by pointwise) _ x0).trans (congrArg₂ (fun a b : EReal => a + b) rfl ((dgAdd_chan X Y W 0 x1 _ (Fin.ext (Nat.zero_add _).symm)).symm.trans (congrArg (dgAdd X Y W) (?_ : ix2 0 ⟨x1.val, by omega⟩ = _))))
    blk_ext

end Cert.Sgu
-- ==== Proof.SguVal.lean ====
module

public import proofs.«01_k».proof.Proof.SguStep
public import Idealize.ShloMosaic.Lib.Pipeline.ValueKit

@[expose] public section

set_option maxRecDepth 16384

noncomputable section

/-!
# The three gradients the launch ends with

An accumulator starts from zeros at the first of the eight points and gains its four chunks' terms at each, so after the
last it is the sum over the 32 chunks. The points visit the blocks of 512 tokens of a sequence from the last to the
first; a sum over the points is a sum over the blocks all the same.
-/

namespace Cert.Sgu

open Idealize.ShloMosaic Idealize.ShloMosaic.TcCoe Idealize.SL.Sem
open Idealize.ShloMosaic.Pipeline (Dat)
open Cert.KernelIdeal Cert.KernelIdeal.Gen Cert.KernelIdeal.Mix

/-! ## Blocks and chunks -/

/-- The block of 512 tokens that point `t` reads. -/
def place (t : Fin 8) : Fin 8 := ⟨4 * (t.val / 4) + 3 - t.val % 4, by omega⟩

theorem place_bijective : Function.Bijective place := by decide

/-- Chunk `n` of block `j`. -/
def sub (j : Fin 8) (n : Fin 4) : Fin 32 := ⟨4 * j.val + n.val, by omega⟩

/-- A sum over the points and the chunks of each point's block is a sum over all chunks. -/
theorem sum_points {M : Type*} [AddCommMonoid M] (f : Fin 32 → M) :
    ∑ t : Fin 8, ∑ n : Fin 4, f (sub (place t) n) = ∑ k, f k := by
  rw [place_bijective.sum_comp (fun j => ∑ n : Fin 4, f (sub j n)), Fin.sum_univ_tiles 8 4 rfl f]
  refine Finset.sum_congr rfl fun j _ => Finset.sum_congr rfl fun n _ => ?_
  congr 1
  apply Fin.ext
  show 4 * j.val + n.val = j.val * 4 + n.val
  omega

/-- An array by rows and columns. -/
def table (X : Vec Ideal S4096x1024 .f32) (r : Fin 4096) (q : Fin 1024) : EReal := X (ix2 r q)

section Blocks

variable (x y : Fin 4096 → Fin 1024 → EReal) (X Y : Vec Ideal S512x1024 .f32) (j : Fin 8)

theorem act_block (hX : ∀ n s q, rows X (brow n s) q = x (tok (sub j n) s) q) (n : Fin 4) (s : Fin 128) (q : Fin 512) :
    act (rows X) (brow n s) q = act x (tok (sub j n) s) q := by
  unfold act
  rw [hX]

theorem vv_block (hX : ∀ n s q, rows X (brow n s) q = x (tok (sub j n) s) q) (n : Fin 4) (s : Fin 128) (q : Fin 512) :
    vv (rows X) (brow n s) q = vv x (tok (sub j n) s) q := by
  unfold vv
  simp only [act_block x X j hX]

theorem ds_block (hX : ∀ n s q, rows X (brow n s) q = x (tok (sub j n) s) q)
    (hY : ∀ n s q, rows Y (brow n s) q = y (tok (sub j n) s) q) (n : Fin 4) (s : Fin 128) (q : Fin 512) :
    ds (rows X) (rows Y) (brow n s) q = ds x y (tok (sub j n) s) q := by
  unfold ds
  rw [hX, hY]

theorem dbAdd_block (hX : ∀ n s q, rows X (brow n s) q = x (tok (sub j n) s) q)
    (hY : ∀ n s q, rows Y (brow n s) q = y (tok (sub j n) s) q) (g : Fin 4) (u : Fin 128) :
    dbAdd X Y (ix3 g u 0) = ∑ n : Fin 4, ∑ e : Fin 128, ds x y (tok (sub j n) u) (chan g e) :=
  Finset.sum_congr rfl fun n _ => Finset.sum_congr rfl fun e _ => ds_block x y X Y j hX hY n u (chan g e)

theorem dwAdd_block (gain : Fin 512 → EReal) (G : Vec Ideal S1x512 .f32) (hG : ∀ q, G (ix2 0 q) = gain q)
    (hX : ∀ n s q, rows X (brow n s) q = x (tok (sub j n) s) q)
    (hY : ∀ n s q, rows Y (brow n s) q = y (tok (sub j n) s) q) (g : Fin 4) (u s : Fin 128) :
    dwAdd X Y G (ix3 g u s) = ∑ n : Fin 4, if s.val ≤ u.val then dwTerm x y gain g u s (sub j n) else 0 := by
  refine Finset.sum_congr rfl fun n _ => ?_
  show (if s.val ≤ u.val then _ else _) = _
  split
  · refine Finset.sum_congr rfl fun e _ => ?_
    exact congrArg₂ (fun a b : EReal => a * b) (ds_block x y X Y j hX hY n u (chan g e))
      (congrArg₂ (fun a b : EReal => a * b) (vv_block x X j hX n s (chan g e)) (hG _))
  · rfl

theorem dgSum_block (w : Fin 4 → Fin 128 → Fin 128 → EReal) (W : Vec Ideal S4x128x128 .f32)
    (hW : ∀ g t s, W (ix3 g t s) = w g t s) (hX : ∀ n s q, rows X (brow n s) q = x (tok (sub j n) s) q)
    (hY : ∀ n s q, rows Y (brow n s) q = y (tok (sub j n) s) q) (g : Fin 4) (e : Fin 128) :
    dgSum X Y W g e = ∑ n : Fin 4, dgTerm x y w g e (sub j n) := by
  unfold dgSum dgTerm wm
  simp only [ds_block x y X Y j hX hY, vv_block x X j hX, hW]
  refine Finset.sum_congr rfl fun n _ => Finset.sum_congr rfl fun s _ => ?_
  rw [mul_comm]
  exact congrArg _ (Finset.sum_congr rfl fun t _ => mul_comm _ _)

end Blocks

variable (m : (ℓ : Loc nD τ sig) → Buf (Elt Ideal) ℓ) (c : Dev nD)

/-! ## The blocks the points read -/

theorem idx_blocks : ∀ t : Fin cfg0.N, win0_0.index t = ![4 * (t.val / 4) + 3 - t.val % 4, 0]
    ∧ win0_3.index t = ![4 * (t.val / 4) + 3 - t.val % 4, 0] ∧ win0_4.index t = ![0, 0] ∧ win0_5.index t = ![0, 0, 0] :=
  (by decide +kernel : ∀ t : Fin grid0.N, _)

theorem read_x (t : Fin cfg0.N) (n : Fin 4) (s : Fin 128) (q : Fin 1024) :
    rows (iblk m c 0 t) (brow n s) q = table (m ((c : Thread nD τ).loc main_arg0)) (tok (sub (place t) n) s) q := by
  have ht : t.val < 8 := t.isLt
  unfold rows table brow tok sub place
  blk_ext! [iblk, V, idx_blocks t]

theorem read_y (t : Fin cfg0.N) (n : Fin 4) (s : Fin 128) (q : Fin 1024) :
    rows (iblk m c 3 t) (brow n s) q = table (m ((c : Thread nD τ).loc main_arg2)) (tok (sub (place t) n) s) q := by
  have ht : t.val < 8 := t.isLt
  unfold rows table brow tok sub place
  blk_ext! [iblk, V, idx_blocks t]

theorem read_gain (t : Fin cfg0.N) (q : Fin 512) :
    (iblk m c 4 t : Vec Ideal S1x512 .f32) (ix2 0 q) = m ((c : Thread nD τ).loc main_arg3) (ix2 0 q) := by
  blk_ext! [iblk, V, idx_blocks t]

theorem read_w (t : Fin cfg0.N) (g : Fin 4) (u s : Fin 128) :
    (iblk m c 5 t : Vec Ideal S4x128x128 .f32) (ix3 g u s) = m ((c : Thread nD τ).loc main_arg4) (ix4 0 g u s) := by
  blk_ext! [iblk, V, idx_blocks t]

/-! ## The accumulators after the last point -/

/-- The last point. -/
def last : Fin cfg0.N := ⟨7, by decide⟩

theorem dbs_last (i : S4x128x1.Idx) : (leftAt m c last.val last.isLt).dbs i
    = 0 + ∑ t : Fin cfg0.N, dbAdd (iblk m c 0 t) (iblk m c 3 t) i := by
  refine Pipeline.eq_sum_fin_of_reset_step_last (fun n hn => (leftAt m c n hn).dbs i) 8 (0 : EReal)
    (fun t => dbAdd (iblk m c 0 t) (iblk m c 3 t) i) (fun t h0 => ?_) (fun t h0 => ?_) (by decide) last (by decide)
  · rw [leftAt_A m c t h0 (by omega) (by omega)]
    exact dbs_A m c t h0 _ _ i
  · by_cases h1 : t.val % 4 = 0
    · rw [leftAt_C m c t h0 h1 (by omega)]
      exact dbs_C m c t h0 h1 _ _ i
    · by_cases h2 : t.val % 8 = 7
      · rw [leftAt_D m c t h0 h1 h2]
        exact dbs_D m c t h0 h1 h2 _ i
      · rw [leftAt_B m c t h0 h1 h2]
        exact dbs_B m c t h0 h1 h2 _ i

theorem dws_last (i : S4x128x128.Idx) : (leftAt m c last.val last.isLt).dws i
    = 0 + ∑ t : Fin cfg0.N, dwAdd (iblk m c 0 t) (iblk m c 3 t) (iblk m c 4 t) i := by
  refine Pipeline.eq_sum_fin_of_reset_step_last (fun n hn => (leftAt m c n hn).dws i) 8 (0 : EReal)
    (fun t => dwAdd (iblk m c 0 t) (iblk m c 3 t) (iblk m c 4 t) i) (fun t h0 => ?_) (fun t h0 => ?_) (by decide) last (by decide)
  · rw [leftAt_A m c t h0 (by omega) (by omega)]
    exact dws_A m c t h0 _ _ i
  · by_cases h1 : t.val % 4 = 0
    · rw [leftAt_C m c t h0 h1 (by omega)]
      exact dws_C m c t h0 h1 _ _ i
    · by_cases h2 : t.val % 8 = 7
      · rw [leftAt_D m c t h0 h1 h2]
        exact dws_D m c t h0 h1 h2 _ i
      · rw [leftAt_B m c t h0 h1 h2]
        exact dws_B m c t h0 h1 h2 _ i

theorem dg_last (i : S1x512.Idx) : (leftAt m c last.val last.isLt).dg i
    = 0 + ∑ t : Fin cfg0.N, dgAdd (iblk m c 0 t) (iblk m c 3 t) (iblk m c 5 t) i := by
  refine Pipeline.eq_sum_fin_of_reset_step_last (fun n hn => (leftAt m c n hn).dg i) 8 (0 : EReal)
    (fun t => dgAdd (iblk m c 0 t) (iblk m c 3 t) (iblk m c 5 t) i) (fun t h0 => ?_) (fun t h0 => ?_) (by decide) last (by decide)
  · rw [leftAt_A m c t h0 (by omega) (by omega)]
    exact dg_A m c t h0 _ _ i
  · by_cases h1 : t.val % 4 = 0
    · rw [leftAt_C m c t h0 h1 (by omega)]
      exact dg_C m c t h0 h1 _ _ i
    · by_cases h2 : t.val % 8 = 7
      · rw [leftAt_D m c t h0 h1 h2]
        exact dg_D m c t h0 h1 h2 _ i
      · rw [leftAt_B m c t h0 h1 h2]
        exact dg_B m c t h0 h1 h2 _ i

/-! ## The arrays -/

/-- The arguments as functions. -/
abbrev argX : Fin 4096 → Fin 1024 → EReal := table (m ((c : Thread nD τ).loc main_arg0))
abbrev argY : Fin 4096 → Fin 1024 → EReal := table (m ((c : Thread nD τ).loc main_arg2))
def argGain (q : Fin 512) : EReal := m ((c : Thread nD τ).loc main_arg3) (ix2 0 q)
def argW (g : Fin 4) (t s : Fin 128) : EReal := m ((c : Thread nD τ).loc main_arg4) (ix4 0 g t s)

theorem db_total (g : Fin 4) (u : Fin 128) : (leftAt m c last.val last.isLt).dbs (ix3 g u 0) = db (argX m c) (argY m c) g u := by
  rw [dbs_last, zero_add]
  refine Eq.trans (Finset.sum_congr rfl fun t _ => dbAdd_block (argX m c) (argY m c) _ _ (place t) (read_x m c t) (read_y m c t) g u) ?_
  exact sum_points fun k => ∑ e : Fin 128, ds (argX m c) (argY m c) (tok k u) (chan g e)

theorem dw_total (g : Fin 4) (u s : Fin 128) : (leftAt m c last.val last.isLt).dws (ix3 g u s)
    = dw (argX m c) (argY m c) (argGain m c) g u s := by
  rw [dws_last, zero_add]
  refine Eq.trans (Finset.sum_congr rfl fun t _ => dwAdd_block (argX m c) (argY m c) _ _ (place t) (argGain m c) _
    (read_gain m c t) (read_x m c t) (read_y m c t) g u s) ?_
  refine (sum_points fun k => if s.val ≤ u.val then dwTerm (argX m c) (argY m c) (argGain m c) g u s k else 0).trans ?_
  unfold dw
  split
  · rfl
  · exact Finset.sum_const_zero

theorem dg_total (g : Fin 4) (e : Fin 128) : (leftAt m c last.val last.isLt).dg (ix2 0 (chan g e))
    = dg (argX m c) (argY m c) (argW m c) g e := by
  rw [dg_last, zero_add]
  refine Eq.trans (Finset.sum_congr rfl fun t _ => (dgAdd_chan _ _ _ g e _ rfl).trans
    (dgSum_block (argX m c) (argY m c) _ _ (place t) (argW m c) _ (read_w m c t) (read_x m c t) (read_y m c t) g e)) ?_
  exact sum_points fun k => dgTerm (argX m c) (argY m c) (argW m c) g e k

theorem final_dw : (dats m 0 c).arrAt 12 cfg0.N = (leftAt m c last.val last.isLt).dws := by
  refine (dats m 0 c).arrAt_eq_of_after_last 12 last (by decide +kernel) _ fun j => ?_
  blk_simp
  rw [after_dws]

theorem final_db : (dats m 0 c).arrAt 13 cfg0.N = (leftAt m c last.val last.isLt).dbs := by
  refine (dats m 0 c).arrAt_eq_of_after_last 13 last (by decide +kernel) _ fun j => ?_
  blk_simp
  rw [after_dbs]

theorem final_dg : (dats m 0 c).arrAt 14 cfg0.N = (leftAt m c last.val last.isLt).dg := by
  refine (dats m 0 c).arrAt_eq_of_after_last 14 last (by decide +kernel) _ fun j => ?_
  blk_simp
  rw [after_dg]

end Cert.Sgu
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal
public import proofs.«01_k».proof.Proof.Gen.Reference9Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10Ideal
public import proofs.«01_k».proof.Proof.Gen.Reference10Ideal
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11Ideal
public import proofs.«01_k».proof.Proof.Gen.Reference11Ideal
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12
public import proofs.«01_k».proof.Proof.Gen.Kernel12Ideal
public import proofs.«01_k».proof.Proof.Gen.Reference12Ideal
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13
public import proofs.«01_k».proof.Proof.Gen.Kernel13Ideal
public import proofs.«01_k».proof.Proof.Gen.Reference13Ideal
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14
public import proofs.«01_k».proof.Proof.Gen.Kernel14Ideal
public import proofs.«01_k».proof.Proof.Gen.Reference14Ideal
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15
public import proofs.«01_k».proof.Proof.Gen.Kernel15Ideal
public import proofs.«01_k».proof.Proof.Gen.Reference15Ideal
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16
public import proofs.«01_k».proof.Proof.Gen.Kernel16Ideal
public import proofs.«01_k».proof.Proof.Gen.Reference16Ideal
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17
public import proofs.«01_k».proof.Proof.Gen.Kernel17Ideal
public import proofs.«01_k».proof.Proof.Gen.Reference17Ideal
public import proofs.«01_k».proof.Proof.Gen.Kernel17Ideal.Value
public import proofs.«01_k».proof.Proof.Gen.Reference17Ideal.Run
public import proofs.«01_k».proof.Proof.Gen.Reference17Ideal.Read
public import proofs.«01_k».proof.Proof.MixFrame
public import proofs.«01_k».proof.Proof.DwUp
public import proofs.«01_k».proof.Proof.DwIn
public import proofs.«01_k».proof.Proof.DwBranches
public import proofs.«01_k».proof.Proof.DwDown
public import proofs.«01_k».proof.Proof.DwOut
public import proofs.«01_k».proof.Proof.BwdMidRef
public import proofs.«01_k».proof.Proof.BwdUp
public import proofs.«01_k».proof.Proof.BwdIn
public import proofs.«01_k».proof.Proof.FwdIn
public import proofs.«01_k».proof.Proof.FwdMid
public import proofs.«01_k».proof.Proof.FwdFfn
public import proofs.«01_k».proof.Proof.Adam
public import proofs.«01_k».proof.Proof.SmallSum
public import proofs.«01_k».proof.Proof.SguRef
public import proofs.«01_k».proof.Proof.SguVal
public import Idealize.ShloMosaic.Adequacy
public import Idealize.ShloMosaic.Init
public import Idealize.ShloMosaic.Lib.Claim

@[expose] public section

set_option maxRecDepth 100000

noncomputable section

namespace Cert.Proof

open Idealize.ShloMosaic Idealize.ShloMosaic.TcCoe Idealize.SL.Sem
open Cert.Sgu

/-! ## The frames -/

/-- The frame of the ideal program's text, read over machine words. -/
def FrameBits : Prop :=
  ∀ (m : (ℓ : Loc Cert.KernelIdeal.nD Cert.KernelIdeal.τ Cert.KernelIdeal.sig) → Buf (Elt Bits) ℓ) (ρ : Dev Cert.KernelIdeal.nD → PrngReg), True →
  θ_run Cert.KernelIdeal.defs (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

/-- `Kernel` has the same text, so its frame is that statement. -/
theorem frame_kernel : Cert.quiescent_Kernel :=
  (show FrameBits = Cert.quiescent_Kernel by sl_kernel_rfl) ▸ (fun m ρ _ => Cert.KernelIdeal.Mix.frame (F := Bits) m ρ)

theorem frame_ideal : Cert.quiescent_KernelIdeal := fun m ρ _ => Cert.KernelIdeal.Mix.frame m ρ

theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run m ρ)

/-! ## The values -/

section Values

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two memories hold the same four arrays the gradients read. -/
def Same : Prop :=
  m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)

variable {m m' c}

theorem dw_agrees (h : Same m m' c) : Cert.ReferenceIdeal.Value.res_main_v72 m' c = (Cert.KernelIdeal.Mix.dats m 0 c).arrAt 12 Cert.KernelIdeal.cfg0.N := by
  rw [final_dw]
  funext i
  idx_vars i
  refine (dw_ref m' c i0 i1 i2).trans (Eq.trans ?_ (dw_total m c i0 i1 i2).symm)
  rw [h.1, h.2.1, h.2.2.1]
  rfl

theorem db_agrees (h : Same m m' c) : dbT (dsT (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg2)))
    = (Cert.KernelIdeal.Mix.dats m 0 c).arrAt 13 Cert.KernelIdeal.cfg0.N := by
  rw [final_db]
  funext i
  idx_vars i
  obtain rfl : i2 = 0 := Subsingleton.elim _ _
  refine (db_ref m' c i0 i1 _ rfl).trans (Eq.trans ?_ (db_total m c i0 i1).symm)
  rw [h.1, h.2.1]
  rfl

theorem dg_agrees (h : Same m m' c) : Cert.ReferenceIdeal.Value.res_main_v79 m' c = (Cert.KernelIdeal.Mix.dats m 0 c).arrAt 14 Cert.KernelIdeal.cfg0.N := by
  rw [final_dg]
  funext i
  idx_vars i
  obtain rfl : i0 = 0 := Subsingleton.elim _ _
  have hi : i1 = chan ⟨i1.val / 128, by omega⟩ ⟨i1.val % 128, by omega⟩ := Fin.ext (by simp only [chan]; omega)
  rw [hi]
  refine (dg_ref m' c _ _).trans (Eq.trans ?_ (dg_total m c _ _).symm)
  rw [h.1, h.2.1, h.2.2.2]
  rfl

end Values

theorem values : Cert.algebraic_KernelIdeal_ReferenceIdeal := by
  intro m g m' g' _ hargs
  refine ⟨fun c => (Cert.KernelIdeal.Mix.dats m 0 c).arrAt 12 Cert.KernelIdeal.cfg0.N,
    fun c => (Cert.KernelIdeal.Mix.dats m 0 c).arrAt 13 Cert.KernelIdeal.cfg0.N,
    fun c => (Cert.KernelIdeal.Mix.dats m 0 c).arrAt 14 Cert.KernelIdeal.cfg0.N, ?_, ?_⟩
  · exact (θ_run Cert.KernelIdeal.defs _ _).mono (fun r h c => ⟨(h.1 c).1 12, (h.1 c).1 13, (h.1 c).1 14, h.2.1 c⟩)
      (θ_run_and (Cert.KernelIdeal.Mix.run_main m g) (Cert.KernelIdeal.Mix.frame m g))
  · refine (θ_run Cert.ReferenceIdeal.defs _ _).mono (fun r h c => ?_) (Cert.ReferenceIdeal.Value.run m' g')
    have hs : Same m m' c := ⟨(hargs c).1, (hargs c).2.2.1, (hargs c).2.2.2.1, (hargs c).2.2.2.2.1⟩
    exact ⟨(h c).1.trans (dw_agrees hs), (h c).2.1.trans (db_agrees hs), (h c).2.2.1.trans (dg_agrees hs), (h c).2.2.2⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  frame_kernel, frame_ideal, frame_reference,
  Cert.BwdMid.frame_words, Cert.BwdMid.frame, Cert.BwdMid.frame_reference,
  Cert.DwUp.frame_words, Cert.DwUp.frame, Cert.DwUp.frame_reference,
  Cert.DwIn.frame_words, Cert.DwIn.frame, Cert.DwIn.frame_reference,
  Cert.DwBranches.frame_words, Cert.DwBranches.frame, Cert.DwBranches.frame_reference,
  Cert.DwDown.frame_words, Cert.DwDown.frame, Cert.DwDown.frame_reference,
  Cert.DwOut.frame_words, Cert.DwOut.frame, Cert.DwOut.frame_reference,
  Cert.BwdUp.frame_words, Cert.BwdUp.frame, Cert.BwdUp.frame_reference,
  Cert.BwdIn.frame_words, Cert.BwdIn.frame, Cert.BwdIn.frame_reference,
  Cert.FwdIn.frame_words, Cert.FwdIn.frame, Cert.FwdIn.frame_reference,
  Cert.FwdMid.frame_words, Cert.FwdMid.frame, Cert.FwdMid.frame_reference,
  Cert.FwdFfn.frame_words, Cert.FwdFfn.frame, Cert.FwdFfn.frame_reference,
  Cert.AdamUp.frame_words, Cert.AdamUp.frame, Cert.AdamUp.frame_reference,
  Cert.AdamDown.frame_words, Cert.AdamDown.frame, Cert.AdamDown.frame_reference,
  Cert.AdamOut.frame_words, Cert.AdamOut.frame, Cert.AdamOut.frame_reference,
  Cert.AdamBranch.frame_words, Cert.AdamBranch.frame, Cert.AdamBranch.frame_reference,
  Cert.SmallSum.frame_words, Cert.SmallSum.frame, Cert.SmallSum.frame_reference,
  trivial, values,
  trivial, Cert.BwdMid.values,
  trivial, Cert.DwUp.values,
  trivial, Cert.DwIn.values,
  trivial, Cert.DwBranches.values,
  trivial, Cert.DwDown.values,
  trivial, Cert.DwOut.values,
  trivial, Cert.BwdUp.values,
  trivial, Cert.BwdIn.values, trivial, Cert.FwdIn.values, trivial, Cert.FwdMid.values, trivial, Cert.FwdFfn.values,
  trivial, Cert.AdamUp.values, trivial, Cert.AdamDown.values, trivial, Cert.AdamOut.values, trivial, Cert.AdamBranch.values, trivial, Cert.SmallSum.values⟩

end Cert.Proof

end
